-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite_KernelIdeal [hPre_inputs_finite_KernelIdeal : Cert.Pre_inputs_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_inputs_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_inputs_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite_ReferenceIdeal [hPre_inputs_finite_ReferenceIdeal : Cert.Pre_inputs_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_inputs_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_inputs_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_finite_KernelIdeal [hKernelIdeal : Cert.KernelIdeal.Facts] [hPre_inputs_finite_KernelIdeal : Cert.Pre_inputs_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_finite_ReferenceIdeal [hReferenceIdeal : Cert.ReferenceIdeal.Facts] [hPre_inputs_finite_ReferenceIdeal : Cert.Pre_inputs_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_inputs_finite_KernelIdeal [hKernelIdeal : Cert.KernelIdeal.Facts] [hReferenceIdeal : Cert.ReferenceIdeal.Facts] [hPre_inputs_finite_KernelIdeal : Cert.Pre_inputs_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_inputs_finite_KernelIdeal : Cert.Pre_inputs_finite_KernelIdeal.Facts) (hPre_inputs_finite_ReferenceIdeal : Cert.Pre_inputs_finite_ReferenceIdeal.Facts),
    quiescent_Kernel (hKernel := hKernel)
    ∧ quiescent_KernelIdeal (hKernelIdeal := hKernelIdeal)
    ∧ quiescent_KernelIdeal_pre_inputs_finite_KernelIdeal (hKernelIdeal := hKernelIdeal) (hPre_inputs_finite_KernelIdeal := hPre_inputs_finite_KernelIdeal)
    ∧ quiescent_ReferenceIdeal (hReferenceIdeal := hReferenceIdeal)
    ∧ quiescent_ReferenceIdeal_pre_inputs_finite_ReferenceIdeal (hReferenceIdeal := hReferenceIdeal) (hPre_inputs_finite_ReferenceIdeal := hPre_inputs_finite_ReferenceIdeal)
    ∧ preserves_Kernel_KernelIdeal
    ∧ algebraic_KernelIdeal_ReferenceIdeal_pre_inputs_finite_KernelIdeal (hKernelIdeal := hKernelIdeal) (hReferenceIdeal := hReferenceIdeal) (hPre_inputs_finite_KernelIdeal := hPre_inputs_finite_KernelIdeal)
-- ==== Pre_inputs_finite_KernelIdeal.lean ====
abbrev S256x1024 : Shape := ⟨2, ![256, 1024]⟩
abbrev S1024x1024 : Shape := ⟨2, ![1024, 1024]⟩
abbrev S1x4096x128x128 : Shape := ⟨4, ![1, 4096, 128, 128]⟩
abbrev S_ : Shape := ⟨0, ![]⟩

class Facts : Prop where
  bcast_S_S256x1024 : S_.BroadcastsInDim S256x1024 (![] : Fin 0 → Fin S256x1024.rank)
  bcast_S_S1024x1024 : S_.BroadcastsInDim S1024x1024 (![] : Fin 0 → Fin S1024x1024.rank)
  bcast_S_S1x4096x128x128 : S_.BroadcastsInDim S1x4096x128x128 (![] : Fin 0 → Fin S1x4096x128x128.rank)

variable [Facts]

def fn {F : FTy → Type} [FloatOps F] (main_arg0 : FVec F S256x1024 .f32) (main_arg1 : FVec F S1024x1024 .f32) (main_arg2 : FVec F S1x4096x128x128 .f32) (main_arg3 : FVec F S1x4096x128x128 .f32) (main_arg4 : FVec F S1024x1024 .f32) : IVec S256x1024 1 × IVec S1024x1024 1 × IVec S1x4096x128x128 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x4096x128x128 .f32 := Host.absf main_arg2
  let main_cst_1 : FVec F S_ .f32 := constant S_ .f32 0x7F800000#32
  let main_v7 : FVec F S1x4096x128x128 .f32 := broadcastInDim S1x4096x128x128 ![] bcast_S_S1x4096x128x128 main_cst_1
  let main_v8 : IVec S1x4096x128x128 1 := cmpf .olt main_v6 main_v7
  (main_v2, main_v5, main_v8)
-- ==== Pre_inputs_finite_ReferenceIdeal.lean ====
abbrev S256x1024 : Shape := ⟨2, ![256, 1024]⟩
abbrev S1024x16384 : Shape := ⟨2, ![1024, 16384]⟩
abbrev S1x4096x128x128 : Shape := ⟨4, ![1, 4096, 128, 128]⟩
abbrev S16384x1024 : Shape := ⟨2, ![16384, 1024]⟩
abbrev S_ : Shape := ⟨0, ![]⟩

class Facts : Prop where
  bcast_S_S256x1024 : S_.BroadcastsInDim S256x1024 (![] : Fin 0 → Fin S256x1024.rank)
  bcast_S_S1024x16384 : S_.BroadcastsInDim S1024x16384 (![] : Fin 0 → Fin S1024x16384.rank)
  bcast_S_S1x4096x128x128 : S_.BroadcastsInDim S1x4096x128x128 (![] : Fin 0 → Fin S1x4096x128x128.rank)

variable [Facts]

def fn {F : FTy → Type} [FloatOps F] (main_arg0 : FVec F S256x1024 .f32) (main_arg1 : FVec F S1024x16384 .f32) (main_arg2 : FVec F S1x4096x128x128 .f32) (main_arg3 : FVec F S1x4096x128x128 .f32) (main_arg4 : FVec F S16384x1024 .f32) : IVec S256x1024 1 × IVec S1024x16384 1 × IVec S1x4096x128x128 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_v3 : FVec F S1024x16384 .f32 := Host.absf main_arg1
  let main_cst_0 : FVec F S_ .f32 := constant S_ .f32 0x7F800000#32
  let main_v4 : FVec F S1024x16384 .f32 := broadcastInDim S1024x16384 ![] bcast_S_S1024x16384 main_cst_0
  let main_v5 : IVec S1024x16384 1 := cmpf .olt main_v3 main_v4
  let main_v6 : FVec F S1x4096x128x128 .f32 := Host.absf main_arg2
  let main_cst_1 : FVec F S_ .f32 := constant S_ .f32 0x7F800000#32
  let main_v7 : FVec F S1x4096x128x128 .f32 := broadcastInDim S1x4096x128x128 ![] bcast_S_S1x4096x128x128 main_cst_1
  let main_v8 : IVec S1x4096x128x128 1 := cmpf .olt main_v6 main_v7
  (main_v2, main_v5, main_v8)
-- ==== Kernel.lean ====
abbrev S256x1024 : Shape := ⟨2, ![256, 1024]⟩
abbrev S1024x1024 : Shape := ⟨2, ![1024, 1024]⟩
abbrev S1x4096x128x128 : Shape := ⟨4, ![1, 4096, 128, 128]⟩
abbrev S256x4096 : Shape := ⟨2, ![256, 4096]⟩
abbrev S4096x1024 : Shape := ⟨2, ![4096, 1024]⟩
abbrev S16x16x1024 : Shape := ⟨3, ![16, 16, 1024]⟩
abbrev S2x8 : Shape := ⟨2, ![2, 8]⟩
abbrev S16 : Shape := ⟨1, ![16]⟩
abbrev S15 : Shape := ⟨1, ![15]⟩
abbrev S_ : Shape := ⟨0, ![]⟩
abbrev S1x1 : Shape := ⟨2, ![1, 1]⟩
abbrev S4096x128 : Shape := ⟨2, ![4096, 128]⟩
abbrev S1x4096x1x128 : Shape := ⟨4, ![1, 4096, 1, 128]⟩
abbrev S128x128 : Shape := ⟨2, ![128, 128]⟩
abbrev S128x4096 : Shape := ⟨2, ![128, 4096]⟩
abbrev S128 : Shape := ⟨1, ![128]⟩
abbrev S128x1 : Shape := ⟨2, ![128, 1]⟩
abbrev S128x1024 : Shape := ⟨2, ![128, 1024]⟩
abbrev S1 : Shape := ⟨1, ![1]⟩
abbrev S1x16x1024 : Shape := ⟨3, ![1, 16, 1024]⟩
abbrev S16x1024 : Shape := ⟨2, ![16, 1024]⟩

abbrev nBuf : Space → Nat
  | .hbm => 6
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1x4096x128x128, .f32⟩
  | .hbm, ⟨3, _⟩ => ⟨S1x4096x128x128, .f32⟩
  | .hbm, ⟨4, _⟩ => ⟨S1024x1024, .f32⟩
  | .hbm, ⟨5, _⟩ => ⟨S256x1024, .f32⟩
  | .local _ .vmem, ⟨0, _⟩ => ⟨S256x1024, .f32⟩
  | .local _ .vmem, ⟨1, _⟩ => ⟨S1024x1024, .f32⟩
  | .local _ .vmem, ⟨2, _⟩ => ⟨S1024x1024, .f32⟩
  | .local _ .vmem, ⟨3, _⟩ => ⟨S256x1024, .f32⟩
  | .local _ .vmem, ⟨4, _⟩ => ⟨S256x1024, .f32⟩
  | .local _ .vmem, ⟨5, _⟩ => ⟨S256x4096, .f32⟩
  | .local _ .vmem, ⟨6, _⟩ => ⟨S256x1024, .f32⟩
  | .local _ .vmem, ⟨7, _⟩ => ⟨S4096x1024, .f32⟩
  | .local _ .vmem, ⟨8, _⟩ => ⟨S4096x1024, .f32⟩
  | .local _ .vmem, ⟨9, _⟩ => ⟨S16x16x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  (ofTc nBuf bufTy 1 83 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c0_i32_62 : BitVec 32) : Fin 4 → Nat :=
  let c0_i32_63 : BitVec 32 := 0#32
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_61 : BitVec 32 := 8#32
  let v64 : BitVec 32 := Scalar.muli v2 c8_i32_61
  let v65 : BitVec 32 := Scalar.addi v64 c0_i32_62
  let c0_i32_69 : BitVec 32 := 0#32
  ![0, 0, v65.toNat, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_455 : BitVec 32 := 0#32
  let v523 : BitVec 1 := Scalar.cmpi .ne v2 c0_i32_455
  let v524 : BitVec 32 := Scalar.extui v523
  let c0_i32_456 : BitVec 32 := 0#32
  let v525 : BitVec 1 := Scalar.cmpi .ne v524 c0_i32_456
  v525

def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_dev16 : Nat :=
  let c0_i32_1147 : BitVec 32 := 0#32
  let c0_i32_1145 : BitVec 32 := 0#32
  let c1_i32_1146 : BitVec 32 := 1#32
  let v1416 : BitVec 32 := Scalar.muli c0_i32_1145 c1_i32_1146
  let v1417 : BitVec 32 := Scalar.addi c0_i32_1147 v1416
  v1417.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_457 : BitVec 32 := 1#32
  let v526 : BitVec 1 := Scalar.cmpi .ne v2 c1_i32_457
  let v527 : BitVec 32 := Scalar.extui v526
  let c0_i32_458 : BitVec 32 := 0#32
  let v528 : BitVec 1 := Scalar.cmpi .ne v527 c0_i32_458
  v528

def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_dev17 : Nat :=
  let c0_i32_1147 : BitVec 32 := 0#32
  let c1_i32_1145 : BitVec 32 := 1#32
  let c1_i32_1146 : BitVec 32 := 1#32
  let v1416 : BitVec 32 := Scalar.muli c1_i32_1145 c1_i32_1146
  let v1417 : BitVec 32 := Scalar.addi c0_i32_1147 v1416
  v1417.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_459 : BitVec 32 := 2#32
  let v529 : BitVec 1 := Scalar.cmpi .ne v2 c2_i32_459
  let v530 : BitVec 32 := Scalar.extui v529
  let c0_i32_460 : BitVec 32 := 0#32
  let v531 : BitVec 1 := Scalar.cmpi .ne v530 c0_i32_460
  v531

def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_dev18 : Nat :=
  let c0_i32_1147 : BitVec 32 := 0#32
  let c2_i32_1145 : BitVec 32 := 2#32
  let c1_i32_1146 : BitVec 32 := 1#32
  let v1416 : BitVec 32 := Scalar.muli c2_i32_1145 c1_i32_1146
  let v1417 : BitVec 32 := Scalar.addi c0_i32_1147 v1416
  v1417.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_461 : BitVec 32 := 3#32
  let v532 : BitVec 1 := Scalar.cmpi .ne v2 c3_i32_461
  let v533 : BitVec 32 := Scalar.extui v532
  let c0_i32_462 : BitVec 32 := 0#32
  let v534 : BitVec 1 := Scalar.cmpi .ne v533 c0_i32_462
  v534

def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_dev19 : Nat :=
  let c0_i32_1147 : BitVec 32 := 0#32
  let c3_i32_1145 : BitVec 32 := 3#32
  let c1_i32_1146 : BitVec 32 := 1#32
  let v1416 : BitVec 32 := Scalar.muli c3_i32_1145 c1_i32_1146
  let v1417 : BitVec 32 := Scalar.addi c0_i32_1147 v1416
  v1417.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_463 : BitVec 32 := 4#32
  let v535 : BitVec 1 := Scalar.cmpi .ne v2 c4_i32_463
  let v536 : BitVec 32 := Scalar.extui v535
  let c0_i32_464 : BitVec 32 := 0#32
  let v537 : BitVec 1 := Scalar.cmpi .ne v536 c0_i32_464
  v537

def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_dev20 : Nat :=
  let c0_i32_1147 : BitVec 32 := 0#32
  let c4_i32_1145 : BitVec 32 := 4#32
  let c1_i32_1146 : BitVec 32 := 1#32
  let v1416 : BitVec 32 := Scalar.muli c4_i32_1145 c1_i32_1146
  let v1417 : BitVec 32 := Scalar.addi c0_i32_1147 v1416
  v1417.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_465 : BitVec 32 := 5#32
  let v538 : BitVec 1 := Scalar.cmpi .ne v2 c5_i32_465
  let v539 : BitVec 32 := Scalar.extui v538
  let c0_i32_466 : BitVec 32 := 0#32
  let v540 : BitVec 1 := Scalar.cmpi .ne v539 c0_i32_466
  v540

def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_dev21 : Nat :=
  let c0_i32_1147 : BitVec 32 := 0#32
  let c5_i32_1145 : BitVec 32 := 5#32
  let c1_i32_1146 : BitVec 32 := 1#32
  let v1416 : BitVec 32 := Scalar.muli c5_i32_1145 c1_i32_1146
  let v1417 : BitVec 32 := Scalar.addi c0_i32_1147 v1416
  v1417.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_467 : BitVec 32 := 6#32
  let v541 : BitVec 1 := Scalar.cmpi .ne v2 c6_i32_467
  let v542 : BitVec 32 := Scalar.extui v541
  let c0_i32_468 : BitVec 32 := 0#32
  let v543 : BitVec 1 := Scalar.cmpi .ne v542 c0_i32_468
  v543

def k0_off14 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_dev22 : Nat :=
  let c0_i32_1147 : BitVec 32 := 0#32
  let c6_i32_1145 : BitVec 32 := 6#32
  let c1_i32_1146 : BitVec 32 := 1#32
  let v1416 : BitVec 32 := Scalar.muli c6_i32_1145 c1_i32_1146
  let v1417 : BitVec 32 := Scalar.addi c0_i32_1147 v1416
  v1417.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_469 : BitVec 32 := 7#32
  let v544 : BitVec 1 := Scalar.cmpi .ne v2 c7_i32_469
  let v545 : BitVec 32 := Scalar.extui v544
  let c0_i32_470 : BitVec 32 := 0#32
  let v546 : BitVec 1 := Scalar.cmpi .ne v545 c0_i32_470
  v546

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_dev23 : Nat :=
  let c0_i32_1147 : BitVec 32 := 0#32
  let c7_i32_1145 : BitVec 32 := 7#32
  let c1_i32_1146 : BitVec 32 := 1#32
  let v1416 : BitVec 32 := Scalar.muli c7_i32_1145 c1_i32_1146
  let v1417 : BitVec 32 := Scalar.addi c0_i32_1147 v1416
  v1417.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_598 : BitVec 32 := 8#32
  let v738 : BitVec 1 := Scalar.cmpi .ne v2 c8_i32_598
  let v739 : BitVec 32 := Scalar.extui v738
  let c0_i32_599 : BitVec 32 := 0#32
  let v740 : BitVec 1 := Scalar.cmpi .ne v739 c0_i32_599
  v740

def k0_off18 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off19 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_dev24 : Nat :=
  let c0_i32_1147 : BitVec 32 := 0#32
  let c8_i32_1145 : BitVec 32 := 8#32
  let c1_i32_1146 : BitVec 32 := 1#32
  let v1416 : BitVec 32 := Scalar.muli c8_i32_1145 c1_i32_1146
  let v1417 : BitVec 32 := Scalar.addi c0_i32_1147 v1416
  v1417.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_600 : BitVec 32 := 9#32
  let v741 : BitVec 1 := Scalar.cmpi .ne v2 c9_i32_600
  let v742 : BitVec 32 := Scalar.extui v741
  let c0_i32_601 : BitVec 32 := 0#32
  let v743 : BitVec 1 := Scalar.cmpi .ne v742 c0_i32_601
  v743

def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_dev25 : Nat :=
  let c0_i32_1147 : BitVec 32 := 0#32
  let c9_i32_1145 : BitVec 32 := 9#32
  let c1_i32_1146 : BitVec 32 := 1#32
  let v1416 : BitVec 32 := Scalar.muli c9_i32_1145 c1_i32_1146
  let v1417 : BitVec 32 := Scalar.addi c0_i32_1147 v1416
  v1417.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_602 : BitVec 32 := 10#32
  let v744 : BitVec 1 := Scalar.cmpi .ne v2 c10_i32_602
  let v745 : BitVec 32 := Scalar.extui v744
  let c0_i32_603 : BitVec 32 := 0#32
  let v746 : BitVec 1 := Scalar.cmpi .ne v745 c0_i32_603
  v746

def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_dev26 : Nat :=
  let c0_i32_1147 : BitVec 32 := 0#32
  let c10_i32_1145 : BitVec 32 := 10#32
  let c1_i32_1146 : BitVec 32 := 1#32
  let v1416 : BitVec 32 := Scalar.muli c10_i32_1145 c1_i32_1146
  let v1417 : BitVec 32 := Scalar.addi c0_i32_1147 v1416
  v1417.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_604 : BitVec 32 := 11#32
  let v747 : BitVec 1 := Scalar.cmpi .ne v2 c11_i32_604
  let v748 : BitVec 32 := Scalar.extui v747
  let c0_i32_605 : BitVec 32 := 0#32
  let v749 : BitVec 1 := Scalar.cmpi .ne v748 c0_i32_605
  v749

def k0_off24 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_dev27 : Nat :=
  let c0_i32_1147 : BitVec 32 := 0#32
  let c11_i32_1145 : BitVec 32 := 11#32
  let c1_i32_1146 : BitVec 32 := 1#32
  let v1416 : BitVec 32 := Scalar.muli c11_i32_1145 c1_i32_1146
  let v1417 : BitVec 32 := Scalar.addi c0_i32_1147 v1416
  v1417.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_606 : BitVec 32 := 12#32
  let v750 : BitVec 1 := Scalar.cmpi .ne v2 c12_i32_606
  let v751 : BitVec 32 := Scalar.extui v750
  let c0_i32_607 : BitVec 32 := 0#32
  let v752 : BitVec 1 := Scalar.cmpi .ne v751 c0_i32_607
  v752

def k0_off26 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_dev28 : Nat :=
  let c0_i32_1147 : BitVec 32 := 0#32
  let c12_i32_1145 : BitVec 32 := 12#32
  let c1_i32_1146 : BitVec 32 := 1#32
  let v1416 : BitVec 32 := Scalar.muli c12_i32_1145 c1_i32_1146
  let v1417 : BitVec 32 := Scalar.addi c0_i32_1147 v1416
  v1417.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_608 : BitVec 32 := 13#32
  let v753 : BitVec 1 := Scalar.cmpi .ne v2 c13_i32_608
  let v754 : BitVec 32 := Scalar.extui v753
  let c0_i32_609 : BitVec 32 := 0#32
  let v755 : BitVec 1 := Scalar.cmpi .ne v754 c0_i32_609
  v755

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_dev29 : Nat :=
  let c0_i32_1147 : BitVec 32 := 0#32
  let c13_i32_1145 : BitVec 32 := 13#32
  let c1_i32_1146 : BitVec 32 := 1#32
  let v1416 : BitVec 32 := Scalar.muli c13_i32_1145 c1_i32_1146
  let v1417 : BitVec 32 := Scalar.addi c0_i32_1147 v1416
  v1417.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_610 : BitVec 32 := 14#32
  let v756 : BitVec 1 := Scalar.cmpi .ne v2 c14_i32_610
  let v757 : BitVec 32 := Scalar.extui v756
  let c0_i32_611 : BitVec 32 := 0#32
  let v758 : BitVec 1 := Scalar.cmpi .ne v757 c0_i32_611
  v758

def k0_off30 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_dev30 : Nat :=
  let c0_i32_1147 : BitVec 32 := 0#32
  let c14_i32_1145 : BitVec 32 := 14#32
  let c1_i32_1146 : BitVec 32 := 1#32
  let v1416 : BitVec 32 := Scalar.muli c14_i32_1145 c1_i32_1146
  let v1417 : BitVec 32 := Scalar.addi c0_i32_1147 v1416
  v1417.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_612 : BitVec 32 := 15#32
  let v759 : BitVec 1 := Scalar.cmpi .ne v2 c15_i32_612
  let v760 : BitVec 32 := Scalar.extui v759
  let c0_i32_613 : BitVec 32 := 0#32
  let v761 : BitVec 1 := Scalar.cmpi .ne v760 c0_i32_613
  v761

def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_dev31 : Nat :=
  let c0_i32_1147 : BitVec 32 := 0#32
  let c15_i32_1145 : BitVec 32 := 15#32
  let c1_i32_1146 : BitVec 32 := 1#32
  let v1416 : BitVec 32 := Scalar.muli c15_i32_1145 c1_i32_1146
  let v1417 : BitVec 32 := Scalar.addi c0_i32_1147 v1416
  v1417.toNat
def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_614 : BitVec 32 := 16#32
  let v762 : BitVec 32 := Scalar.muli v2 c16_i32_614
  let v763 : Index := Scalar.indexCast v762
  let c0_615 : Index := 0#32
  ![v763.toNat, 0]
def k0_off35 (d0 : Dev nD) (c1_i32_616 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v766 : BitVec 32 := Scalar.subi v2 c1_i32_616
  let c16_i32_617 : BitVec 32 := 16#32
  let v767 : BitVec 32 := Scalar.addi v766 c16_i32_617
  let c16_i32_618 : BitVec 32 := 16#32
  let v768 : BitVec 32 := Scalar.remsi v767 c16_i32_618
  ![v768.toNat]
def k0_off36 (d0 : Dev nD) (c1_i32_616 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v766 : BitVec 32 := Scalar.subi v2 c1_i32_616
  let c16_i32_617 : BitVec 32 := 16#32
  let v767 : BitVec 32 := Scalar.addi v766 c16_i32_617
  let c16_i32_618 : BitVec 32 := 16#32
  let v768 : BitVec 32 := Scalar.remsi v767 c16_i32_618
  let c0_i32_622 : BitVec 32 := 0#32
  let c0_i32_623 : BitVec 32 := 0#32
  ![v768.toNat, 0, 0]
def k0_off37 (d0 : Dev nD) (c1_i32_616 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v766 : BitVec 32 := Scalar.subi v2 c1_i32_616
  let c16_i32_617 : BitVec 32 := 16#32
  let v767 : BitVec 32 := Scalar.addi v766 c16_i32_617
  let c16_i32_618 : BitVec 32 := 16#32
  let v768 : BitVec 32 := Scalar.remsi v767 c16_i32_618
  let v777 : Index := Scalar.indexCast v768
  let c0_626 : Index := 0#32
  let c0_627 : Index := 0#32
  ![v777.toNat, 0, 0]
def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_614 : BitVec 32 := 16#32
  let v762 : BitVec 32 := Scalar.muli v2 c16_i32_614
  let c0_i32_802 : BitVec 32 := 0#32
  ![v762.toNat, 0]
def k0_dev32 (d0 : Dev nD) : Nat :=
  let c0_i32_801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_797 : BitVec 32 := 1#32
  let v993 : BitVec 32 := Scalar.addi v2 c1_i32_797
  let c16_i32_798 : BitVec 32 := 16#32
  let v994 : BitVec 32 := Scalar.remsi v993 c16_i32_798
  let c1_i32_800 : BitVec 32 := 1#32
  let v995 : BitVec 32 := Scalar.muli v994 c1_i32_800
  let v996 : BitVec 32 := Scalar.addi c0_i32_801 v995
  v996.toNat
def k0_dev33 (d0 : Dev nD) : Nat :=
  let c0_i32_808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_804 : BitVec 32 := 2#32
  let v1003 : BitVec 32 := Scalar.addi v2 c2_i32_804
  let c16_i32_805 : BitVec 32 := 16#32
  let v1004 : BitVec 32 := Scalar.remsi v1003 c16_i32_805
  let c1_i32_807 : BitVec 32 := 1#32
  let v1005 : BitVec 32 := Scalar.muli v1004 c1_i32_807
  let v1006 : BitVec 32 := Scalar.addi c0_i32_808 v1005
  v1006.toNat
def k0_dev34 (d0 : Dev nD) : Nat :=
  let c0_i32_815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_811 : BitVec 32 := 3#32
  let v1013 : BitVec 32 := Scalar.addi v2 c3_i32_811
  let c16_i32_812 : BitVec 32 := 16#32
  let v1014 : BitVec 32 := Scalar.remsi v1013 c16_i32_812
  let c1_i32_814 : BitVec 32 := 1#32
  let v1015 : BitVec 32 := Scalar.muli v1014 c1_i32_814
  let v1016 : BitVec 32 := Scalar.addi c0_i32_815 v1015
  v1016.toNat
def k0_dev35 (d0 : Dev nD) : Nat :=
  let c0_i32_822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_818 : BitVec 32 := 4#32
  let v1023 : BitVec 32 := Scalar.addi v2 c4_i32_818
  let c16_i32_819 : BitVec 32 := 16#32
  let v1024 : BitVec 32 := Scalar.remsi v1023 c16_i32_819
  let c1_i32_821 : BitVec 32 := 1#32
  let v1025 : BitVec 32 := Scalar.muli v1024 c1_i32_821
  let v1026 : BitVec 32 := Scalar.addi c0_i32_822 v1025
  v1026.toNat
def k0_dev36 (d0 : Dev nD) : Nat :=
  let c0_i32_829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_825 : BitVec 32 := 5#32
  let v1033 : BitVec 32 := Scalar.addi v2 c5_i32_825
  let c16_i32_826 : BitVec 32 := 16#32
  let v1034 : BitVec 32 := Scalar.remsi v1033 c16_i32_826
  let c1_i32_828 : BitVec 32 := 1#32
  let v1035 : BitVec 32 := Scalar.muli v1034 c1_i32_828
  let v1036 : BitVec 32 := Scalar.addi c0_i32_829 v1035
  v1036.toNat
def k0_dev37 (d0 : Dev nD) : Nat :=
  let c0_i32_836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_832 : BitVec 32 := 6#32
  let v1043 : BitVec 32 := Scalar.addi v2 c6_i32_832
  let c16_i32_833 : BitVec 32 := 16#32
  let v1044 : BitVec 32 := Scalar.remsi v1043 c16_i32_833
  let c1_i32_835 : BitVec 32 := 1#32
  let v1045 : BitVec 32 := Scalar.muli v1044 c1_i32_835
  let v1046 : BitVec 32 := Scalar.addi c0_i32_836 v1045
  v1046.toNat
def k0_dev38 (d0 : Dev nD) : Nat :=
  let c0_i32_843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_839 : BitVec 32 := 7#32
  let v1053 : BitVec 32 := Scalar.addi v2 c7_i32_839
  let c16_i32_840 : BitVec 32 := 16#32
  let v1054 : BitVec 32 := Scalar.remsi v1053 c16_i32_840
  let c1_i32_842 : BitVec 32 := 1#32
  let v1055 : BitVec 32 := Scalar.muli v1054 c1_i32_842
  let v1056 : BitVec 32 := Scalar.addi c0_i32_843 v1055
  v1056.toNat
def k0_dev39 (d0 : Dev nD) : Nat :=
  let c0_i32_850 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_846 : BitVec 32 := 8#32
  let v1063 : BitVec 32 := Scalar.addi v2 c8_i32_846
  let c16_i32_847 : BitVec 32 := 16#32
  let v1064 : BitVec 32 := Scalar.remsi v1063 c16_i32_847
  let c1_i32_849 : BitVec 32 := 1#32
  let v1065 : BitVec 32 := Scalar.muli v1064 c1_i32_849
  let v1066 : BitVec 32 := Scalar.addi c0_i32_850 v1065
  v1066.toNat
def k0_dev40 (d0 : Dev nD) : Nat :=
  let c0_i32_857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_853 : BitVec 32 := 9#32
  let v1073 : BitVec 32 := Scalar.addi v2 c9_i32_853
  let c16_i32_854 : BitVec 32 := 16#32
  let v1074 : BitVec 32 := Scalar.remsi v1073 c16_i32_854
  let c1_i32_856 : BitVec 32 := 1#32
  let v1075 : BitVec 32 := Scalar.muli v1074 c1_i32_856
  let v1076 : BitVec 32 := Scalar.addi c0_i32_857 v1075
  v1076.toNat
def k0_dev41 (d0 : Dev nD) : Nat :=
  let c0_i32_864 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_860 : BitVec 32 := 10#32
  let v1083 : BitVec 32 := Scalar.addi v2 c10_i32_860
  let c16_i32_861 : BitVec 32 := 16#32
  let v1084 : BitVec 32 := Scalar.remsi v1083 c16_i32_861
  let c1_i32_863 : BitVec 32 := 1#32
  let v1085 : BitVec 32 := Scalar.muli v1084 c1_i32_863
  let v1086 : BitVec 32 := Scalar.addi c0_i32_864 v1085
  v1086.toNat
def k0_dev42 (d0 : Dev nD) : Nat :=
  let c0_i32_871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_867 : BitVec 32 := 11#32
  let v1093 : BitVec 32 := Scalar.addi v2 c11_i32_867
  let c16_i32_868 : BitVec 32 := 16#32
  let v1094 : BitVec 32 := Scalar.remsi v1093 c16_i32_868
  let c1_i32_870 : BitVec 32 := 1#32
  let v1095 : BitVec 32 := Scalar.muli v1094 c1_i32_870
  let v1096 : BitVec 32 := Scalar.addi c0_i32_871 v1095
  v1096.toNat
def k0_dev43 (d0 : Dev nD) : Nat :=
  let c0_i32_878 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_874 : BitVec 32 := 12#32
  let v1103 : BitVec 32 := Scalar.addi v2 c12_i32_874
  let c16_i32_875 : BitVec 32 := 16#32
  let v1104 : BitVec 32 := Scalar.remsi v1103 c16_i32_875
  let c1_i32_877 : BitVec 32 := 1#32
  let v1105 : BitVec 32 := Scalar.muli v1104 c1_i32_877
  let v1106 : BitVec 32 := Scalar.addi c0_i32_878 v1105
  v1106.toNat
def k0_dev44 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_881 : BitVec 32 := 13#32
  let v1113 : BitVec 32 := Scalar.addi v2 c13_i32_881
  let c16_i32_882 : BitVec 32 := 16#32
  let v1114 : BitVec 32 := Scalar.remsi v1113 c16_i32_882
  let c1_i32_884 : BitVec 32 := 1#32
  let v1115 : BitVec 32 := Scalar.muli v1114 c1_i32_884
  let v1116 : BitVec 32 := Scalar.addi c0_i32_885 v1115
  v1116.toNat
def k0_dev45 (d0 : Dev nD) : Nat :=
  let c0_i32_892 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_888 : BitVec 32 := 14#32
  let v1123 : BitVec 32 := Scalar.addi v2 c14_i32_888
  let c16_i32_889 : BitVec 32 := 16#32
  let v1124 : BitVec 32 := Scalar.remsi v1123 c16_i32_889
  let c1_i32_891 : BitVec 32 := 1#32
  let v1125 : BitVec 32 := Scalar.muli v1124 c1_i32_891
  let v1126 : BitVec 32 := Scalar.addi c0_i32_892 v1125
  v1126.toNat
def k0_dev46 (d0 : Dev nD) : Nat :=
  let c0_i32_899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_895 : BitVec 32 := 15#32
  let v1133 : BitVec 32 := Scalar.addi v2 c15_i32_895
  let c16_i32_896 : BitVec 32 := 16#32
  let v1134 : BitVec 32 := Scalar.remsi v1133 c16_i32_896
  let c1_i32_898 : BitVec 32 := 1#32
  let v1135 : BitVec 32 := Scalar.muli v1134 c1_i32_898
  let v1136 : BitVec 32 := Scalar.addi c0_i32_899 v1135
  v1136.toNat
def k0_off40 (d0 : Dev nD) (c1_i32_902 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1143 : BitVec 32 := Scalar.subi v2 c1_i32_902
  let c16_i32_903 : BitVec 32 := 16#32
  let v1144 : BitVec 32 := Scalar.addi v1143 c16_i32_903
  let c16_i32_904 : BitVec 32 := 16#32
  let v1145 : BitVec 32 := Scalar.remsi v1144 c16_i32_904
  let c16_i32_906 : BitVec 32 := 16#32
  let v1147 : BitVec 32 := Scalar.muli v1145 c16_i32_906
  let c0_i32_910 : BitVec 32 := 0#32
  ![v1147.toNat, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1052 : BitVec 32 := 0#32
  let v1308 : BitVec 1 := Scalar.cmpi .ne v2 c0_i32_1052
  let v1309 : BitVec 32 := Scalar.extui v1308
  let c0_i32_1053 : BitVec 32 := 0#32
  let v1310 : BitVec 1 := Scalar.cmpi .ne v1309 c0_i32_1053
  v1310

def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1149 : BitVec 32 := 0#32
  let c0_i32_1150 : BitVec 32 := 0#32
  ![v2.toNat, 0, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1054 : BitVec 32 := 1#32
  let v1311 : BitVec 1 := Scalar.cmpi .ne v2 c1_i32_1054
  let v1312 : BitVec 32 := Scalar.extui v1311
  let c0_i32_1055 : BitVec 32 := 0#32
  let v1313 : BitVec 1 := Scalar.cmpi .ne v1312 c0_i32_1055
  v1313

def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1149 : BitVec 32 := 0#32
  let c0_i32_1150 : BitVec 32 := 0#32
  ![v2.toNat, 0, 0]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1056 : BitVec 32 := 2#32
  let v1314 : BitVec 1 := Scalar.cmpi .ne v2 c2_i32_1056
  let v1315 : BitVec 32 := Scalar.extui v1314
  let c0_i32_1057 : BitVec 32 := 0#32
  let v1316 : BitVec 1 := Scalar.cmpi .ne v1315 c0_i32_1057
  v1316

def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1058 : BitVec 32 := 3#32
  let v1317 : BitVec 1 := Scalar.cmpi .ne v2 c3_i32_1058
  let v1318 : BitVec 32 := Scalar.extui v1317
  let c0_i32_1059 : BitVec 32 := 0#32
  let v1319 : BitVec 1 := Scalar.cmpi .ne v1318 c0_i32_1059
  v1319

def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1060 : BitVec 32 := 4#32
  let v1320 : BitVec 1 := Scalar.cmpi .ne v2 c4_i32_1060
  let v1321 : BitVec 32 := Scalar.extui v1320
  let c0_i32_1061 : BitVec 32 := 0#32
  let v1322 : BitVec 1 := Scalar.cmpi .ne v1321 c0_i32_1061
  v1322

def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1149 : BitVec 32 := 0#32
  let c0_i32_1150 : BitVec 32 := 0#32
  ![v2.toNat, 0, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1062 : BitVec 32 := 5#32
  let v1323 : BitVec 1 := Scalar.cmpi .ne v2 c5_i32_1062
  let v1324 : BitVec 32 := Scalar.extui v1323
  let c0_i32_1063 : BitVec 32 := 0#32
  let v1325 : BitVec 1 := Scalar.cmpi .ne v1324 c0_i32_1063
  v1325

def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1064 : BitVec 32 := 6#32
  let v1326 : BitVec 1 := Scalar.cmpi .ne v2 c6_i32_1064
  let v1327 : BitVec 32 := Scalar.extui v1326
  let c0_i32_1065 : BitVec 32 := 0#32
  let v1328 : BitVec 1 := Scalar.cmpi .ne v1327 c0_i32_1065
  v1328

def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1066 : BitVec 32 := 7#32
  let v1329 : BitVec 1 := Scalar.cmpi .ne v2 c7_i32_1066
  let v1330 : BitVec 32 := Scalar.extui v1329
  let c0_i32_1067 : BitVec 32 := 0#32
  let v1331 : BitVec 1 := Scalar.cmpi .ne v1330 c0_i32_1067
  v1331

def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1068 : BitVec 32 := 8#32
  let v1332 : BitVec 1 := Scalar.cmpi .ne v2 c8_i32_1068
  let v1333 : BitVec 32 := Scalar.extui v1332
  let c0_i32_1069 : BitVec 32 := 0#32
  let v1334 : BitVec 1 := Scalar.cmpi .ne v1333 c0_i32_1069
  v1334

def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1149 : BitVec 32 := 0#32
  let c0_i32_1150 : BitVec 32 := 0#32
  ![v2.toNat, 0, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1070 : BitVec 32 := 9#32
  let v1335 : BitVec 1 := Scalar.cmpi .ne v2 c9_i32_1070
  let v1336 : BitVec 32 := Scalar.extui v1335
  let c0_i32_1071 : BitVec 32 := 0#32
  let v1337 : BitVec 1 := Scalar.cmpi .ne v1336 c0_i32_1071
  v1337

def k0_off50 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1072 : BitVec 32 := 10#32
  let v1338 : BitVec 1 := Scalar.cmpi .ne v2 c10_i32_1072
  let v1339 : BitVec 32 := Scalar.extui v1338
  let c0_i32_1073 : BitVec 32 := 0#32
  let v1340 : BitVec 1 := Scalar.cmpi .ne v1339 c0_i32_1073
  v1340

def k0_off51 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1074 : BitVec 32 := 11#32
  let v1341 : BitVec 1 := Scalar.cmpi .ne v2 c11_i32_1074
  let v1342 : BitVec 32 := Scalar.extui v1341
  let c0_i32_1075 : BitVec 32 := 0#32
  let v1343 : BitVec 1 := Scalar.cmpi .ne v1342 c0_i32_1075
  v1343

def k0_off52 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1076 : BitVec 32 := 12#32
  let v1344 : BitVec 1 := Scalar.cmpi .ne v2 c12_i32_1076
  let v1345 : BitVec 32 := Scalar.extui v1344
  let c0_i32_1077 : BitVec 32 := 0#32
  let v1346 : BitVec 1 := Scalar.cmpi .ne v1345 c0_i32_1077
  v1346

def k0_off53 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1078 : BitVec 32 := 13#32
  let v1347 : BitVec 1 := Scalar.cmpi .ne v2 c13_i32_1078
  let v1348 : BitVec 32 := Scalar.extui v1347
  let c0_i32_1079 : BitVec 32 := 0#32
  let v1349 : BitVec 1 := Scalar.cmpi .ne v1348 c0_i32_1079
  v1349

def k0_off54 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1080 : BitVec 32 := 14#32
  let v1350 : BitVec 1 := Scalar.cmpi .ne v2 c14_i32_1080
  let v1351 : BitVec 32 := Scalar.extui v1350
  let c0_i32_1081 : BitVec 32 := 0#32
  let v1352 : BitVec 1 := Scalar.cmpi .ne v1351 c0_i32_1081
  v1352

def k0_off55 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1082 : BitVec 32 := 15#32
  let v1353 : BitVec 1 := Scalar.cmpi .ne v2 c15_i32_1082
  let v1354 : BitVec 32 := Scalar.extui v1353
  let c0_i32_1083 : BitVec 32 := 0#32
  let v1355 : BitVec 1 := Scalar.cmpi .ne v1354 c0_i32_1083
  v1355

def k0_off56 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1148 : BitVec 32 := 0#32
  let c0_i32_1149 : BitVec 32 := 0#32
  ![v2.toNat, 0, 0]
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S256x1024 : Shape := ⟨2, ![256, 1024]⟩
abbrev S1024x16384 : Shape := ⟨2, ![1024, 16384]⟩
abbrev S1x4096x128x128 : Shape := ⟨4, ![1, 4096, 128, 128]⟩
abbrev S16384x1024 : Shape := ⟨2, ![16384, 1024]⟩
abbrev S256x16384 : Shape := ⟨2, ![256, 16384]⟩
abbrev S1x256x128x128 : Shape := ⟨4, ![1, 256, 128, 128]⟩
abbrev S256 : Shape := ⟨1, ![256]⟩
abbrev S_ : Shape := ⟨0, ![]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S1x128x256x4096 : Shape := ⟨4, ![1, 128, 256, 4096]⟩
abbrev S1x1x256x4096 : Shape := ⟨4, ![1, 1, 256, 4096]⟩
abbrev S1x128x256 : Shape := ⟨3, ![1, 128, 256]⟩
abbrev S1x128x256x1 : Shape := ⟨4, ![1, 128, 256, 1]⟩
abbrev S1x1x256x1 : Shape := ⟨4, ![1, 1, 256, 1]⟩
abbrev S1x128x128x256 : Shape := ⟨4, ![1, 128, 128, 256]⟩

abbrev nBuf : Space → Nat
  | .hbm => 123
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x16384, .f32⟩
  | .hbm, ⟨2, _⟩ => ⟨S1x4096x128x128, .f32⟩
  | .hbm, ⟨3, _⟩ => ⟨S1x4096x128x128, .f32⟩
  | .hbm, ⟨4, _⟩ => ⟨S16384x1024, .f32⟩
  | .hbm, ⟨5, _⟩ => ⟨S256x16384, .f32⟩
  | .hbm, ⟨6, _⟩ => ⟨S1x256x128x128, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S256x4096, .i32⟩
  | .hbm, ⟨48, _⟩ => ⟨S256x4096, .i32⟩
  | .hbm, ⟨49, _⟩ => ⟨S256x4096, .i1⟩
  | .hbm, ⟨50, _⟩ => ⟨S_, .i32⟩
  | .hbm, ⟨51, _⟩ => ⟨S1x4096, .i32⟩
  | .hbm, ⟨52, _⟩ => ⟨S1x4096, .i1⟩
  | .hbm, ⟨53, _⟩ => ⟨S256x4096, .i1⟩
  | .hbm, ⟨54, _⟩ => ⟨S256x4096, .i1⟩
  | .hbm, ⟨55, _⟩ => ⟨S256x4096, .i32⟩
  | .hbm, ⟨56, _⟩ => ⟨S256x4096, .i32⟩
  | .hbm, ⟨57, _⟩ => ⟨S256x4096, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S256x4096, .i32⟩
  | .hbm, ⟨65, _⟩ => ⟨S256x4096, .i32⟩
  | .hbm, ⟨66, _⟩ => ⟨S_, .i32⟩
  | .hbm, ⟨67, _⟩ => ⟨S256x4096, .i32⟩
  | .hbm, ⟨68, _⟩ => ⟨S256x4096, .i1⟩
  | .hbm, ⟨69, _⟩ => ⟨S_, .i32⟩
  | .hbm, ⟨70, _⟩ => ⟨S256x4096, .i32⟩
  | .hbm, ⟨71, _⟩ => ⟨S256x4096, .i1⟩
  | .hbm, ⟨72, _⟩ => ⟨S_, .i32⟩
  | .hbm, ⟨73, _⟩ => ⟨S_, .i1⟩
  | .hbm, ⟨74, _⟩ => ⟨S256x4096, .i1⟩
  | .hbm, ⟨75, _⟩ => ⟨S256x4096, .i1⟩
  | .hbm, ⟨76, _⟩ => ⟨S256x4096, .i1⟩
  | .hbm, ⟨77, _⟩ => ⟨S256x4096, .i32⟩
  | .hbm, ⟨78, _⟩ => ⟨S256x4096, .i32⟩
  | .hbm, ⟨79, _⟩ => ⟨S256x4096, .i32⟩
  | .hbm, ⟨80, _⟩ => ⟨S_, .i32⟩
  | .hbm, ⟨81, _⟩ => ⟨S256x4096, .i32⟩
  | .hbm, ⟨82, _⟩ => ⟨S256x4096, .i1⟩
  | .hbm, ⟨83, _⟩ => ⟨S256x4096, .i1⟩
  | .hbm, ⟨84, _⟩ => ⟨S1x128x256x4096, .f32⟩
  | .hbm, ⟨85, _⟩ => ⟨S_, .f32⟩
  | .hbm, ⟨86, _⟩ => ⟨S1x128x256x4096, .f32⟩
  | .hbm, ⟨87, _⟩ => ⟨S1x128x256x4096, .f32⟩
  | .hbm, ⟨88, _⟩ => ⟨S1x1x256x4096, .i1⟩
  | .hbm, ⟨89, _⟩ => ⟨S_, .f32⟩
  | .hbm, ⟨90, _⟩ => ⟨S_, .f32⟩
  | .hbm, ⟨91, _⟩ => ⟨S1x128x256x4096, .i1⟩
  | .hbm, ⟨92, _⟩ => ⟨S1x128x256x4096, .f32⟩
  | .hbm, ⟨93, _⟩ => ⟨S1x128x256x4096, .f32⟩
  | .hbm, ⟨94, _⟩ => ⟨S_, .f32⟩
  | .hbm, ⟨95, _⟩ => ⟨S1x128x256, .f32⟩
  | .hbm, ⟨96, _⟩ => ⟨S1x128x256x1, .f32⟩
  | .hbm, ⟨97, _⟩ => ⟨S1x128x256x4096, .f32⟩
  | .hbm, ⟨98, _⟩ => ⟨S1x128x256x4096, .f32⟩
  | .hbm, ⟨99, _⟩ => ⟨S1x128x256x4096, .f32⟩
  | .hbm, ⟨100, _⟩ => ⟨S_, .i1⟩
  | .hbm, ⟨101, _⟩ => ⟨S256, .i1⟩
  | .hbm, ⟨102, _⟩ => ⟨S1x1x256x1, .i1⟩
  | .hbm, ⟨103, _⟩ => ⟨S_, .f32⟩
  | .hbm, ⟨104, _⟩ => ⟨S1x128x256, .f32⟩
  | .hbm, ⟨105, _⟩ => ⟨S1x128x256x1, .f32⟩
  | .hbm, ⟨106, _⟩ => ⟨S_, .f32⟩
  | .hbm, ⟨107, _⟩ => ⟨S_, .f32⟩
  | .hbm, ⟨108, _⟩ => ⟨S1x128x256x1, .i1⟩
  | .hbm, ⟨109, _⟩ => ⟨S1x128x256x1, .f32⟩
  | .hbm, ⟨110, _⟩ => ⟨S1x128x256x1, .f32⟩
  | .hbm, ⟨111, _⟩ => ⟨S1x128x256x4096, .f32⟩
  | .hbm, ⟨112, _⟩ => ⟨S1x128x256x4096, .f32⟩
  | .hbm, ⟨113, _⟩ => ⟨S1x1x256x1, .i1⟩
  | .hbm, ⟨114, _⟩ => ⟨S_, .f32⟩
  | .hbm, ⟨115, _⟩ => ⟨S_, .f32⟩
  | .hbm, ⟨116, _⟩ => ⟨S1x128x256x4096, .i1⟩
  | .hbm, ⟨117, _⟩ => ⟨S1x128x256x4096, .f32⟩
  | .hbm, ⟨118, _⟩ => ⟨S1x128x256x4096, .f32⟩
  | .hbm, ⟨119, _⟩ => ⟨S1x128x128x256, .f32⟩
  | .hbm, ⟨120, _⟩ => ⟨S1x256x128x128, .f32⟩
  | .hbm, ⟨121, _⟩ => ⟨S256x16384, .f32⟩
  | .hbm, ⟨122, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Values.lean ====
/-
# What the kernel's buffers hold

The contents every buffer of the attention kernel reaches, as functions of the five argument blocks of each device:
the projected queries, the block-sparse bias, the two cached head slabs, the context, each device's partial output,
the blocks it receives, the summed rows it owns, and the result.
-/
module

public import proofs.«01_k».proof.Proof.Gen.KernelIdeal.Skeleton
public import Idealize.ShloMosaic.Lib.ValueLayout
public import Idealize.ShloMosaic.Lib.ValueIdxCore

@[expose] public section

set_option maxRecDepth 16384

noncomputable section

namespace Cert.KernelIdeal.Attn

open Cert.KernelIdeal Cert.KernelIdeal.Gen
open Idealize.ShloMosaic Idealize.ShloMosaic.TcCoe Idealize.ShloMosaic.ValueIdx

variable {F : FTy → Type} [FloatOps F] [Named F]

/-- The argument blocks of every device. -/
structure Ins (F : FTy → Type) where
  x : Dev nD → Vec F S256x1024 .f32
  wq : Dev nD → Vec F S1024x1024 .f32
  k : Dev nD → Vec F S1x4096x128x128 .f32
  v : Dev nD → Vec F S1x4096x128x128 .f32
  wo : Dev nD → Vec F S1024x1024 .f32

/-! ## The memrefs -/

abbrev xM : Memref sig .tc .vmem S256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outM : Memref sig .tc .vmem S256x1024 .f32 := Memref.whole cc0_stg3_0
abbrev qM : Memref sig .tc .vmem S256x1024 .f32 := Memref.whole cc0_scratch0
abbrev biasM : Memref sig .tc .vmem S256x4096 .f32 := Memref.whole cc0_scratch1
abbrev ctxM : Memref sig .tc .vmem S256x1024 .f32 := Memref.whole cc0_scratch2
abbrev kaM : Memref sig .tc .vmem S4096x1024 .f32 := Memref.whole cc0_scratch3
abbrev vaM : Memref sig .tc .vmem S4096x1024 .f32 := Memref.whole cc0_scratch4
abbrev rbM : Memref sig .tc .vmem S16x16x1024 .f32 := Memref.whole cc0_scratch5
abbrev kM : Memref sig .tc .hbm S1x4096x128x128 .f32 := Memref.whole main_arg2
abbrev vM : Memref sig .tc .hbm S1x4096x128x128 .f32 := Memref.whole main_arg3

/-! ## In-bounds facts at symbolic places -/

theorem inb_blk {a h : ℕ} (ha : a < 2) (hh : h < 8) : ∀ i, (![128 * a, 128 * h] : Fin 2 → ℕ) i + S128x128.size i ≤ S256x1024.size i := by
  intro i; fin_cases i
  · show 128 * a + 128 ≤ 256; omega
  · show 128 * h + 128 ≤ 1024; omega
theorem inb_col {h : ℕ} (hh : h < 8) : ∀ i, (![0, 128 * h] : Fin 2 → ℕ) i + S4096x128.size i ≤ S4096x1024.size i := by
  intro i; fin_cases i
  · show 0 + 4096 ≤ 4096; omega
  · show 128 * h + 128 ≤ 1024; omega
theorem inb_bias {a : ℕ} (ha : a < 2) : ∀ i, (![128 * a, 0] : Fin 2 → ℕ) i + S128x4096.size i ≤ S256x4096.size i := by
  intro i; fin_cases i
  · show 128 * a + 128 ≤ 256; omega
  · show 0 + 4096 ≤ 4096; omega
theorem inb_half {a : ℕ} (ha : a < 2) : ∀ i, (![128 * a, 0] : Fin 2 → ℕ) i + S128x1024.size i ≤ S256x1024.size i := by
  intro i; fin_cases i
  · show 128 * a + 128 ≤ 256; omega
  · show 0 + 1024 ≤ 1024; omega
theorem inb_chunk (k : Fin 16) : ∀ i, (![16 * k.val, 0] : Fin 2 → ℕ) i + S16x1024.size i ≤ S256x1024.size i := by
  intro i; have := k.isLt; fin_cases i
  · show 16 * k.val + 16 ≤ 256; omega
  · show 0 + 1024 ≤ 1024; omega
theorem inb_slot (s : Fin 16) : ∀ i, (![s.val, 0, 0] : Fin 3 → ℕ) i + S1x16x1024.size i ≤ S16x16x1024.size i := by
  intro i; have := s.isLt; fin_cases i
  · show s.val + 1 ≤ 16; omega
  · show 0 + 16 ≤ 16; omega
  · show 0 + 1024 ≤ 1024; omega
theorem inb_head (c : Dev nD) (h : Fin 8) : ∀ i, (![0, 0, 8 * c.val + h.val, 0] : Fin 4 → ℕ) i + S1x4096x1x128.size i ≤ S1x4096x128x128.size i := by
  intro i; have hc : c.val < 16 := c.isLt; have := h.isLt; fin_cases i
  · show 0 + 1 ≤ 1; omega
  · show 0 + 4096 ≤ 4096; omega
  · show 8 * c.val + h.val + 1 ≤ 128; omega
  · show 0 + 128 ≤ 128; omega

/-! ## The contents -/

/-- The queries of device `c`: its rows of `x` through its block of the query projection. -/
def qC (I : Ins F) (c : Dev nD) : Vec F S256x1024 .f32 := k0_pay1 (I.x c) (I.wq c)
/-- The bias: zero where a query block sees a key block, the masking constant elsewhere. -/
def biasC : Vec F S256x4096 .f32 := k0_pay6 (F := F) (k0_pay2 (iota .tc S256x4096 32 [0] iota_S256x4096_d0_w32) 64#32) k0_pay3 k0_pay4 k0_pay5
/-- Eight heads of a cached array side by side: column `128 h + j` is head `8 c + h`, lane `j`. -/
def heads (K : Vec F S1x4096x128x128 .f32) (c : Dev nD) : Vec F S4096x1024 .f32 := fun i =>
  K (ix4 (⟨0, Nat.one_pos⟩ : Fin 1) (i 0 : Fin 4096)
    (⟨8 * c.val + (i 1 : Fin 1024).val / 128, by have hc : c.val < 16 := c.isLt; have : (i 1 : Fin 1024).val < 1024 := (i 1 : Fin 1024).isLt; omega⟩ : Fin 128)
    (⟨(i 1 : Fin 1024).val % 128, Nat.mod_lt _ (by decide)⟩ : Fin 128))
def kaC (I : Ins F) (c : Dev nD) : Vec F S4096x1024 .f32 := heads (I.k c) c
def vaC (I : Ins F) (c : Dev nD) : Vec F S4096x1024 .f32 := heads (I.v c) c

/-- One head of half the rows: the attention of rows `128 a …` for head `h` of device `c`. -/
def headVal (I : Ins F) (c : Dev nD) (a : Fin 2) (h : Fin 8) : Vec F S128x128 .f32 :=
  k0_pay9
    (qM.view.readAt (Elt F) (Rect.unit (s := S256x1024) ![128 * a.val, 128 * h.val] S128x128.size (inb_blk a.isLt h.isLt)).toLoadRect (qC I c))
    (kaM.view.readAt (Elt F) (Rect.unit (s := S4096x1024) ![0, 128 * h.val] S4096x128.size (inb_col h.isLt)).toLoadRect (kaC I c))
    (biasM.view.readAt (Elt F) (Rect.unit (s := S256x4096) ![128 * a.val, 0] S128x4096.size (inb_bias a.isLt)).toLoadRect (biasC (F := F)))
    (vaM.view.readAt (Elt F) (Rect.unit (s := S4096x1024) ![0, 128 * h.val] S4096x128.size (inb_col h.isLt)).toLoadRect (vaC I c))

/-- The context of device `c`, block by block. -/
def ctxC (I : Ins F) (c : Dev nD) : Vec F S256x1024 .f32 := fun i =>
  headVal I c ⟨(i 0 : Fin 256).val / 128, by have : (i 0 : Fin 256).val < 256 := (i 0 : Fin 256).isLt; omega⟩ ⟨(i 1 : Fin 1024).val / 128, by have : (i 1 : Fin 1024).val < 1024 := (i 1 : Fin 1024).isLt; omega⟩
    (ix2 (⟨(i 0 : Fin 256).val % 128, Nat.mod_lt _ (by decide)⟩ : Fin 128) (⟨(i 1 : Fin 1024).val % 128, Nat.mod_lt _ (by decide)⟩ : Fin 128))

/-- Half the rows of device `c`'s partial output. -/
def halfC (I : Ins F) (c : Dev nD) (a : Fin 2) : Vec F S128x1024 .f32 :=
  k0_pay22 (ctxM.view.readAt (Elt F) (Rect.unit (s := S256x1024) ![128 * a.val, 0] S128x1024.size (inb_half a.isLt)).toLoadRect (ctxC I c)) (I.wo c)
/-- Device `c`'s partial output. -/
def poC (I : Ins F) (c : Dev nD) : Vec F S256x1024 .f32 := fun i =>
  halfC I c ⟨(i 0 : Fin 256).val / 128, by have : (i 0 : Fin 256).val < 256 := (i 0 : Fin 256).isLt; omega⟩
    (ix2 (⟨(i 0 : Fin 256).val % 128, Nat.mod_lt _ (by decide)⟩ : Fin 128) (i 1 : Fin 1024))

/-- What device `t` receives: slot `s` is rows `16 t …` of device `s`'s partial output. -/
def rbC (I : Ins F) (t : Dev nD) : Vec F S16x16x1024 .f32 := fun i =>
  poC I (i 0 : Fin 16) (ix2 (⟨16 * t.val + (i 1 : Fin 16).val, by have hc : t.val < 16 := t.isLt; have : (i 1 : Fin 16).val < 16 := (i 1 : Fin 16).isLt; omega⟩ : Fin 256) (i 2 : Fin 1024))

/-- The device `j` places after `c`, and the one `j` places before it, around the sixteen. -/
def fwd (c : Dev nD) (j : ℕ) : Dev nD := ⟨(c.val + j) % 16, Nat.mod_lt _ (by decide)⟩
def bwd (c : Dev nD) (j : ℕ) : Dev nD := ⟨(c.val + 15 * j) % 16, Nat.mod_lt _ (by decide)⟩

/-- The rows device `c` owns after adding the blocks of the `j` devices before it. -/
def accC (I : Ins F) (c : Dev nD) : ℕ → Vec F S16x1024 .f32
  | 0 => shapeCast S16x1024 (outM.view.readAt (Elt F) (Rect.unit (s := S256x1024) ![16 * c.val, 0] S16x1024.size (inb_chunk c)).toLoadRect (poC I c))
      shapeCasts_S16x1024_S16x1024
  | j + 1 => k0_pay47 (accC I c j)
      (rbM.view.readAt (Elt F) (Rect.unit (s := S16x16x1024) ![(bwd c (j + 1)).val, 0, 0] S1x16x1024.size (inb_slot (bwd c (j + 1)))).toLoadRect (rbC I c))
/-- The result: rows `16 k …` are what device `k` summed. -/
def foC (I : Ins F) : Vec F S256x1024 .f32 := fun i =>
  accC I (⟨(i 0 : Fin 256).val / 16, by have : (i 0 : Fin 256).val < 256 := (i 0 : Fin 256).isLt; show (i 0 : Fin 256).val / 16 < 16; omega⟩ : Dev nD) 15
    (ix2 (⟨(i 0 : Fin 256).val % 16, Nat.mod_lt _ (by decide)⟩ : Fin 16) (i 1 : Fin 1024))

/-! ## The printed heads are these -/

section Heads
variable (q : Vec F S128x128 .f32) (k v : Vec F S4096x128 .f32) (b : Vec F S128x4096 .f32)
theorem head8 : k0_pay8 (k0_pay7 q) k b v = k0_pay9 q k b v := rfl
theorem head10 : k0_pay10 q k b v = k0_pay9 q k b v := rfl
theorem head12 : k0_pay12 (k0_pay11 q k b v) = k0_pay9 q k b v := rfl
theorem head16 : k0_pay16 (k0_pay14 q k b) (k0_pay15 q k b) v = k0_pay9 q k b v := rfl
theorem head18 : k0_pay18 (k0_pay17 q k b) v = k0_pay9 q k b v := rfl
theorem head20 : k0_pay20 (k0_pay19 q k) b v = k0_pay9 q k b v := rfl
theorem head21 : k0_pay21 q k b v = k0_pay9 q k b v := rfl
theorem head24 : k0_pay24 (k0_pay23 q k b) v = k0_pay9 q k b v := rfl
theorem head25 : k0_pay25 q k b v = k0_pay9 q k b v := rfl
theorem head26 : k0_pay26 q k b v = k0_pay9 q k b v := rfl
theorem head29 : k0_pay29 (k0_pay27 q k b) (k0_pay28 q k b) (Scalar.ofBits .f32 0x3F800000#32) v = k0_pay9 q k b v := rfl
theorem head30 : k0_pay30 q k b v = k0_pay9 q k b v := rfl
theorem head32 : k0_pay32 (k0_pay31 q) k b v = k0_pay9 q k b v := rfl
theorem head36 : k0_pay36 (k0_pay34 q k b) (k0_pay35 q k b) v = k0_pay9 q k b v := rfl
theorem head37 : k0_pay37 q k b v = k0_pay9 q k b v := rfl
end Heads
theorem half39 (x : Vec F S128x1024 .f32) (w : Vec F S1024x1024 .f32) : k0_pay39 (k0_pay38 x) w = k0_pay22 x w := rfl
theorem acc40 (a : Vec F S16x1024 .f32) (x y : Vec F S1x16x1024 .f32) :
    k0_pay40 a x y = k0_pay47 (k0_pay47 (shapeCast S16x1024 a shapeCasts_S16x1024_S16x1024) x) y := rfl
theorem acc41 (a : FVec F S16x1024 .f32) (x y : Vec F S1x16x1024 .f32) : k0_pay41 a x y = k0_pay47 (k0_pay47 a x) y := rfl
theorem acc42 (a : FVec F S16x1024 .f32) (x y : Vec F S1x16x1024 .f32) : k0_pay42 a x y = k0_pay47 (k0_pay47 a x) y := rfl
theorem acc43 (a : FVec F S16x1024 .f32) (x y : Vec F S1x16x1024 .f32) : k0_pay43 a x y = k0_pay47 (k0_pay47 a x) y := rfl
theorem acc44 (a : FVec F S16x1024 .f32) (x y : Vec F S1x16x1024 .f32) : k0_pay44 a x y = k0_pay47 (k0_pay47 a x) y := rfl
theorem acc45 (a : FVec F S16x1024 .f32) (x y : Vec F S1x16x1024 .f32) : k0_pay45 a x y = k0_pay47 (k0_pay47 a x) y := rfl
theorem acc46 (a : FVec F S16x1024 .f32) (x y : Vec F S1x16x1024 .f32) : k0_pay46 a x y = k0_pay47 (k0_pay47 a x) y := rfl

end Cert.KernelIdeal.Attn

end
-- ==== Proof.Views.lean ====
/-
# The pieces of the kernel's buffers

The element sets the kernel's transfers, loads and stores touch — chunks of sixteen rows of the result, slots of the
receive buffer, head slabs of the caches and columns of their copies, halves and blocks of the context — with their
membership read off an index's coordinates, and what a transfer leaves in each.
-/
module

public import proofs.«01_k».proof.Proof.Values
public import Idealize.ShloMosaic.Lib.Pipeline.Value
public import Idealize.ShloMosaic.Lib.Pipeline.ValueKit.Geometry
public import Idealize.ShloMosaic.Lib.ViewIndex

@[expose] public section

set_option maxRecDepth 16384

noncomputable section

namespace Cert.KernelIdeal.Attn

open Cert.KernelIdeal Cert.KernelIdeal.Gen
open Idealize.ShloMosaic Idealize.ShloMosaic.TcCoe Idealize.ShloMosaic.ValueIdx

variable {F : FTy → Type} [FloatOps F] [Named F]

/-! ## The memrefs of the pieces -/

/-- Rows `16 k …` of the result buffer. -/
abbrev chunkM (k : Fin 16) : Memref sig .tc .vmem S16x1024 .f32 :=
  outM.slice (Rect.unit (s := S256x1024) ![16 * k.val, 0] S16x1024.size (inb_chunk k)) (fun _ => rfl)
/-- Slot `s` of the receive buffer. -/
abbrev slotM (s : Fin 16) : Memref sig .tc .vmem S16x1024 .f32 :=
  (rbM.slice (Rect.unit (s := S16x16x1024) ![s.val, 0, 0] S1x16x1024.size (inb_slot s)) (fun _ => rfl)).squeeze S16x1024 squeezes_S1x16x1024_S16x1024
/-- Column block `h` of the copied keys, and of the copied values. -/
abbrev kcolM (h : Fin 8) : Memref sig .tc .vmem S4096x128 .f32 :=
  kaM.slice (Rect.unit (s := S4096x1024) ![0, 128 * h.val] S4096x128.size (inb_col h.isLt)) (fun _ => rfl)
abbrev vcolM (h : Fin 8) : Memref sig .tc .vmem S4096x128 .f32 :=
  vaM.slice (Rect.unit (s := S4096x1024) ![0, 128 * h.val] S4096x128.size (inb_col h.isLt)) (fun _ => rfl)
/-- Head `8 c + h` of the cached keys, and of the cached values. -/
abbrev kheadM (c : Dev nD) (h : Fin 8) : Memref sig .tc .hbm S4096x128 .f32 :=
  (kM.slice (Rect.unit (s := S1x4096x128x128) ![0, 0, 8 * c.val + h.val, 0] S1x4096x1x128.size (inb_head c h)) (fun _ => rfl)).squeeze S4096x128 squeezes_S1x4096x1x128_S4096x128
abbrev vheadM (c : Dev nD) (h : Fin 8) : Memref sig .tc .hbm S4096x128 .f32 :=
  (vM.slice (Rect.unit (s := S1x4096x128x128) ![0, 0, 8 * c.val + h.val, 0] S1x4096x1x128.size (inb_head c h)) (fun _ => rfl)).squeeze S4096x128 squeezes_S1x4096x1x128_S4096x128

/-! ## Membership -/

theorem chunk_set (k : Fin 16) :
    (chunkM k).view.set = (Rect.unit (s := S256x1024) ![16 * k.val, 0] S16x1024.size (inb_chunk k)).set :=
  View.set_slice_whole _ _
theorem slot_set (s : Fin 16) :
    (slotM s).view.set = (Rect.unit (s := S16x16x1024) ![s.val, 0, 0] S1x16x1024.size (inb_slot s)).set :=
  (View.set_reshape _ _).trans (View.set_slice_whole _ _)
theorem kcol_set (h : Fin 8) :
    (kcolM h).view.set = (Rect.unit (s := S4096x1024) ![0, 128 * h.val] S4096x128.size (inb_col h.isLt)).set :=
  View.set_slice_whole _ _
theorem vcol_set (h : Fin 8) :
    (vcolM h).view.set = (Rect.unit (s := S4096x1024) ![0, 128 * h.val] S4096x128.size (inb_col h.isLt)).set :=
  View.set_slice_whole _ _
theorem khead_set (c : Dev nD) (h : Fin 8) :
    (kheadM c h).view.set = (Rect.unit (s := S1x4096x128x128) ![0, 0, 8 * c.val + h.val, 0] S1x4096x1x128.size (inb_head c h)).set :=
  (View.set_reshape _ _).trans (View.set_slice_whole _ _)
theorem vhead_set (c : Dev nD) (h : Fin 8) :
    (vheadM c h).view.set = (Rect.unit (s := S1x4096x128x128) ![0, 0, 8 * c.val + h.val, 0] S1x4096x1x128.size (inb_head c h)).set :=
  (View.set_reshape _ _).trans (View.set_slice_whole _ _)

theorem mem_rows_iff {off size : Fin 2 → ℕ} (o z : ℕ) (hoff : off = ![o, 0]) (hsize : size = ![z, 1024])
    (p : ∀ i, off i + size i ≤ S256x1024.size i) (i : S256x1024.Idx) :
    i ∈ (Rect.unit (s := S256x1024) off size p).set ↔ o ≤ (i 0 : Fin 256).val ∧ (i 0 : Fin 256).val < o + z := by
  subst hoff hsize
  rw [Rect.mem_set_unit]
  refine ⟨fun h => h 0, fun h a => ?_⟩
  fin_cases a
  · exact h
  · exact ⟨Nat.zero_le _, by show (i 1 : Fin 1024).val < 0 + 1024; have : (i 1 : Fin 1024).val < 1024 := (i 1 : Fin 1024).isLt; omega⟩

theorem mem_chunk (k : Fin 16) (i : S256x1024.Idx) : i ∈ (chunkM k).view.set ↔ (i 0 : Fin 256).val / 16 = k.val := by
  rw [chunk_set, mem_rows_iff (16 * k.val) 16 rfl rfl]
  omega
theorem mem_half (a : Fin 2) (i : S256x1024.Idx) :
    i ∈ (Rect.unit (s := S256x1024) ![128 * a.val, 0] S128x1024.size (inb_half a.isLt)).set ↔ (i 0 : Fin 256).val / 128 = a.val := by
  rw [mem_rows_iff (128 * a.val) 128 rfl rfl]
  omega
theorem mem_slot (s : Fin 16) (i : S16x16x1024.Idx) : i ∈ (slotM s).view.set ↔ (i 0 : Fin 16).val = s.val := by
  rw [slot_set, Rect.mem_set_unit]
  refine ⟨fun h => ?_, fun h a => ?_⟩
  · have h0 : s.val ≤ (i 0 : Fin 16).val ∧ (i 0 : Fin 16).val < s.val + 1 := h 0
    omega
  · fin_cases a
    · show s.val ≤ (i 0 : Fin 16).val ∧ (i 0 : Fin 16).val < s.val + 1; omega
    · exact ⟨Nat.zero_le _, by show (i 1 : Fin 16).val < 0 + 16; have : (i 1 : Fin 16).val < 16 := (i 1 : Fin 16).isLt; omega⟩
    · exact ⟨Nat.zero_le _, by show (i 2 : Fin 1024).val < 0 + 1024; have : (i 2 : Fin 1024).val < 1024 := (i 2 : Fin 1024).isLt; omega⟩
theorem mem_colRect (h : Fin 8) (i : S4096x1024.Idx) :
    i ∈ (Rect.unit (s := S4096x1024) ![0, 128 * h.val] S4096x128.size (inb_col h.isLt)).set ↔ (i 1 : Fin 1024).val / 128 = h.val := by
  rw [Rect.mem_set_unit]
  refine ⟨fun h' => ?_, fun h' a => ?_⟩
  · have h0 : 128 * h.val ≤ (i 1 : Fin 1024).val ∧ (i 1 : Fin 1024).val < 128 * h.val + 128 := h' 1
    omega
  · fin_cases a
    · exact ⟨Nat.zero_le _, by show (i 0 : Fin 4096).val < 0 + 4096; have : (i 0 : Fin 4096).val < 4096 := (i 0 : Fin 4096).isLt; omega⟩
    · show 128 * h.val ≤ (i 1 : Fin 1024).val ∧ (i 1 : Fin 1024).val < 128 * h.val + 128; omega
theorem mem_kcol (h : Fin 8) (i : S4096x1024.Idx) : i ∈ (kcolM h).view.set ↔ (i 1 : Fin 1024).val / 128 = h.val := by
  rw [kcol_set]; exact mem_colRect h i
theorem mem_vcol (h : Fin 8) (i : S4096x1024.Idx) : i ∈ (vcolM h).view.set ↔ (i 1 : Fin 1024).val / 128 = h.val := by
  rw [vcol_set]; exact mem_colRect h i
theorem mem_headRect (c : Dev nD) (h : Fin 8) (i : S1x4096x128x128.Idx)
    (hi : i ∈ (Rect.unit (s := S1x4096x128x128) ![0, 0, 8 * c.val + h.val, 0] S1x4096x1x128.size (inb_head c h)).set) :
    (i 2 : Fin 128).val = 8 * c.val + h.val := by
  rw [Rect.mem_set_unit] at hi
  have h0 : 8 * c.val + h.val ≤ (i 2 : Fin 128).val ∧ (i 2 : Fin 128).val < 8 * c.val + h.val + 1 := hi 2
  omega
theorem mem_blk (a : Fin 2) (h : Fin 8) (i : S256x1024.Idx) :
    i ∈ (Rect.unit (s := S256x1024) ![128 * a.val, 128 * h.val] S128x128.size (inb_blk a.isLt h.isLt)).set
      ↔ (i 0 : Fin 256).val / 128 = a.val ∧ (i 1 : Fin 1024).val / 128 = h.val := by
  rw [Rect.mem_set_unit]
  refine ⟨fun h' => ?_, fun h' b => ?_⟩
  · have h0 : 128 * a.val ≤ (i 0 : Fin 256).val ∧ (i 0 : Fin 256).val < 128 * a.val + 128 := h' 0
    have h1 : 128 * h.val ≤ (i 1 : Fin 1024).val ∧ (i 1 : Fin 1024).val < 128 * h.val + 128 := h' 1
    omega
  · fin_cases b
    · show 128 * a.val ≤ (i 0 : Fin 256).val ∧ (i 0 : Fin 256).val < 128 * a.val + 128; omega
    · show 128 * h.val ≤ (i 1 : Fin 1024).val ∧ (i 1 : Fin 1024).val < 128 * h.val + 128; omega

/-! ## Where a piece's element lies -/

theorem emb_chunk (k : Fin 16) (r : Fin 16) (j : Fin 1024) :
    (chunkM k).view.emb (ix2 r j) = ix2 (⟨16 * k.val + r.val, by have := k.isLt; have := r.isLt; omega⟩ : Fin 256) j := by
  funext a; apply Fin.ext
  fin_cases a
  · exact ValueKit.view_emb_slice_whole_unit_val cc0_stg3_0 _ _ _ _ _
  · exact (ValueKit.view_emb_slice_whole_unit_val cc0_stg3_0 _ _ _ _ _).trans (Nat.zero_add _)
theorem emb_slot (s : Fin 16) (r : Fin 16) (j : Fin 1024) : (slotM s).view.emb (ix2 r j) = ix3 s r j := by
  show (rbM.slice (Rect.unit (s := S16x16x1024) ![s.val, 0, 0] S1x16x1024.size (inb_slot s)) (fun _ => rfl)).view.emb
    (Shape.reshapeEquiv squeezes_S1x16x1024_S16x1024.numel_eq (ix2 r j)) = ix3 s r j
  rw [reshapeEquiv_ix2_1ab]
  funext a; apply Fin.ext
  fin_cases a
  · exact (ValueKit.view_emb_slice_whole_unit_val cc0_scratch5 _ _ _ _ _).trans (Nat.add_zero _)
  · exact (ValueKit.view_emb_slice_whole_unit_val cc0_scratch5 _ _ _ _ _).trans (Nat.zero_add _)
  · exact (ValueKit.view_emb_slice_whole_unit_val cc0_scratch5 _ _ _ _ _).trans (Nat.zero_add _)
theorem emb_kcol (h : Fin 8) (i : Fin 4096) (j : Fin 128) :
    (kcolM h).view.emb (ix2 i j) = ix2 i (⟨128 * h.val + j.val, by have := h.isLt; have := j.isLt; omega⟩ : Fin 1024) := by
  funext a; apply Fin.ext
  fin_cases a
  · exact (ValueKit.view_emb_slice_whole_unit_val cc0_scratch3 _ _ _ _ _).trans (Nat.zero_add _)
  · exact ValueKit.view_emb_slice_whole_unit_val cc0_scratch3 _ _ _ _ _
theorem emb_vcol (h : Fin 8) (i : Fin 4096) (j : Fin 128) :
    (vcolM h).view.emb (ix2 i j) = ix2 i (⟨128 * h.val + j.val, by have := h.isLt; have := j.isLt; omega⟩ : Fin 1024) := by
  funext a; apply Fin.ext
  fin_cases a
  · exact (ValueKit.view_emb_slice_whole_unit_val cc0_scratch4 _ _ _ _ _).trans (Nat.zero_add _)
  · exact ValueKit.view_emb_slice_whole_unit_val cc0_scratch4 _ _ _ _ _
/-- An index `(x, y)` matched with shape `[1, a, 1, b]` is `(0, x, 0, y)`. -/
theorem reshapeEquiv_ix2_1a1b {a b : ℕ} (h : (⟨2, ![a, b]⟩ : Shape).numel = (⟨4, ![1, a, 1, b]⟩ : Shape).numel)
    (x : Fin a) (y : Fin b) :
    Shape.reshapeEquiv h (ix2 x y) = ix4 (⟨0, Nat.one_pos⟩ : Fin 1) x (⟨0, Nat.one_pos⟩ : Fin 1) y :=
  Shape.reshapeEquiv_eq_of_rowMajor h (by
    rw [Shape.rowMajor_val_four, Shape.rowMajor_val_two]
    show (((0 * a + x.val) * 1 + 0) * b + y.val) = x.val * b + y.val
    simp only [Nat.zero_mul, Nat.zero_add, Nat.mul_one, Nat.add_zero])
theorem emb_khead (c : Dev nD) (h : Fin 8) (i : Fin 4096) (j : Fin 128) :
    (kheadM c h).view.emb (ix2 i j) = ix4 (⟨0, Nat.one_pos⟩ : Fin 1) i
      (⟨8 * c.val + h.val, by have hc : c.val < 16 := c.isLt; have := h.isLt; omega⟩ : Fin 128) j := by
  show (kM.slice (Rect.unit (s := S1x4096x128x128) ![0, 0, 8 * c.val + h.val, 0] S1x4096x1x128.size (inb_head c h)) (fun _ => rfl)).view.emb
    (Shape.reshapeEquiv squeezes_S1x4096x1x128_S4096x128.numel_eq (ix2 i j)) = _
  rw [reshapeEquiv_ix2_1a1b]
  funext a; apply Fin.ext
  fin_cases a
  · exact (ValueKit.view_emb_slice_whole_unit_val main_arg2 _ _ _ _ _).trans (Nat.zero_add _)
  · exact (ValueKit.view_emb_slice_whole_unit_val main_arg2 _ _ _ _ _).trans (Nat.zero_add _)
  · exact (ValueKit.view_emb_slice_whole_unit_val main_arg2 _ _ _ _ _).trans (Nat.add_zero _)
  · exact (ValueKit.view_emb_slice_whole_unit_val main_arg2 _ _ _ _ _).trans (Nat.zero_add _)
theorem emb_vhead (c : Dev nD) (h : Fin 8) (i : Fin 4096) (j : Fin 128) :
    (vheadM c h).view.emb (ix2 i j) = ix4 (⟨0, Nat.one_pos⟩ : Fin 1) i
      (⟨8 * c.val + h.val, by have hc : c.val < 16 := c.isLt; have := h.isLt; omega⟩ : Fin 128) j := by
  show (vM.slice (Rect.unit (s := S1x4096x128x128) ![0, 0, 8 * c.val + h.val, 0] S1x4096x1x128.size (inb_head c h)) (fun _ => rfl)).view.emb
    (Shape.reshapeEquiv squeezes_S1x4096x1x128_S4096x128.numel_eq (ix2 i j)) = _
  rw [reshapeEquiv_ix2_1a1b]
  funext a; apply Fin.ext
  fin_cases a
  · exact (ValueKit.view_emb_slice_whole_unit_val main_arg3 _ _ _ _ _).trans (Nat.zero_add _)
  · exact (ValueKit.view_emb_slice_whole_unit_val main_arg3 _ _ _ _ _).trans (Nat.zero_add _)
  · exact (ValueKit.view_emb_slice_whole_unit_val main_arg3 _ _ _ _ _).trans (Nat.add_zero _)
  · exact (ValueKit.view_emb_slice_whole_unit_val main_arg3 _ _ _ _ _).trans (Nat.zero_add _)

/-! ## What each transfer leaves -/

variable (I : Ins F)

/-- The copied key column holds the cached head. -/
theorem kcol_landed (c : Dev nD) (h : Fin 8) (fd : Vec F S4096x1024 .f32) :
    ∀ i ∈ (kcolM h).view.set, (kcolM h).view.write (Elt F) fd ((kheadM c h).view.read (Elt F) (I.k c)) Finset.univ i = kaC I c i := by
  intro i hi
  obtain ⟨x, -, rfl⟩ := Finset.mem_map.mp hi
  obtain ⟨r, j, rfl⟩ : ∃ (r : Fin 4096) (j : Fin 128), x = ix2 r j := ⟨x 0, x 1, eq_ix2 x⟩
  rw [View.write_emb_of_mem _ _ (Finset.mem_univ _), View.read_apply, emb_khead, emb_kcol]
  show I.k c _ = heads (I.k c) c _
  unfold heads
  have hj : j.val < 128 := j.isLt
  refine congrArg (I.k c) (funext fun a => Fin.ext ?_)
  fin_cases a
  · rfl
  · rfl
  · show 8 * c.val + h.val = 8 * c.val + (128 * h.val + j.val) / 128; omega
  · show j.val = (128 * h.val + j.val) % 128; omega
/-- The copied value column holds the cached head. -/
theorem vcol_landed (c : Dev nD) (h : Fin 8) (fd : Vec F S4096x1024 .f32) :
    ∀ i ∈ (vcolM h).view.set, (vcolM h).view.write (Elt F) fd ((vheadM c h).view.read (Elt F) (I.v c)) Finset.univ i = vaC I c i := by
  intro i hi
  obtain ⟨x, -, rfl⟩ := Finset.mem_map.mp hi
  obtain ⟨r, j, rfl⟩ : ∃ (r : Fin 4096) (j : Fin 128), x = ix2 r j := ⟨x 0, x 1, eq_ix2 x⟩
  rw [View.write_emb_of_mem _ _ (Finset.mem_univ _), View.read_apply, emb_vhead, emb_vcol]
  show I.v c _ = heads (I.v c) c _
  unfold heads
  have hj : j.val < 128 := j.isLt
  refine congrArg (I.v c) (funext fun a => Fin.ext ?_)
  fin_cases a
  · rfl
  · rfl
  · show 8 * c.val + h.val = 8 * c.val + (128 * h.val + j.val) / 128; omega
  · show j.val = (128 * h.val + j.val) % 128; omega
/-- Rows `16 t …` of device `c`'s partial output, landed in slot `c` of device `t`. -/
theorem slot_landed (c t : Dev nD) (fd : Vec F S16x16x1024 .f32) :
    ∀ i ∈ (slotM c).view.set, (slotM c).view.write (Elt F) fd ((chunkM t).view.read (Elt F) (poC I c)) Finset.univ i = rbC I t i := by
  intro i hi
  obtain ⟨x, -, rfl⟩ := Finset.mem_map.mp hi
  obtain ⟨r, j, rfl⟩ : ∃ (r : Fin 16) (j : Fin 1024), x = ix2 r j := ⟨x 0, x 1, eq_ix2 x⟩
  rw [View.write_emb_of_mem _ _ (Finset.mem_univ _), View.read_apply, emb_chunk, emb_slot]
  rfl
/-- A chunk of the result landed on another device is the same chunk there. -/
theorem chunk_landed (k : Fin 16) (fd : Vec F S256x1024 .f32) :
    ∀ i ∈ (chunkM k).view.set, (chunkM k).view.write (Elt F) fd ((chunkM k).view.read (Elt F) (foC I)) Finset.univ i = foC I i := by
  intro i hi
  obtain ⟨x, -, rfl⟩ := Finset.mem_map.mp hi
  rw [View.write_emb_of_mem _ _ (Finset.mem_univ _), View.read_apply]
  rfl

end Cert.KernelIdeal.Attn

end
-- ==== Proof.Cells.lean ====
/-
# The semaphore cells of the attention kernel and what each one hands over

Every device has a barrier cell and seventy-nine transfer cells: one per head for the keys and for the values copied in,
and, per chunk of sixteen rows, a send and a receive cell for each of the two exchanges. Each cell is used for one round.
A barrier cell is paid one unit by every other device, and each payer hands over the receive slot its peer will write;
a receive cell hands over the landed slot (or chunk), a copy's cell both its ends.
-/
module

public import proofs.«01_k».proof.Proof.Views
public import proofs.«01_k».proof.Proof.Gen.KernelIdeal.Launch
public import Idealize.ShloMosaic.Lib.Pipeline.Launch
public import Idealize.ShloMosaic.Lib.Pipeline.Kit
public import Idealize.ShloMosaic.Lib.SparseCore.Stream
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra -/

/-- A duty is named by the device that pays it. -/
abbrev Duty : Type := Fin 16
abbrev UB : Type := URounds (GSem nD τ sig) Duty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev barS : Sem sig := (SemArray.scalar (sig.barrier 0 rfl) : Sems sig S_).sem

abbrev kq (h : Fin 8) : DmaSem sig := ⟨4 + h.val, by have := h.isLt; show _ < 83; omega⟩
abbrev vq (h : Fin 8) : DmaSem sig := ⟨12 + h.val, by have := h.isLt; show _ < 83; omega⟩
abbrev s1q (k : Fin 16) : DmaSem sig := ⟨20 + k.val, by have := k.isLt; show _ < 83; omega⟩
abbrev s2q (j : Fin 15) : DmaSem sig := ⟨36 + j.val, by have := j.isLt; show _ < 83; omega⟩
abbrev r1q (s : Fin 16) : DmaSem sig := ⟨51 + s.val, by have := s.isLt; show _ < 83; omega⟩
abbrev r2q (s : Fin 16) : DmaSem sig := ⟨67 + s.val, by have := s.isLt; show _ < 83; omega⟩

abbrev barC (c : Dev nD) : GSem nD τ sig := ((c : Thread nD τ), .reg barS)
abbrev dmaC (c : Dev nD) (q : DmaSem sig) : GSem nD τ sig := ((c : Thread nD τ), .dma q)

/-- What a transfer semaphore is for. -/
inductive Kind
  | stg | k (h : Fin 8) | v (h : Fin 8) | s1 (k : Fin 16) | s2 (j : Fin 15) | r1 (s : Fin 16) | r2 (s : Fin 16)
deriving DecidableEq

def kindN (q : ℕ) : Kind :=
  if h4 : q < 4 then .stg
  else if h12 : q < 12 then .k ⟨q - 4, by omega⟩
  else if h20 : q < 20 then .v ⟨q - 12, by omega⟩
  else if h36 : q < 36 then .s1 ⟨q - 20, by omega⟩
  else if h51 : q < 51 then .s2 ⟨q - 36, by omega⟩
  else if h67 : q < 67 then .r1 ⟨q - 51, by omega⟩
  else if h83 : q < 83 then .r2 ⟨q - 67, by omega⟩
  else .stg

abbrev kind (q : DmaSem sig) : Kind := kindN q.val

@[simp] theorem kind_k (h : Fin 8) : kind (kq h) = .k h := by revert h; decide
@[simp] theorem kind_v (h : Fin 8) : kind (vq h) = .v h := by revert h; decide
@[simp] theorem kind_s1 (k : Fin 16) : kind (s1q k) = .s1 k := by revert k; decide
@[simp] theorem kind_s2 (j : Fin 15) : kind (s2q j) = .s2 j := by revert j; decide
@[simp] theorem kind_r1 (s : Fin 16) : kind (r1q s) = .r1 s := by revert s; decide
@[simp] theorem kind_r2 (s : Fin 16) : kind (r2q s) = .r2 s := by revert s; decide

/-- Whether device `c`'s cell of that kind is ever paid: the exchanges skip the device itself. -/
def Kind.live (c : Dev nD) : Kind → Bool
  | .stg => false | .k _ => true | .v _ => true | .s1 i => i ≠ c | .s2 _ => true | .r1 s => s ≠ c | .r2 s => s ≠ c
/-- The credit of a transfer of that kind. -/
def Kind.amt : Kind → ℕ
  | .k _ => 65536 | .v _ => 65536 | _ => 2048
/-- How late in the protocol that kind is waited for. -/
def Kind.lev : Kind → ℕ
  | .r1 _ => 2 | .r2 _ => 3 | _ => 0
theorem Kind.amt_pos (κ : Kind) : 0 < κ.amt := by cases κ <;> simp [Kind.amt]

/-! ## Held pieces of the buffers -/

abbrev kaP (c : Dev nD) (S : Finset S4096x1024.Idx) (f : Vec F S4096x1024 .f32) : sProp 𝕄 :=
  ((c : Thread nD τ).loc cc0_scratch3) ↦[S]{fullShare} f
abbrev vaP (c : Dev nD) (S : Finset S4096x1024.Idx) (f : Vec F S4096x1024 .f32) : sProp 𝕄 :=
  ((c : Thread nD τ).loc cc0_scratch4) ↦[S]{fullShare} f
abbrev rbP (c : Dev nD) (S : Finset S16x16x1024.Idx) (f : Vec F S16x16x1024 .f32) : sProp 𝕄 :=
  ((c : Thread nD τ).loc cc0_scratch5) ↦[S]{fullShare} f
abbrev ouP (c : Dev nD) (S : Finset S256x1024.Idx) (q : PosShare TreeShare) (f : Vec F S256x1024 .f32) : sProp 𝕄 :=
  ((c : Thread nD τ).loc cc0_stg3_0) ↦[S]{q} f
abbrev kP (c : Dev nD) (S : Finset S1x4096x128x128.Idx) (f : Vec F S1x4096x128x128 .f32) : sProp 𝕄 :=
  ((c : Thread nD τ).loc main_arg2) ↦[S]{fullShare} f
abbrev vP (c : Dev nD) (S : Finset S1x4096x128x128.Idx) (f : Vec F S1x4096x128x128 .f32) : sProp 𝕄 :=
  ((c : Thread nD τ).loc main_arg3) ↦[S]{fullShare} f

/-- The fifteen shares the finished chunk is read at while it is sent to the other devices. -/
abbrev shr (j : Fin 15) : PosShare TreeShare := piece fullShare 14 j

/-! ## The schedule -/

variable (I : Ins F)

/-- What the transfer cell of that kind on device `c` hands over. -/
def pay (c : Dev nD) : Kind → sProp 𝕄
  | .stg => iprop(emp)
  | .k h => iprop(kaP c (kcolM h).view.set (kaC I c) ∗ kP c (kheadM c h).view.set (I.k c))
  | .v h => iprop(vaP c (vcolM h).view.set (vaC I c) ∗ vP c (vheadM c h).view.set (I.v c))
  | .s1 _ => iprop(emp)
  | .s2 j => ouP c (chunkM c).view.set (shr j) (foC I)
  | .r1 s => iprop(rbP c (slotM s).view.set (rbC I c) ∗ ouP s (chunkM c).view.set fullShare (poC I s))
  | .r2 s => ouP c (chunkM s).view.set fullShare (foC I)
/-- What device `d`'s signal hands device `c`: the slot of `d`'s receive buffer that `c` will write. -/
def barPay (c d : Dev nD) : sProp 𝕄 := iprop(∃ f, rbP (F := F) d (slotM c).view.set f)

instance pay_storable (c : Dev nD) (κ : Kind) : BI.Storable (upEmb : UEmb _ 𝕄) (pay I c κ) := by
  cases κ <;> (unfold pay; infer_instance)
instance barPay_storable (c d : Dev nD) : BI.Storable (upEmb : UEmb _ 𝕄) (barPay (F := F) c d) := by
  unfold barPay; infer_instance

def duty0 (g : GSem nD τ sig) : Finset Duty :=
  match g.1.2, g.2 with
  | .tc, .reg _ => Finset.univ.erase g.1.1
  | .tc, .dma q => if (kind q).live g.1.1 then {0} else ∅
  | _, _ => ∅

def amt0 (g : GSem nD τ sig) : ℕ :=
  match g.2 with
  | .reg _ => 1
  | .dma q => (kind q).amt

def pay0 (g : GSem nD τ sig) (d : Duty) : sProp 𝕄 :=
  match g.2 with
  | .reg _ => barPay g.1.1 d
  | .dma q => pay I g.1.1 (kind q)

/-- One round per cell. -/
def Rd : Rounds.Schedule (GSem nD τ sig) Duty 𝕄 where
  duties g r := if r = 0 then duty0 g else ∅
  unitless _ := False
  amount g _ _ := amt0 g
  payload g _ d := pay0 I g d
  amount_pos g _ _ _ := by
    unfold amt0; split
    · exact Nat.one_pos
    · exact Kind.amt_pos _

instance Rd_payload_storable (g : GSem nD τ sig) (r : ℕ) (d : Duty) :
    BI.Storable (upEmb : UEmb _ 𝕄) ((Rd I).payload g r d) := by
  show BI.Storable upEmb (pay0 I g d)
  unfold pay0; split <;> infer_instance

theorem duties_bar (c : Dev nD) : (Rd I).duties (barC c) 0 = Finset.univ.erase c := rfl
theorem duties_dma {c : Dev nD} {q : DmaSem sig} {κ : Kind} (hq : kind q = κ) (h : κ.live c = true) : (Rd I).duties (dmaC c q) 0 = {0} := by
  subst hq
  show (if (kind q).live c = true then ({0} : Finset Duty) else ∅) = {0}
  exact if_pos h
theorem duties_later (g : GSem nD τ sig) : ∀ r, 1 ≤ r → (Rd I).duties g r = ∅ := fun r hr => if_neg (by omega)
theorem duties_dead {c : Dev nD} {q : DmaSem sig} (h : (kind q).live c = false) : ∀ r, 0 ≤ r → (Rd I).duties (dmaC c q) r = ∅ := fun r _ => by
  show (if r = 0 then (if (kind q).live c = true then ({0} : Finset Duty) else ∅) else ∅) = ∅
  rw [h]; split <;> rfl

theorem amount_bar (c : Dev nD) (d : Duty) : (Rd I).amount (barC c) 0 d = 1 := rfl
theorem amount_dma {c : Dev nD} {q : DmaSem sig} {κ : Kind} (hq : kind q = κ) (d : Duty) : (Rd I).amount (dmaC c q) 0 d = κ.amt := by subst hq; rfl
theorem payload_bar (c d : Dev nD) : (Rd I).payload (barC c) 0 d = barPay c d := rfl
theorem payload_dma {c : Dev nD} {q : DmaSem sig} {κ : Kind} (hq : kind q = κ) (d : Duty) : (Rd I).payload (dmaC c q) 0 d = pay I c κ := by subst hq; rfl

theorem expect_bar (c : Dev nD) : (Rd I).expect (barC c) 0 = 15 := by
  unfold Schedule.expect Schedule.amountOf
  rw [duties_bar, Finset.sum_congr rfl fun d _ => amount_bar I c d, Finset.sum_const, Finset.card_erase_of_mem (Finset.mem_univ _)]
  rfl
theorem expect_dma {c : Dev nD} {q : DmaSem sig} {κ : Kind} (hq : kind q = κ) (h : κ.live c = true) : (Rd I).expect (dmaC c q) 0 = κ.amt := by
  unfold Schedule.expect Schedule.amountOf
  rw [duties_dma I hq h, Finset.sum_singleton, amount_dma I hq]
theorem rest_bar (c : Dev nD) :
    bigSep ((Rd I).duties (barC c) 0 \ ∅) (fun d => (Rd I).payload (barC c) 0 d) = bigSep (Finset.univ.erase c) fun d => barPay (F := F) c d := by
  rw [Finset.sdiff_empty, duties_bar]; rfl
theorem rest_dma {c : Dev nD} {q : DmaSem sig} {κ : Kind} (hq : kind q = κ) (h : κ.live c = true) :
    bigSep ((Rd I).duties (dmaC c q) 0 \ ∅) (fun d => (Rd I).payload (dmaC c q) 0 d) = pay I c κ := by
  rw [Finset.sdiff_empty, duties_dma I hq h, bigSep_singleton, payload_dma I hq]

/-! ## What each core owes -/

/-- A barrier unit to each device of `S`; the first exchange's transfer, and the second's, to each device of `S`. -/
def tB (S : Finset (Dev nD)) : CellTallies nD τ sig Unit := ∑ d ∈ S, tallyAt (barC d) () 1
def t1 (c : Dev nD) (S : Finset (Dev nD)) : CellTallies nD τ sig Unit := ∑ d ∈ S, tallyAt (dmaC d (r1q c)) () 2048
def t2 (c : Dev nD) (S : Finset (Dev nD)) : CellTallies nD τ sig Unit := ∑ d ∈ S, tallyAt (dmaC d (r2q c)) () 2048

def Ow (c : Dev nD) (SB S1 S2 : Finset (Dev nD)) : CellTallies nD τ sig Unit := tB SB + t1 c S1 + t2 c S2
/-- At launch: everything to everybody else. -/
def O₀ (c : Dev nD) : CellTallies nD τ sig Unit := Ow c (Finset.univ.erase c) (Finset.univ.erase c) (Finset.univ.erase c)

theorem Ow_insB (c : Dev nD) {SB S1 S2 : Finset (Dev nD)} {d : Dev nD} (h : d ∉ SB) :
    Ow c (insert d SB) S1 S2 = Ow c SB S1 S2 + tallyAt (barC d) () 1 := by
  unfold Ow tB; rw [Finset.sum_insert h]; ac_rfl
theorem Ow_ins1 (c : Dev nD) {SB S1 S2 : Finset (Dev nD)} {d : Dev nD} (h : d ∉ S1) :
    Ow c SB (insert d S1) S2 = Ow c SB S1 S2 + tallyAt (dmaC d (r1q c)) () 2048 := by
  unfold Ow t1; rw [Finset.sum_insert h]; ac_rfl
theorem Ow_ins2 (c : Dev nD) {SB S1 S2 : Finset (Dev nD)} {d : Dev nD} (h : d ∉ S2) :
    Ow c SB S1 (insert d S2) = Ow c SB S1 S2 + tallyAt (dmaC d (r2q c)) () 2048 := by
  unfold Ow t2; rw [Finset.sum_insert h]; ac_rfl
theorem Ow_empty (c : Dev nD) : Ow c ∅ ∅ ∅ = 0 := by
  unfold Ow tB t1 t2; simp only [Finset.sum_empty, add_zero]

theorem sum_apply' (S : Finset (Dev nD)) (f : Dev nD → CellTallies nD τ sig Unit) (g : GSem nD τ sig) (u : Unit) :
    (∑ d ∈ S, f d) g u = ∑ d ∈ S, f d g u := by
  rw [Finset.sum_apply, Finsupp.finset_sum_apply]

theorem pos_of_sum {S : Finset (Dev nD)} {G : Dev nD → GSem nD τ sig} {n : ℕ} {g : GSem nD τ sig} {u : Unit}
    (h : 0 < (∑ d ∈ S, tallyAt (G d) () n : CellTallies nD τ sig Unit) g u) : ∃ d ∈ S, g = G d := by
  rw [sum_apply'] at h
  obtain ⟨d, hd, hp⟩ := Finset.exists_ne_zero_of_sum_ne_zero (Nat.pos_iff_ne_zero.mp h)
  refine ⟨d, hd, ?_⟩
  by_contra hn
  rw [tallyAt_apply, if_neg (fun h' => hn h'.1)] at hp
  exact hp rfl

theorem Ow_pos {c : Dev nD} {SB S1 S2 : Finset (Dev nD)} {g : GSem nD τ sig} {u : Unit} (h : 0 < Ow c SB S1 S2 g u) :
    (∃ d ∈ SB, g = barC d) ∨ (∃ d ∈ S1, g = dmaC d (r1q c)) ∨ ∃ d ∈ S2, g = dmaC d (r2q c) := by
  unfold Ow at h
  rw [Pi.add_apply, Finsupp.add_apply, Pi.add_apply, Finsupp.add_apply] at h
  by_contra hn
  rw [not_or, not_or] at hn
  have h0 : tB SB g u = 0 := by by_contra h'; exact hn.1 (pos_of_sum (Nat.pos_of_ne_zero h'))
  have h1 : t1 c S1 g u = 0 := by by_contra h'; exact hn.2.1 (pos_of_sum (Nat.pos_of_ne_zero h'))
  have h2 : t2 c S2 g u = 0 := by by_contra h'; exact hn.2.2 (pos_of_sum (Nat.pos_of_ne_zero h'))
  omega

def L (g : GSem nD τ sig) : Finset Unit := if g.1.2 = .tc then {()} else ∅
def levS : SemLoc sig → ℕ
  | .reg _ => 1
  | .dma q => (kind q).lev
def lv (g : GSem nD τ sig) (_ : Unit) : ℕ := levS g.2
theorem L_of_ne (g : GSem nD τ sig) (h : g.1.2 ≠ .tc) : L g = ∅ := if_neg h
theorem L_tc (c : Dev nD) (sm : SemLoc sig) : L ((c : Thread nD τ), sm) = {()} := if_pos rfl

/-- A wait is allowed while only later things are owed. -/
theorem mayWait (c : Dev nD) (sm : SemLoc sig) (SB S1 S2 : Finset (Dev nD)) (hB : SB = ∅ ∨ levS sm < 1) (h1 : S1 = ∅ ∨ levS sm < 2)
    (h2 : S2 = ∅ ∨ levS sm < 3) : (levAts L lv : sProp 𝕄) ⊢ MayWait (c : Thread nD τ) sm () (Ow c SB S1 S2) :=
  MayOwe.of_cut (L := L) (lev := lv) (levS sm) (fun p hp => by rw [Finset.mem_singleton.mp hp, L_tc]; exact Finset.mem_singleton_self _)
    (fun g u hg => by rcases Ow_pos hg with ⟨d, -, rfl⟩ | ⟨d, -, rfl⟩ | ⟨d, -, rfl⟩ <;> exact Finset.mem_singleton_self _)
    (fun p hp => by rw [Finset.mem_singleton.mp hp]; exact Nat.le_refl _)
    (fun g u hg => by
      rcases Ow_pos hg with ⟨d, hd, rfl⟩ | ⟨d, hd, rfl⟩ | ⟨d, hd, rfl⟩
      · rcases hB with rfl | hB
        · exact absurd hd (Finset.notMem_empty _)
        · exact hB
      · rcases h1 with rfl | h1
        · exact absurd hd (Finset.notMem_empty _)
        · show levS sm < (kind (r1q c)).lev; rw [kind_r1]; exact h1
      · rcases h2 with rfl | h2
        · exact absurd hd (Finset.notMem_empty _)
        · show levS sm < (kind (r2q c)).lev; rw [kind_r2]; exact h2)

/-! ## The cells' records, held by every device -/

def osem : Fin 79 → SemLoc sig := fun i => .dma ⟨4 + i.val, by have := i.isLt; show _ < 83; omega⟩
def csem (i : Fin 80) : SemLoc sig := Fin.cases (.reg barS) osem i
abbrev kcell (ck : Dev nD × Fin 80) : GSem nD τ sig := ((ck.1 : Thread nD τ), csem ck.2)

/-- Every cell's invariant under some name, and that it is in its first round. -/
def Rec : sProp 𝕄 := bigSep Finset.univ fun ck : Dev nD × Fin 80 => iprop(∃ κ : ℕ, cellInv ER (Rd I) κ (kcell ck) ∗ reached ER (kcell ck) 0)

instance Rec_persistent : BI.Persistent (Rec I) := by unfold Rec; infer_instance

theorem rec_bar (c : Dev nD) : Rec I ⊢ iprop(∃ κ : ℕ, cellInv ER (Rd I) κ (barC c) ∗ reached ER (barC c) 0) :=
  bigSep_elim (Finset.mem_univ ((c, 0) : Dev nD × Fin 80))
theorem rec_dma (c : Dev nD) (q : DmaSem sig) (hq : 4 ≤ q.val) : Rec I ⊢ iprop(∃ κ : ℕ, cellInv ER (Rd I) κ (dmaC c q) ∗ reached ER (dmaC c q) 0) := by
  have hq' : q.val < 83 := q.isLt
  have e : dmaC c q = kcell (c, (⟨q.val - 4, by omega⟩ : Fin 79).succ) := by
    unfold dmaC kcell csem
    rw [Fin.cases_succ]
    unfold osem
    exact congrArg (fun x => ((c : Thread nD τ), SemLoc.dma x)) (Fin.ext (by show q.val = 4 + (q.val - 4); omega))
  rw [e]
  exact bigSep_elim (Finset.mem_univ ((c, (⟨q.val - 4, by omega⟩ : Fin 79).succ) : Dev nD × Fin 80))

end Cert.KernelIdeal.Attn

end
-- ==== Proof.Steps.lean ====
/-
# One rule per effect: the handshake, the copied heads and the waits

Each rule takes the effect's operands with an equation saying which they are, and the state its phase keeps.
-/
module

public import proofs.«01_k».proof.Proof.Cells

@[expose] public section

set_option maxRecDepth 16384

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

abbrev 𝒱₀ : Variants := Variants.none

/-! ## Sets of devices, heads and chunks, taken one at a time -/

/-- What an enumeration has still to reach from step `n` on, and what it has passed from step one. -/
def restE (e : ℕ → Dev nD) (n : ℕ) : Finset (Dev nD) := (Finset.Ico n 16).image e
def doneE (e : ℕ → Dev nD) (n : ℕ) : Finset (Dev nD) := (Finset.Ico 1 n).image e

structure Enum (c : Dev nD) (e : ℕ → Dev nD) : Prop where
  inj : ∀ i j, 1 ≤ i → i < 16 → 1 ≤ j → j < 16 → e i = e j → i = j
  ne : ∀ i, 1 ≤ i → i < 16 → e i ≠ c
  all : restE e 1 = Finset.univ.erase c

theorem fwd_enum (c : Dev nD) : Enum c (fwd c) where
  inj i j hi hi' hj hj' h := by
    have h' : (c.val + i) % 16 = (c.val + j) % 16 := congrArg Fin.val h
    omega
  ne i hi hi' h := by
    have h' : (c.val + i) % 16 = c.val := congrArg Fin.val h
    have : c.val < 16 := c.isLt
    omega
  all := by revert c; decide
theorem bwd_enum (c : Dev nD) : Enum c (bwd c) where
  inj i j hi hi' hj hj' h := by
    have h' : (c.val + 15 * i) % 16 = (c.val + 15 * j) % 16 := congrArg Fin.val h
    omega
  ne i hi hi' h := by
    have h' : (c.val + 15 * i) % 16 = c.val := congrArg Fin.val h
    have : c.val < 16 := c.isLt
    omega
  all := by revert c; decide

section Enum
variable {c : Dev nD} {e : ℕ → Dev nD} (he : Enum c e)
include he

theorem rest_ins {n : ℕ} (h1 : 1 ≤ n) (h : n < 16) : restE e n = insert (e n) (restE e (n + 1)) := by
  unfold restE
  rw [← Finset.image_insert]
  congr 1
  ext x; simp only [Finset.mem_Ico, Finset.mem_insert]; omega
theorem rest_not {n : ℕ} (h1 : 1 ≤ n) (h : n < 16) : e n ∉ restE e (n + 1) := by
  unfold restE
  rw [Finset.mem_image]
  rintro ⟨j, hj, hn⟩
  rw [Finset.mem_Ico] at hj
  have := he.inj j n (by omega) hj.2 h1 h hn
  omega
theorem done_ins {n : ℕ} (h1 : 1 ≤ n) (h : n < 16) : doneE e (n + 1) = insert (e n) (doneE e n) := by
  unfold doneE
  rw [← Finset.image_insert]
  congr 1
  ext x; simp only [Finset.mem_Ico, Finset.mem_insert]; omega
theorem done_not {n : ℕ} (h1 : 1 ≤ n) (h : n < 16) : e n ∉ doneE e n := by
  unfold doneE
  rw [Finset.mem_image]
  rintro ⟨j, hj, hn⟩
  rw [Finset.mem_Ico] at hj
  have := he.inj j n hj.1 (by omega) h1 h hn
  omega
theorem peel_rest {n : ℕ} (h1 : 1 ≤ n) (h : n < 16) (Φ : Dev nD → sProp 𝕄) :
    bigSep (restE e n) Φ = iprop(Φ (e n) ∗ bigSep (restE e (n + 1)) Φ) := by
  rw [rest_ins he h1 h]; exact bigSep_insert (rest_not he h1 h)
theorem push_done {n : ℕ} (h1 : 1 ≤ n) (h : n < 16) (Φ : Dev nD → sProp 𝕄) :
    bigSep (doneE e (n + 1)) Φ = iprop(Φ (e n) ∗ bigSep (doneE e n) Φ) := by
  rw [done_ins he h1 h]; exact bigSep_insert (done_not he h1 h)
theorem done_all : doneE e 16 = Finset.univ.erase c := he.all
end Enum
theorem done_one (e : ℕ → Dev nD) : doneE e 1 = ∅ := rfl
theorem rest_end (e : ℕ → Dev nD) : restE e 16 = ∅ := rfl

/-- The members of `S` from number `n` on, and those before it. -/
def fromN {N : ℕ} (S : Finset (Fin N)) (n : ℕ) : Finset (Fin N) := S.filter fun i => n ≤ i.val
def uptoN {N : ℕ} (S : Finset (Fin N)) (n : ℕ) : Finset (Fin N) := S.filter fun i => i.val < n

section Num
variable {N : ℕ} (S : Finset (Fin N))
theorem from_zero : fromN S 0 = S := Finset.filter_true_of_mem fun i _ => Nat.zero_le _
theorem from_end : fromN S N = ∅ := Finset.filter_false_of_mem fun i _ => by have := i.isLt; omega
theorem upto_zero : uptoN S 0 = ∅ := Finset.filter_false_of_mem fun i _ => Nat.not_lt_zero _
theorem upto_end : uptoN S N = S := Finset.filter_true_of_mem fun i _ => i.isLt
theorem from_ins {n : ℕ} (h : n < N) (hm : (⟨n, h⟩ : Fin N) ∈ S) : fromN S n = insert (⟨n, h⟩ : Fin N) (fromN S (n + 1)) := by
  unfold fromN
  ext x
  simp only [Finset.mem_filter, Finset.mem_insert]
  constructor
  · rintro ⟨hx, hn⟩
    by_cases e : x.val = n
    · exact Or.inl (Fin.ext e)
    · exact Or.inr ⟨hx, by omega⟩
  · rintro (rfl | ⟨hx, hn⟩)
    · exact ⟨hm, Nat.le_refl _⟩
    · exact ⟨hx, by omega⟩
theorem from_not {n : ℕ} (h : n < N) : (⟨n, h⟩ : Fin N) ∉ fromN S (n + 1) := by
  unfold fromN; rw [Finset.mem_filter]; rintro ⟨-, h'⟩; exact absurd h' (by show ¬ n + 1 ≤ n; omega)
theorem upto_ins {n : ℕ} (h : n < N) (hm : (⟨n, h⟩ : Fin N) ∈ S) : uptoN S (n + 1) = insert (⟨n, h⟩ : Fin N) (uptoN S n) := by
  unfold uptoN
  ext x
  simp only [Finset.mem_filter, Finset.mem_insert]
  constructor
  · rintro ⟨hx, hn⟩
    by_cases e : x.val = n
    · exact Or.inl (Fin.ext e)
    · exact Or.inr ⟨hx, by omega⟩
  · rintro (rfl | ⟨hx, hn⟩)
    · exact ⟨hm, Nat.lt_succ_self _⟩
    · exact ⟨hx, by omega⟩
theorem upto_not {n : ℕ} (h : n < N) : (⟨n, h⟩ : Fin N) ∉ uptoN S n := by
  unfold uptoN; rw [Finset.mem_filter]; rintro ⟨-, h'⟩; exact absurd h' (by show ¬ n < n; omega)
theorem from_skip {n : ℕ} (h : n < N) (hm : (⟨n, h⟩ : Fin N) ∉ S) : fromN S n = fromN S (n + 1) := by
  unfold fromN
  refine Finset.filter_congr fun x hx => ⟨fun hn => ?_, fun hn => by omega⟩
  by_contra hc
  exact hm ((Fin.ext (by show n = x.val; omega) : (⟨n, h⟩ : Fin N) = x) ▸ hx)
theorem upto_skip {n : ℕ} (h : n < N) (hm : (⟨n, h⟩ : Fin N) ∉ S) : uptoN S (n + 1) = uptoN S n := by
  unfold uptoN
  refine Finset.filter_congr fun x hx => ⟨fun hn => ?_, fun hn => by omega⟩
  by_contra hc
  exact hm ((Fin.ext (by show n = x.val; omega) : (⟨n, h⟩ : Fin N) = x) ▸ hx)
theorem peel_from {n : ℕ} (h : n < N) (hm : (⟨n, h⟩ : Fin N) ∈ S) (Φ : Fin N → sProp 𝕄) :
    bigSep (fromN S n) Φ = iprop(Φ ⟨n, h⟩ ∗ bigSep (fromN S (n + 1)) Φ) := by
  rw [from_ins S h hm]; exact bigSep_insert (from_not S h)
theorem push_upto {n : ℕ} (h : n < N) (hm : (⟨n, h⟩ : Fin N) ∈ S) (Φ : Fin N → sProp 𝕄) :
    bigSep (uptoN S (n + 1)) Φ = iprop(Φ ⟨n, h⟩ ∗ bigSep (uptoN S n) Φ) := by
  rw [upto_ins S h hm]; exact bigSep_insert (upto_not S h)
end Num

/-- A held set cut in two. -/
theorem pts_split {ℓ : Loc nD τ sig} {q : PosShare TreeShare} {f : Buf (Elt F) ℓ} {S A B : Finset (Idx ℓ)}
    (h : ∀ i, i ∈ S ↔ i ∈ A ∨ i ∈ B) (hd : ∀ i ∈ A, i ∉ B) :
    (ℓ ↦[S]{q} f : sProp 𝕄) = iprop((ℓ ↦[A]{q} f) ∗ ℓ ↦[B]{q} f) := by
  classical
  have e : S = A ∪ B := by ext i; rw [Finset.mem_union]; exact h i
  have d : Disjoint A B := Finset.disjoint_left.mpr hd
  rw [e]; exact BI.Entails.antisymm (pointsTo_union d).1 (pointsTo_union d).2

/-! ## What every phase keeps -/

variable (I : Ins F)

def Own (c : Dev nD) (SB S1 S2 : Finset (Dev nD)) : sProp 𝕄 :=
  iprop(Rec I ∗ levAts L lv ∗ ∃ W, owes (c : Thread nD τ) (Ow c SB S1 S2) W)

theorem credit_16 {sp : Space} (m : Memref sig .tc sp S16x1024 .f32) : m.view.dmaCredit = 2048 := rfl
theorem credit_4096 {sp : Space} (m : Memref sig .tc sp S4096x128 .f32) : m.view.dmaCredit = 65536 := rfl

/-! ## The handshake -/

/-- Before signal `n`: the barrier units still owed, and the slots of the receive buffer still held. -/
def SigSt (c : Dev nD) (n : ℕ) : sProp 𝕄 :=
  iprop(Own I c (restE (fwd c) n) (Finset.univ.erase c) (Finset.univ.erase c)
    ∗ bigSep (restE (fwd c) n) fun d => iprop(dutyTok ER (barC d) 0 c ∗ barPay d c))

theorem step_signal (c : Dev nD) (n : ℕ) (h1 : 1 ≤ n) (h : n < 16) {dst : Dev nD} (hd : dst = fwd c n)
    {α : Type} {Q : α → sProp 𝕄} {k : PUnit → Prog (TpuEff nD τ sig (Elt F) Λ₀ .tc) α} :
    SigSt I c n ⊢ iprop((SigSt I c (n + 1) -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (dst : Thread nD τ) barS 1) k) Q) := by
  subst hd
  unfold SigSt Own
  rw [peel_rest (fwd_enum c) h1 h]
  iintro ⟨⟨#HR, #HL, ⟨%W, HO⟩⟩, ⟨Ht, Hs⟩, Hrest⟩ Hk
  rw [rest_ins (fwd_enum c) h1 h, Ow_insB c (rest_not (fwd_enum c) h1 h)]
  ihave Hc := (rec_bar I (fwd c n)) $$ HR
  icases Hc with ⟨%κ, #HI, #Hr⟩
  iapply (Rounds.wp_signal 𝒱₀ ER (Rd I) (c : Thread nD τ) none (dst := (fwd c n : Thread nD τ)) (κ := κ) (d := (c : Duty))
      (by rw [duties_bar]; exact Finset.mem_erase.mpr ⟨((fwd_enum c).ne n h1 h).symm, Finset.mem_univ _⟩) rfl ()
      (Ow c (restE (fwd c) (n + 1)) (Finset.univ.erase c) (Finset.univ.erase c)) rfl) $$ [HO Ht Hs]
  · isplitr; · iexact HI
    isplitl [HO]; · iexact HO
    isplitl [Ht]; · iexact Ht
    isplitl [Hs]; · iapply (Entails.of_eq (payload_bar I (fwd c n) c).symm); iexact Hs
    iexact Hr
  iintro HO
  iapply Hk
  isplitl [HO]
  · isplitr; · iexact HR
    isplitr; · iexact HL
    iexists W; iexact HO
  iexact Hrest

/-- The wait for all the others: their slots for this device. -/
theorem step_barrier (c : Dev nD) {α : Type} {Q : α → sProp 𝕄} {k : PUnit → Prog (TpuEff nD τ sig (Elt F) Λ₀ .tc) α} :
    iprop(SigSt I c 16 ∗ cred (tallyAt (barC c) () 15) ∗ atPos ER (barC c) 0 ∅ 0)
      ⊢ iprop(((Own I c ∅ (Finset.univ.erase c) (Finset.univ.erase c) ∗ semVal (barC c) 0 ∗ bigSep (Finset.univ.erase c) fun d => barPay (F := F) c d)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 15) k) Q) := by
  unfold SigSt Own
  rw [rest_end]
  iintro ⟨⟨⟨#HR, #HL, ⟨%W, HO⟩⟩, -⟩, Hc, Ha⟩ Hk
  ihave Hc' := (rec_bar I c) $$ HR
  icases Hc' with ⟨%κ, #HI, #Hr⟩
  iapply (Rounds.wp_wait_rest_token 𝒱₀ ER (Rd I) (c : Thread nD τ) none (κ := κ)
      (wpE_semWait_eq 𝒱₀ (c : Thread nD τ) none Set.univ) (Set.mem_univ _) () (O := Ow c ∅ (Finset.univ.erase c) (Finset.univ.erase c)) (W := W) (R := 0) (m := 0) (T := ∅)
      (by rw [expect_bar])) $$ [Hc HO Ha]
  · isplitr; · iexact HI
    isplitl [Hc]; · iexact Hc
    isplitl [HO]; · iexact HO
    isplitr; · iapply (mayWait c (.reg barS) ∅ (Finset.univ.erase c) (Finset.univ.erase c) (Or.inl rfl) (Or.inr (by decide)) (Or.inr (by decide))); iexact HL
    iexact Ha
  iintro ⟨HO, Ha, -, Hp⟩
  imod (Rounds.cell_close ER (Rd I) (Set.mem_univ κ) (fun h => h) (R := 0 + 1) (duties_later I (barC c))) $$ [Ha] with Hz
  · isplitr; · iexact HI
    iexact Ha
  iapply Hk
  isplitl [HO]
  · isplitr; · iexact HR
    isplitr; · iexact HL
    iexists _; iexact HO
  isplitl [Hz]; · iexact Hz
  iapply (Entails.of_eq (rest_bar I c)); iexact Hp

/-! ## A wait for a transfer -/

/-- A live transfer cell waited for: what it hands over, and its counter at zero for good. -/
theorem dma_wait (c : Dev nD) {q q' : DmaSem sig} (hq' : q' = q) {κ : Kind} (hq : kind q = κ) (h4 : 4 ≤ q.val) (hl : κ.live c = true) {SB S1 S2 : Finset (Dev nD)}
    (hB : SB = ∅ ∨ κ.lev < 1) (h1 : S1 = ∅ ∨ κ.lev < 2) (h2 : S2 = ∅ ∨ κ.lev < 3)
    {sp sp' : Space} {s s' : Shape} {e e' : EltTy} {src : Memref sig .tc sp' s' e'} {dst : Memref sig .tc sp s e}
    {hsrc : src.view.WordExact} {hdst : dst.view.WordExact} (ha : dst.view.dmaCredit = κ.amt)
    {α : Type} {Q : α → sProp 𝕄} {k : PUnit → Prog (TpuEff nD τ sig (Elt F) Λ₀ .tc) α} :
    iprop(Own I c SB S1 S2 ∗ cred (tallyAt (dmaC c q) () κ.amt) ∗ atPos ER (dmaC c q) 0 ∅ 0)
      ⊢ iprop(((Own I c SB S1 S2 ∗ semVal (dmaC c q) 0 ∗ pay I c κ)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q' src dst hsrc hdst) k) Q) := by
  subst hq'
  unfold Own
  iintro ⟨⟨#HR, #HL, ⟨%W, HO⟩⟩, Hc, Ha⟩ Hk
  ihave Hc' := (rec_dma I c q' h4) $$ HR
  icases Hc' with ⟨%κ', #HI, #Hr⟩
  rw [← ha]
  iapply (Rounds.wp_wait_rest_token 𝒱₀ ER (Rd I) (c : Thread nD τ) none (κ := κ')
      (wpE_waitDma2_eq 𝒱₀ (c : Thread nD τ) none Set.univ) (Set.mem_univ _) () (O := Ow c SB S1 S2) (W := W) (R := 0) (m := 0) (T := ∅)
      (by rw [Nat.zero_add, expect_dma I hq hl, ha])) $$ [Hc HO Ha]
  · isplitr; · iexact HI
    isplitl [Hc]; · iexact Hc
    isplitl [HO]; · iexact HO
    isplitr
    · iapply (mayWait c (.dma q') SB S1 S2 (by show SB = ∅ ∨ (kind q').lev < 1; rw [hq]; exact hB) (by show S1 = ∅ ∨ (kind q').lev < 2; rw [hq]; exact h1) (by show S2 = ∅ ∨ (kind q').lev < 3; rw [hq]; exact h2)); iexact HL
    iexact Ha
  iintro ⟨HO, Ha, -, Hp⟩
  imod (Rounds.cell_close ER (Rd I) (Set.mem_univ κ') (fun h => h) (R := 0 + 1) (duties_later I (dmaC c q'))) $$ [Ha] with Hz
  · isplitr; · iexact HI
    iexact Ha
  iapply Hk
  isplitl [HO]
  · isplitr; · iexact HR
    isplitr; · iexact HL
    iexists _; iexact HO
  isplitl [Hz]; · iexact Hz
  iapply (Entails.of_eq (rest_dma I hq hl)); iexact Hp

end Cert.KernelIdeal.Attn

end
-- ==== Proof.Attend.lean ====
/-
# One rule per effect: the copied heads and the attention over them

Device `c` copies its eight heads of the caches column by column, waits for each head before it uses it, and works through
the sixteen blocks of the context.
-/
module

public import proofs.«01_k».proof.Proof.Steps

@[expose] public section

set_option maxRecDepth 16384

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Ins F)

/-- Everybody but `c`. -/
abbrev oth (c : Dev nD) : Finset (Dev nD) := Finset.univ.erase c

/-! ## The pieces by their offsets -/

theorem khead_of {c : Dev nD} {h : Fin 8} {off : Fin 4 → ℕ} (ho : off = ![0, 0, 8 * c.val + h.val, 0])
    (p : ∀ i, off i + S1x4096x1x128.size i ≤ S1x4096x128x128.size i) :
    ((Memref.whole main_arg2).slice (Rect.unit (s := S1x4096x128x128) off S1x4096x1x128.size p) (fun _ => rfl)).squeeze S4096x128 squeezes_S1x4096x1x128_S4096x128 = kheadM c h := by
  subst ho; rfl
theorem vhead_of {c : Dev nD} {h : Fin 8} {off : Fin 4 → ℕ} (ho : off = ![0, 0, 8 * c.val + h.val, 0])
    (p : ∀ i, off i + S1x4096x1x128.size i ≤ S1x4096x128x128.size i) :
    ((Memref.whole main_arg3).slice (Rect.unit (s := S1x4096x128x128) off S1x4096x1x128.size p) (fun _ => rfl)).squeeze S4096x128 squeezes_S1x4096x1x128_S4096x128 = vheadM c h := by
  subst ho; rfl
theorem chunk_of {k : Fin 16} {off : Fin 2 → ℕ} (ho : off = ![16 * k.val, 0])
    (p : ∀ i, off i + S16x1024.size i ≤ S256x1024.size i) :
    (Memref.whole cc0_stg3_0).slice (Rect.unit (s := S256x1024) off S16x1024.size p) (fun _ => rfl) = chunkM k := by
  subst ho; rfl
theorem slot_of {s : Fin 16} {off : Fin 3 → ℕ} (ho : off = ![s.val, 0, 0])
    (p : ∀ i, off i + S1x16x1024.size i ≤ S16x16x1024.size i) :
    ((Memref.whole cc0_scratch5).slice (Rect.unit (s := S16x16x1024) off S1x16x1024.size p) (fun _ => rfl)).squeeze S16x1024 squeezes_S1x16x1024_S16x1024 = slotM s := by
  subst ho; rfl

/-- The elements a load through a rectangle of a whole buffer touches are the rectangle's. -/
theorem setOn_whole (b : Ref sig .tc) (S : Finset (b.ty.shape.Idx)) : (Memref.whole b).view.setOn S = S := by
  ext i
  constructor
  · intro h; obtain ⟨j, hj, rfl⟩ := Finset.mem_map.mp h; exact hj
  · intro h; exact Finset.mem_map.mpr ⟨i, h, rfl⟩

theorem peelF {N : ℕ} {S : Finset (Fin N)} {i : Fin N} (hm : i ∈ S) (Φ : Fin N → sProp 𝕄) :
    bigSep (fromN S i.val) Φ = iprop(Φ i ∗ bigSep (fromN S (i.val + 1)) Φ) := peel_from S i.isLt hm Φ
theorem pushF {N : ℕ} {S : Finset (Fin N)} {i : Fin N} (hm : i ∈ S) (Φ : Fin N → sProp 𝕄) :
    bigSep (uptoN S (i.val + 1)) Φ = iprop(Φ i ∗ bigSep (uptoN S i.val) Φ) := push_upto S i.isLt hm Φ
theorem takeF {J : Type} [DecidableEq J] {S : Finset J} {i : J} (hm : i ∈ S) (Φ : J → sProp 𝕄) :
    bigSep S Φ = iprop(Φ i ∗ bigSep (S.erase i) Φ) := bigSep_erase hm

/-! ## The copies -/

def kSrc (c : Dev nD) (h : Fin 8) : sProp 𝕄 :=
  iprop((∃ f, kaP (F := F) c (kcolM h).view.set f) ∗ kP c (kheadM c h).view.set (I.k c) ∗ dutyTok ER (dmaC c (kq h)) 0 0)
def vSrc (c : Dev nD) (h : Fin 8) : sProp 𝕄 :=
  iprop((∃ f, vaP (F := F) c (vcolM h).view.set f) ∗ vP c (vheadM c h).view.set (I.v c) ∗ dutyTok ER (dmaC c (vq h)) 0 0)
abbrev kCr (c : Dev nD) (h : Fin 8) : sProp 𝕄 := cred (tallyAt (dmaC c (kq h)) () 65536)
abbrev vCr (c : Dev nD) (h : Fin 8) : sProp 𝕄 := cred (tallyAt (dmaC c (vq h)) () 65536)

/-- `n` heads of keys and `m` heads of values are on their way. -/
def CpSt (c : Dev nD) (n m : ℕ) : sProp 𝕄 :=
  iprop(Rec I ∗ (bigSep (fromN Finset.univ n) (kSrc I c) ∗ bigSep (uptoN Finset.univ n) (kCr (F := F) c))
    ∗ (bigSep (fromN Finset.univ m) (vSrc I c) ∗ bigSep (uptoN Finset.univ m) (vCr (F := F) c)))

theorem kcol_pay (c : Dev nD) (h : Fin 8) (f : Vec F S4096x1024 .f32) :
    iprop(kaP c (kcolM h).view.set ((kcolM h).view.write (Elt F) f ((kheadM c h).view.read (Elt F) (I.k c)) Finset.univ) ∗ kP c (kheadM c h).view.set (I.k c))
      ⊢ (Rd I).payload (dmaC c (kq h)) 0 0 := by
  rw [payload_dma I (kind_k h) 0]
  exact sep_mono_left (Entails.of_eq (pointsTo_congr (kcol_landed I c h f)))
theorem vcol_pay (c : Dev nD) (h : Fin 8) (f : Vec F S4096x1024 .f32) :
    iprop(vaP c (vcolM h).view.set ((vcolM h).view.write (Elt F) f ((vheadM c h).view.read (Elt F) (I.v c)) Finset.univ) ∗ vP c (vheadM c h).view.set (I.v c))
      ⊢ (Rd I).payload (dmaC c (vq h)) 0 0 := by
  rw [payload_dma I (kind_v h) 0]
  exact sep_mono_left (Entails.of_eq (pointsTo_congr (vcol_landed I c h f)))
theorem step_cpk (c : Dev nD) (h : Fin 8) {n m : ℕ} (hn : h.val = n) {off : Fin 4 → ℕ} (ho : off = ![0, 0, 8 * c.val + h.val, 0])
    {p : ∀ i, off i + S1x4096x1x128.size i ≤ S1x4096x128x128.size i} {src : Memref sig .tc .hbm S4096x128 .f32}
    (hs : src = ((Memref.whole main_arg2).slice (Rect.unit (s := S1x4096x128x128) off S1x4096x1x128.size p) (fun _ => rfl)).squeeze S4096x128 squeezes_S1x4096x1x128_S4096x128)
    {dst : Memref sig .tc .vmem S4096x128 .f32} (hd : dst = kcolM h) {sm : SemLoc sig} (hsm : sm = .dma (kq h))
    {hsrc : src.view.WordExact} {hdst : dst.view.WordExact} {hsem : DmaTarget.Typed (nD := nD) (τ := τ) .hbm sm (DmaTarget.here (p := Proc.tc) dst)}
    {α : Type} {Q : α → sProp 𝕄} {k : PUnit → Prog (TpuEff nD τ sig (Elt F) Λ₀ .tc) α} :
    CpSt I c n m ⊢ iprop((CpSt I c (n + 1) m -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma src (.here dst) sm hsrc hdst hsem) k) Q) := by
  subst hn
  have hs' : src = kheadM c h := hs.trans (khead_of ho p)
  subst hs' hd hsm
  unfold CpSt
  rw [peelF (i := h) (Finset.mem_univ _) (kSrc I c), pushF (i := h) (Finset.mem_univ _) (kCr (F := F) c)]
  unfold kSrc
  iintro ⟨#HR, ⟨⟨⟨⟨%f, Hd⟩, Hs, Ht⟩, Hrest⟩, Hup⟩, HV⟩ Hk
  ihave Hc := (rec_dma I c (kq h) (by show 4 ≤ 4 + h.val; omega)) $$ HR
  icases Hc with ⟨%κ, #HI, #Hr⟩
  iapply (Rounds.wp_copy_pointsTo 𝒱₀ ER (Rd I) (c : Thread nD τ) none (κ := κ) (r := 0) (d := 0) (src := kheadM c h) (dst := kcolM h) (sem := .dma (kq h)) (q := fullShare) (fs := I.k c) (fd := f)
      (by rw [duties_dma I (kind_k h) rfl]; exact Finset.mem_singleton_self _) () 65536 (credit_4096 (kcolM h)) (amount_dma I (kind_k h) 0)
      (kcol_pay I c h f)) $$ [Hd Hs Ht]
  · isplitr; · iexact HI
    isplitl [Hs]; · iexact Hs
    isplitl [Hd]; · iexact Hd
    isplitl [Ht]; · iexact Ht
    iexact Hr
  iintro Hc
  iapply Hk
  isplitr; · iexact HR
  isplitl [Hrest Hup Hc]
  · isplitl [Hrest]; · iexact Hrest
    isplitl [Hc]; · iexact Hc
    iexact Hup
  iexact HV

theorem step_cpv (c : Dev nD) (h : Fin 8) {n m : ℕ} (hn : h.val = m) {off : Fin 4 → ℕ} (ho : off = ![0, 0, 8 * c.val + h.val, 0])
    {p : ∀ i, off i + S1x4096x1x128.size i ≤ S1x4096x128x128.size i} {src : Memref sig .tc .hbm S4096x128 .f32}
    (hs : src = ((Memref.whole main_arg3).slice (Rect.unit (s := S1x4096x128x128) off S1x4096x1x128.size p) (fun _ => rfl)).squeeze S4096x128 squeezes_S1x4096x1x128_S4096x128)
    {dst : Memref sig .tc .vmem S4096x128 .f32} (hd : dst = vcolM h) {sm : SemLoc sig} (hsm : sm = .dma (vq h))
    {hsrc : src.view.WordExact} {hdst : dst.view.WordExact} {hsem : DmaTarget.Typed (nD := nD) (τ := τ) .hbm sm (DmaTarget.here (p := Proc.tc) dst)}
    {α : Type} {Q : α → sProp 𝕄} {k : PUnit → Prog (TpuEff nD τ sig (Elt F) Λ₀ .tc) α} :
    CpSt I c n m ⊢ iprop((CpSt I c n (m + 1) -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma src (.here dst) sm hsrc hdst hsem) k) Q) := by
  subst hn
  have hs' : src = vheadM c h := hs.trans (vhead_of ho p)
  subst hs' hd hsm
  unfold CpSt
  rw [peelF (F := F) (i := h) (Finset.mem_univ _) (vSrc I c), pushF (F := F) (i := h) (Finset.mem_univ _) (vCr (F := F) c)]
  unfold vSrc
  iintro ⟨#HR, HK, ⟨⟨⟨⟨%f, Hd⟩, Hs, Ht⟩, Hrest⟩, Hup⟩⟩ Hk
  ihave Hc := (rec_dma I c (vq h) (by show 4 ≤ 12 + h.val; omega)) $$ HR
  icases Hc with ⟨%κ, #HI, #Hr⟩
  iapply (Rounds.wp_copy_pointsTo 𝒱₀ ER (Rd I) (c : Thread nD τ) none (κ := κ) (r := 0) (d := 0) (src := vheadM c h) (dst := vcolM h) (sem := .dma (vq h)) (q := fullShare) (fs := I.v c) (fd := f)
      (by rw [duties_dma I (kind_v h) rfl]; exact Finset.mem_singleton_self _) () 65536 (credit_4096 (vcolM h)) (amount_dma I (kind_v h) 0)
      (vcol_pay I c h f)) $$ [Hd Hs Ht]
  · isplitr; · iexact HI
    isplitl [Hs]; · iexact Hs
    isplitl [Hd]; · iexact Hd
    isplitl [Ht]; · iexact Ht
    iexact Hr
  iintro Hc
  iapply Hk
  isplitr; · iexact HR
  isplitl [HK]; · iexact HK
  isplitl [Hrest]; · iexact Hrest
  isplitl [Hc]; · iexact Hc
  iexact Hup

/-! ## The attention -/

def kWait (c : Dev nD) (h : Fin 8) : sProp 𝕄 := iprop(cred (tallyAt (dmaC c (kq h)) () 65536) ∗ atPos ER (dmaC c (kq h)) 0 ∅ 0)
def vWait (c : Dev nD) (h : Fin 8) : sProp 𝕄 := iprop(cred (tallyAt (dmaC c (vq h)) () 65536) ∗ atPos ER (dmaC c (vq h)) 0 ∅ 0)
def kGot (c : Dev nD) (h : Fin 8) : sProp 𝕄 := iprop(semVal (dmaC c (kq h)) 0 ∗ kaP c (kcolM h).view.set (kaC I c) ∗ kP c (kheadM c h).view.set (I.k c))
def vGot (c : Dev nD) (h : Fin 8) : sProp 𝕄 := iprop(semVal (dmaC c (vq h)) 0 ∗ vaP c (vcolM h).view.set (vaC I c) ∗ vP c (vheadM c h).view.set (I.v c))
def KW (c : Dev nD) (n : ℕ) : sProp 𝕄 := iprop(bigSep (fromN Finset.univ n) (kWait (F := F) c) ∗ bigSep (uptoN Finset.univ n) (kGot I c))
def VW (c : Dev nD) (n : ℕ) : sProp 𝕄 := iprop(bigSep (fromN Finset.univ n) (vWait (F := F) c) ∗ bigSep (uptoN Finset.univ n) (vGot I c))

abbrev qP (c : Dev nD) (f : Vec F S256x1024 .f32) : sProp 𝕄 := ((c : Thread nD τ).loc cc0_scratch0) ↦[Finset.univ]{fullShare} f
abbrev biP (c : Dev nD) (f : Vec F S256x4096 .f32) : sProp 𝕄 := ((c : Thread nD τ).loc cc0_scratch1) ↦[Finset.univ]{fullShare} f
abbrev cxP (c : Dev nD) (f : Vec F S256x1024 .f32) : sProp 𝕄 := ((c : Thread nD τ).loc cc0_scratch2) ↦[Finset.univ]{fullShare} f
abbrev woP (c : Dev nD) (f : Vec F S1024x1024 .f32) : sProp 𝕄 := ((c : Thread nD τ).loc cc0_stg2_0) ↦[Finset.univ]{fullShare} f

/-- The context's first `t` blocks are done. -/
def ctxDone (c : Dev nD) (t : ℕ) (f : Vec F S256x1024 .f32) : Prop :=
  ∀ i : S256x1024.Idx, 8 * ((i 0 : Fin 256).val / 128) + (i 1 : Fin 1024).val / 128 < t → f i = ctxC I c i
def CX (c : Dev nD) (t : ℕ) : sProp 𝕄 := iprop(∃ f, ⌜ctxDone I c t f⌝ ∗ cxP c f)

/-- Half the rows of the result buffer. -/
abbrev halfR (a : Fin 2) : Finset S256x1024.Idx := (Rect.unit (s := S256x1024) ![128 * a.val, 0] S128x1024.size (inb_half a.isLt)).set
abbrev ouAny (c : Dev nD) (a : Fin 2) : sProp 𝕄 := iprop(∃ f, ouP (F := F) c (halfR a) fullShare f)
/-- Between the copies and the exchange: `n` heads of keys and `m` of values waited for, `t` blocks of the context done. -/
def At (c : Dev nD) (S1 : Finset (Dev nD)) (n m t : ℕ) : sProp 𝕄 :=
  iprop(Own I c ∅ S1 (oth c) ∗ KW I c n ∗ VW I c m ∗ qP c (qC I c) ∗ biP c biasC ∗ CX I c t ∗ woP c (I.wo c))

theorem step_wk (c : Dev nD) {S1 : Finset (Dev nD)} (h : Fin 8) {n m t : ℕ} (hn : h.val = n) {q : DmaSem sig} (hq : q = kq h)
    {src : Memref sig .tc .hbm S4096x128 .f32} {dst : Memref sig .tc .vmem S4096x128 .f32} {hsrc : src.view.WordExact} {hdst : dst.view.WordExact}
    {α : Type} {Q : α → sProp 𝕄} {k : PUnit → Prog (TpuEff nD τ sig (Elt F) Λ₀ .tc) α} :
    At I c S1 n m t ⊢ iprop((At I c S1 (n + 1) m t -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hsrc hdst) k) Q) := by
  subst hn
  unfold At KW
  rw [peelF (i := h) (Finset.mem_univ _) (kWait (F := F) c), pushF (i := h) (Finset.mem_univ _) (kGot I c)]
  iintro ⟨HO, ⟨⟨Hw, Hrest⟩, Hup⟩, HR⟩ Hk
  unfold kWait
  icases Hw with ⟨Hc, Ha⟩
  iapply (dma_wait I c hq (kind_k h) (by show 4 ≤ 4 + h.val; omega) rfl (Or.inl rfl) (Or.inr (Nat.succ_pos 1)) (Or.inr (Nat.succ_pos 2)) (credit_4096 dst)) $$ [HO Hc Ha]
  · isplitl [HO]; · iexact HO
    isplitl [Hc]; · iexact Hc
    iexact Ha
  iintro ⟨HO, Hz, Hp⟩
  iapply Hk
  isplitl [HO]; · iexact HO
  isplitr [HR]
  · isplitl [Hrest]; · iexact Hrest
    isplitl [Hz Hp]
    · unfold kGot; isplitl [Hz]; · iexact Hz
      iapply (Entails.of_eq (show pay I c (.k h) = iprop(kaP c (kcolM h).view.set (kaC I c) ∗ kP c (kheadM c h).view.set (I.k c)) from rfl)); iexact Hp
    iexact Hup
  iexact HR
theorem step_wv (c : Dev nD) {S1 : Finset (Dev nD)} (h : Fin 8) {n m t : ℕ} (hn : h.val = m) {q : DmaSem sig} (hq : q = vq h)
    {src : Memref sig .tc .hbm S4096x128 .f32} {dst : Memref sig .tc .vmem S4096x128 .f32} {hsrc : src.view.WordExact} {hdst : dst.view.WordExact}
    {α : Type} {Q : α → sProp 𝕄} {k : PUnit → Prog (TpuEff nD τ sig (Elt F) Λ₀ .tc) α} :
    At I c S1 n m t ⊢ iprop((At I c S1 n (m + 1) t -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hsrc hdst) k) Q) := by
  subst hn
  unfold At VW
  rw [peelF (i := h) (Finset.mem_univ _) (vWait (F := F) c), pushF (i := h) (Finset.mem_univ _) (vGot I c)]
  iintro ⟨HO, HK, ⟨⟨Hw, Hrest⟩, Hup⟩, HR⟩ Hk
  unfold vWait
  icases Hw with ⟨Hc, Ha⟩
  iapply (dma_wait I c hq (kind_v h) (by show 4 ≤ 12 + h.val; omega) rfl (Or.inl rfl) (Or.inr (Nat.succ_pos 1)) (Or.inr (Nat.succ_pos 2)) (credit_4096 dst)) $$ [HO Hc Ha]
  · isplitl [HO]; · iexact HO
    isplitl [Hc]; · iexact Hc
    iexact Ha
  iintro ⟨HO, Hz, Hp⟩
  iapply Hk
  isplitl [HO]; · iexact HO
  isplitl [HK]; · iexact HK
  isplitr [HR]
  · isplitl [Hrest]; · iexact Hrest
    isplitl [Hz Hp]
    · unfold vGot; isplitl [Hz]; · iexact Hz
      iapply (Entails.of_eq (show pay I c (.v h) = iprop(vaP c (vcolM h).view.set (vaC I c) ∗ vP c (vheadM c h).view.set (I.v c)) from rfl)); iexact Hp
    iexact Hup
  iexact HR

theorem ctxC_at (c : Dev nD) (a : Fin 2) (h : Fin 8) (r j : Fin 128) (i : S256x1024.Idx) (h0 : (i 0 : Fin 256).val = 128 * a.val + r.val)
    (h1 : (i 1 : Fin 1024).val = 128 * h.val + j.val) : ctxC I c i = headVal I c a h (ix2 r j) := by
  have key : ∀ (A : Fin 2) (B : Fin 8) (C D : Fin 128), A = a → B = h → C = r → D = j → headVal I c A B (ix2 C D) = headVal I c a h (ix2 r j) := by
    rintro _ _ _ _ rfl rfl rfl rfl; rfl
  have := r.isLt; have := j.isLt
  exact key _ _ _ _ (Fin.ext (by show (i 0 : Fin 256).val / 128 = a.val; omega)) (Fin.ext (by show (i 1 : Fin 1024).val / 128 = h.val; omega))
    (Fin.ext (by show (i 0 : Fin 256).val % 128 = r.val; omega)) (Fin.ext (by show (i 1 : Fin 1024).val % 128 = j.val; omega))
theorem poC_at (c : Dev nD) (a : Fin 2) (r : Fin 128) (i : S256x1024.Idx) (h0 : (i 0 : Fin 256).val = 128 * a.val + r.val) :
    poC I c i = halfC I c a (ix2 r (i 1 : Fin 1024)) := by
  have key : ∀ (A : Fin 2) (C : Fin 128), A = a → C = r → halfC I c A (ix2 C (i 1 : Fin 1024)) = halfC I c a (ix2 r (i 1 : Fin 1024)) := by
    rintro _ _ rfl rfl; rfl
  have := r.isLt
  exact key _ _ (Fin.ext (by show (i 0 : Fin 256).val / 128 = a.val; omega)) (Fin.ext (by show (i 0 : Fin 256).val % 128 = r.val; omega))

/-- Storing block `(a, h)` makes one more block of the context. -/
theorem ctxDone_step (c : Dev nD) (a : Fin 2) (h : Fin 8) (p : ∀ i, (![128 * a.val, 128 * h.val] : Fin 2 → ℕ) i + S128x128.size i ≤ S256x1024.size i)
    {f : Vec F S256x1024 .f32} (hf : ctxDone I c (8 * a.val + h.val) f) :
    ctxDone I c (8 * a.val + h.val + 1) (((Memref.whole cc0_scratch2 : Memref sig .tc .vmem S256x1024 .f32).access
      (Rect.unit (s := S256x1024) ![128 * a.val, 128 * h.val] S128x128.size p)).write (Elt F) f (headVal I c a h) Finset.univ) := by
  intro i hi
  have h0 := a.isLt
  have h1 := h.isLt
  have hset : ((Memref.whole cc0_scratch2 : Memref sig .tc .vmem S256x1024 .f32).access (Rect.unit (s := S256x1024) ![128 * a.val, 128 * h.val] S128x128.size p)).set
      = (Rect.unit (s := S256x1024) ![128 * a.val, 128 * h.val] S128x128.size p).set := View.set_slice_whole _ _
  by_cases hmem : i ∈ ((Memref.whole cc0_scratch2 : Memref sig .tc .vmem S256x1024 .f32).access (Rect.unit (s := S256x1024) ![128 * a.val, 128 * h.val] S128x128.size p)).set
  · obtain ⟨x, -, rfl⟩ := Finset.mem_map.mp hmem
    rw [View.write_emb_of_mem _ _ (Finset.mem_univ x)]
    obtain ⟨r, j, rfl⟩ : ∃ (r j : Fin 128), x = ix2 r j := ⟨x 0, x 1, eq_ix2 x⟩
    exact (ctxC_at I c a h r j _ (ValueKit.view_emb_slice_whole_unit_val cc0_scratch2 _ _ p (ix2 r j) 0)
      (ValueKit.view_emb_slice_whole_unit_val cc0_scratch2 _ _ p (ix2 r j) 1)).symm
  · have hn : ¬ ((i 0 : Fin 256).val / 128 = a.val ∧ (i 1 : Fin 1024).val / 128 = h.val) := fun hb => by
      rw [hset] at hmem
      exact hmem ((mem_blk a h i).mpr hb)
    rw [View.write_of_not_mem _ _ _ hmem]
    have : (i 1 : Fin 1024).val < 1024 := (i 1 : Fin 1024).isLt
    exact hf i (by omega)

section Loads
variable (c : Dev nD) {S1 : Finset (Dev nD)} {n m t : ℕ} (a : Fin 2) (h : Fin 8)

theorem step_ldq {off : Fin 2 → ℕ} (ho : off = ![128 * a.val, 128 * h.val]) {p : ∀ i, off i + S128x128.size i ≤ S256x1024.size i}
    {hl : (Memref.whole cc0_scratch0 : Memref sig .tc .vmem S256x1024 .f32).view.LoadsAt (Rect.unit (s := S256x1024) off S128x128.size p).toLoadRect}
    {α : Type} {Q : α → sProp 𝕄} {k : Vec F S128x128 .f32 → Prog (TpuEff nD τ sig (Elt F) Λ₀ .tc) α} :
    At I c S1 n m t ⊢ iprop((At I c S1 n m t -∗ wp frame (wpE (defs₀ (F := F)) 𝒱₀ (c : Thread nD τ) none) Set.univ
          (k (qM.view.readAt (Elt F) (Rect.unit (s := S256x1024) ![128 * a.val, 128 * h.val] S128x128.size (inb_blk a.isLt h.isLt)).toLoadRect (qC I c))) Q)
      -∗ wp frame (wpE (defs₀ (F := F)) 𝒱₀ (c : Thread nD τ) none) Set.univ (.op (.load (Memref.whole cc0_scratch0) (Rect.unit (s := S256x1024) off S128x128.size p).toLoadRect hl) k) Q) := by
  subst ho
  unfold At
  iintro ⟨HO, HK, HV, Hq, HR⟩ Hk
  iapply (wp_load 𝒱₀ (c : Thread nD τ) none Set.univ (m := Memref.whole cc0_scratch0) (fun i _ => Finset.mem_univ i)) $$ Hq
  iintro Hq
  iapply Hk
  isplitl [HO]; · iexact HO
  isplitl [HK]; · iexact HK
  isplitl [HV]; · iexact HV
  isplitl [Hq]; · iexact Hq
  iexact HR

theorem step_ldb {off : Fin 2 → ℕ} (ho : off = ![128 * a.val, 0]) {p : ∀ i, off i + S128x4096.size i ≤ S256x4096.size i}
    {hl : (Memref.whole cc0_scratch1 : Memref sig .tc .vmem S256x4096 .f32).view.LoadsAt (Rect.unit (s := S256x4096) off S128x4096.size p).toLoadRect}
    {α : Type} {Q : α → sProp 𝕄} {k : Vec F S128x4096 .f32 → Prog (TpuEff nD τ sig (Elt F) Λ₀ .tc) α} :
    At I c S1 n m t ⊢ iprop((At I c S1 n m t -∗ wp frame (wpE (defs₀ (F := F)) 𝒱₀ (c : Thread nD τ) none) Set.univ
          (k (biasM.view.readAt (Elt F) (Rect.unit (s := S256x4096) ![128 * a.val, 0] S128x4096.size (inb_bias a.isLt)).toLoadRect (biasC (F := F)))) Q)
      -∗ wp frame (wpE (defs₀ (F := F)) 𝒱₀ (c : Thread nD τ) none) Set.univ (.op (.load (Memref.whole cc0_scratch1) (Rect.unit (s := S256x4096) off S128x4096.size p).toLoadRect hl) k) Q) := by
  subst ho
  unfold At
  iintro ⟨HO, HK, HV, Hq, Hb, HR⟩ Hk
  iapply (wp_load 𝒱₀ (c : Thread nD τ) none Set.univ (m := Memref.whole cc0_scratch1) (Finset.subset_univ _)) $$ Hb
  iintro Hb
  iapply Hk
  isplitl [HO]; · iexact HO
  isplitl [HK]; · iexact HK
  isplitl [HV]; · iexact HV
  isplitl [Hq]; · iexact Hq
  isplitl [Hb]; · iexact Hb
  iexact HR

theorem step_ldw {off : Fin 2 → ℕ} (ho : off = ![0, 0]) {p : ∀ i, off i + S1024x1024.size i ≤ S1024x1024.size i}
    {hl : (Memref.whole cc0_stg2_0 : Memref sig .tc .vmem S1024x1024 .f32).view.LoadsAt (Rect.unit (s := S1024x1024) off S1024x1024.size p).toLoadRect}
    {α : Type} {Q : α → sProp 𝕄} {k : Vec F S1024x1024 .f32 → Prog (TpuEff nD τ sig (Elt F) Λ₀ .tc) α} :
    At I c S1 n m t ⊢ iprop((At I c S1 n m t -∗ wp frame (wpE (defs₀ (F := F)) 𝒱₀ (c : Thread nD τ) none) Set.univ (k (I.wo c)) Q)
      -∗ wp frame (wpE (defs₀ (F := F)) 𝒱₀ (c : Thread nD τ) none) Set.univ (.op (.load (Memref.whole cc0_stg2_0) (Rect.unit (s := S1024x1024) off S1024x1024.size p).toLoadRect hl) k) Q) := by
  subst ho
  unfold At
  iintro ⟨HO, HK, HV, Hq, Hb, Hc, Hw⟩ Hk
  iapply (wp_load 𝒱₀ (c : Thread nD τ) none Set.univ (m := Memref.whole cc0_stg2_0) (Finset.subset_univ _)) $$ Hw
  rw [show (Memref.whole cc0_stg2_0 : Memref sig .tc .vmem S1024x1024 .f32).view.readAt (Elt F) (Rect.unit (s := S1024x1024) ![0, 0] S1024x1024.size p).toLoadRect (I.wo c) = I.wo c
    from Memref.readAt_unit_zero (Elt F) cc0_stg2_0 (by funext i; fin_cases i <;> rfl) p (I.wo c)]
  iintro Hw
  iapply Hk
  isplitl [HO]; · iexact HO
  isplitl [HK]; · iexact HK
  isplitl [HV]; · iexact HV
  isplitl [Hq]; · iexact Hq
  isplitl [Hb]; · iexact Hb
  isplitl [Hc]; · iexact Hc
  iexact Hw

/-- The load before a store of the context: what it reads is not used. -/
theorem step_ldc {off : Fin 2 → ℕ} {p : ∀ i, off i + S128x128.size i ≤ S256x1024.size i}
    {hl : (Memref.whole cc0_scratch2 : Memref sig .tc .vmem S256x1024 .f32).view.LoadsAt (Rect.unit (s := S256x1024) off S128x128.size p).toLoadRect}
    {α : Type} {Q : α → sProp 𝕄} {k : Vec F S128x128 .f32 → Prog (TpuEff nD τ sig (Elt F) Λ₀ .tc) α} :
    At I c S1 n m t ⊢ iprop((∀ v, At I c S1 n m t -∗ wp frame (wpE (defs₀ (F := F)) 𝒱₀ (c : Thread nD τ) none) Set.univ (k v) Q)
      -∗ wp frame (wpE (defs₀ (F := F)) 𝒱₀ (c : Thread nD τ) none) Set.univ (.op (.load (Memref.whole cc0_scratch2) (Rect.unit (s := S256x1024) off S128x128.size p).toLoadRect hl) k) Q) := by
  unfold At CX
  iintro ⟨HO, HK, HV, Hq, Hb, ⟨%f, %hf, Hc⟩, Hw⟩ Hk
  iapply (wp_load 𝒱₀ (c : Thread nD τ) none Set.univ (m := Memref.whole cc0_scratch2) (Finset.subset_univ _)) $$ Hc
  iintro Hc
  iapply Hk
  isplitl [HO]; · iexact HO
  isplitl [HK]; · iexact HK
  isplitl [HV]; · iexact HV
  isplitl [Hq]; · iexact Hq
  isplitl [Hb]; · iexact Hb
  isplitl [Hc]
  · iexists f; isplitr; · ipureintro; exact hf
    iexact Hc
  iexact Hw

theorem step_stc (ht : 8 * a.val + h.val = t) {off : Fin 2 → ℕ} (ho : off = ![128 * a.val, 128 * h.val]) {p : ∀ i, off i + S128x128.size i ≤ S256x1024.size i}
    {w : Vec F S128x128 .f32} (hw : w = headVal I c a h)
    {hx : ((Memref.whole cc0_scratch2 : Memref sig .tc .vmem S256x1024 .f32).access (Rect.unit (s := S256x1024) off S128x128.size p)).Stores Finset.univ}
    {hm : (Finset.univ : Finset (Rect.unit (s := S256x1024) off S128x128.size p).shape.Idx) = Finset.univ ∨ ∀ a, (Rect.unit (s := S256x1024) off S128x128.size p).stride a = 1}
    {α : Type} {Q : α → sProp 𝕄} {k : PUnit → Prog (TpuEff nD τ sig (Elt F) Λ₀ .tc) α} :
    At I c S1 n m t ⊢ iprop((At I c S1 n m (t + 1) -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch2) (Rect.unit (s := S256x1024) off S128x128.size p) w Finset.univ hx hm) k) Q) := by
  subst ho hw ht
  unfold At CX
  iintro ⟨HO, HK, HV, Hq, Hb, ⟨%f, %hf, Hc⟩, Hw⟩ Hk
  iapply (wp_store 𝒱₀ (c : Thread nD τ) none Set.univ (m := Memref.whole cc0_scratch2) (r := Rect.unit (s := S256x1024) ![128 * a.val, 128 * h.val] S128x128.size p) (Mk := Finset.univ) (Finset.subset_univ _)) $$ Hc
  iintro Hc
  iapply Hk
  isplitl [HO]; · iexact HO
  isplitl [HK]; · iexact HK
  isplitl [HV]; · iexact HV
  isplitl [Hq]; · iexact Hq
  isplitl [Hb]; · iexact Hb
  isplitl [Hc]
  · iexists _; isplitr; rotate_left; · iexact Hc
    ipureintro
    exact ctxDone_step I c a h p hf
  iexact Hw

theorem step_ldk {x : ℕ} (hx : h.val < x) {off : Fin 2 → ℕ} (ho : off = ![0, 128 * h.val]) {p : ∀ i, off i + S4096x128.size i ≤ S4096x1024.size i}
    {hl : (Memref.whole cc0_scratch3 : Memref sig .tc .vmem S4096x1024 .f32).view.LoadsAt (Rect.unit (s := S4096x1024) off S4096x128.size p).toLoadRect}
    {α : Type} {Q : α → sProp 𝕄} {k : Vec F S4096x128 .f32 → Prog (TpuEff nD τ sig (Elt F) Λ₀ .tc) α} :
    At I c S1 x m t ⊢ iprop((At I c S1 x m t -∗ wp frame (wpE (defs₀ (F := F)) 𝒱₀ (c : Thread nD τ) none) Set.univ
          (k ((Memref.whole cc0_scratch3 : Memref sig .tc .vmem S4096x1024 .f32).view.readAt (Elt F) (Rect.unit (s := S4096x1024) ![0, 128 * h.val] S4096x128.size (inb_col h.isLt)).toLoadRect (kaC I c))) Q)
      -∗ wp frame (wpE (defs₀ (F := F)) 𝒱₀ (c : Thread nD τ) none) Set.univ (.op (.load (Memref.whole cc0_scratch3) (Rect.unit (s := S4096x1024) off S4096x128.size p).toLoadRect hl) k) Q) := by
  subst ho
  have hmem : h ∈ uptoN (Finset.univ : Finset (Fin 8)) x := Finset.mem_filter.mpr ⟨Finset.mem_univ _, hx⟩
  unfold At KW
  rw [takeF hmem (kGot I c)]
  unfold kGot
  iintro ⟨HO, ⟨Hf, ⟨Hz, Hk, Hsrc⟩, Hup⟩, HR⟩ Hk'
  iapply (wp_load 𝒱₀ (c : Thread nD τ) none Set.univ (m := Memref.whole cc0_scratch3) (S := (kcolM h).view.set) (by rw [setOn_whole, kcol_set])) $$ Hk
  iintro Hk
  iapply Hk'
  isplitl [HO]; · iexact HO
  isplitr [HR]
  · isplitl [Hf]; · iexact Hf
    isplitl [Hz Hk Hsrc]
    · isplitl [Hz]; · iexact Hz
      isplitl [Hk]; · iexact Hk
      iexact Hsrc
    iexact Hup
  iexact HR

theorem step_ldv {x : ℕ} (hx : h.val < x) {off : Fin 2 → ℕ} (ho : off = ![0, 128 * h.val]) {p : ∀ i, off i + S4096x128.size i ≤ S4096x1024.size i}
    {hl : (Memref.whole cc0_scratch4 : Memref sig .tc .vmem S4096x1024 .f32).view.LoadsAt (Rect.unit (s := S4096x1024) off S4096x128.size p).toLoadRect}
    {α : Type} {Q : α → sProp 𝕄} {k : Vec F S4096x128 .f32 → Prog (TpuEff nD τ sig (Elt F) Λ₀ .tc) α} :
    At I c S1 n x t ⊢ iprop((At I c S1 n x t -∗ wp frame (wpE (defs₀ (F := F)) 𝒱₀ (c : Thread nD τ) none) Set.univ
          (k ((Memref.whole cc0_scratch4 : Memref sig .tc .vmem S4096x1024 .f32).view.readAt (Elt F) (Rect.unit (s := S4096x1024) ![0, 128 * h.val] S4096x128.size (inb_col h.isLt)).toLoadRect (vaC I c))) Q)
      -∗ wp frame (wpE (defs₀ (F := F)) 𝒱₀ (c : Thread nD τ) none) Set.univ (.op (.load (Memref.whole cc0_scratch4) (Rect.unit (s := S4096x1024) off S4096x128.size p).toLoadRect hl) k) Q) := by
  subst ho
  have hmem : h ∈ uptoN (Finset.univ : Finset (Fin 8)) x := Finset.mem_filter.mpr ⟨Finset.mem_univ _, hx⟩
  unfold At VW
  rw [takeF hmem (vGot I c)]
  unfold vGot
  iintro ⟨HO, HK, ⟨Hf, ⟨Hz, Hk, Hsrc⟩, Hup⟩, HR⟩ Hk'
  iapply (wp_load 𝒱₀ (c : Thread nD τ) none Set.univ (m := Memref.whole cc0_scratch4) (S := (vcolM h).view.set) (by rw [setOn_whole, vcol_set])) $$ Hk
  iintro Hk
  iapply Hk'
  isplitl [HO]; · iexact HO
  isplitl [HK]; · iexact HK
  isplitr [HR]
  · isplitl [Hf]; · iexact Hf
    isplitl [Hz Hk Hsrc]
    · isplitl [Hz]; · iexact Hz
      isplitl [Hk]; · iexact Hk
      iexact Hsrc
    iexact Hup
  iexact HR

/-- The load of half the context once its blocks are done. -/
theorem step_ldh (ht : 8 * (a.val + 1) ≤ t) {off : Fin 2 → ℕ} (ho : off = ![128 * a.val, 0]) {p : ∀ i, off i + S128x1024.size i ≤ S256x1024.size i}
    {hl : (Memref.whole cc0_scratch2 : Memref sig .tc .vmem S256x1024 .f32).view.LoadsAt (Rect.unit (s := S256x1024) off S128x1024.size p).toLoadRect}
    {α : Type} {Q : α → sProp 𝕄} {k : Vec F S128x1024 .f32 → Prog (TpuEff nD τ sig (Elt F) Λ₀ .tc) α} :
    At I c S1 n m t ⊢ iprop((At I c S1 n m t -∗ wp frame (wpE (defs₀ (F := F)) 𝒱₀ (c : Thread nD τ) none) Set.univ
          (k (ctxM.view.readAt (Elt F) (Rect.unit (s := S256x1024) ![128 * a.val, 0] S128x1024.size (inb_half a.isLt)).toLoadRect (ctxC I c))) Q)
      -∗ wp frame (wpE (defs₀ (F := F)) 𝒱₀ (c : Thread nD τ) none) Set.univ (.op (.load (Memref.whole cc0_scratch2) (Rect.unit (s := S256x1024) off S128x1024.size p).toLoadRect hl) k) Q) := by
  subst ho
  unfold At CX
  iintro ⟨HO, HK, HV, Hq, Hb, ⟨%f, %hf, Hc⟩, Hw⟩ Hk
  iapply (wp_load 𝒱₀ (c : Thread nD τ) none Set.univ (m := Memref.whole cc0_scratch2) (Finset.subset_univ _)) $$ Hc
  rw [show (Memref.whole cc0_scratch2 : Memref sig .tc .vmem S256x1024 .f32).view.readAt (Elt F) (Rect.unit (s := S256x1024) ![128 * a.val, 0] S128x1024.size p).toLoadRect f
      = ctxM.view.readAt (Elt F) (Rect.unit (s := S256x1024) ![128 * a.val, 0] S128x1024.size p).toLoadRect (ctxC I c)
    from View.readAt_congr fun i hi => by
      rw [setOn_whole] at hi
      have h0 := (mem_half a i).mp hi
      have h1 : (i 1 : Fin 1024).val < 1024 := (i 1 : Fin 1024).isLt
      exact hf i (by omega)]
  iintro Hc
  iapply Hk
  isplitl [HO]; · iexact HO
  isplitl [HK]; · iexact HK
  isplitl [HV]; · iexact HV
  isplitl [Hq]; · iexact Hq
  isplitl [Hb]; · iexact Hb
  isplitl [Hc]
  · iexists f; isplitr; · ipureintro; exact hf
    iexact Hc
  iexact Hw

/-! ### The partial output's halves -/

theorem half_set (p : ∀ i, (![128 * a.val, 0] : Fin 2 → ℕ) i + S128x1024.size i ≤ S256x1024.size i) :
    ((Memref.whole cc0_stg3_0 : Memref sig .tc .vmem S256x1024 .f32).access (Rect.unit (s := S256x1024) ![128 * a.val, 0] S128x1024.size p)).set = halfR a :=
  View.set_slice_whole _ _

theorem half_landed (p : ∀ i, (![128 * a.val, 0] : Fin 2 → ℕ) i + S128x1024.size i ≤ S256x1024.size i) (f : Vec F S256x1024 .f32) :
    ∀ i ∈ halfR a, ((Memref.whole cc0_stg3_0 : Memref sig .tc .vmem S256x1024 .f32).access
      (Rect.unit (s := S256x1024) ![128 * a.val, 0] S128x1024.size p)).write (Elt F) f (halfC I c a) Finset.univ i = poC I c i := by
  intro i hi
  rw [← half_set a p] at hi
  obtain ⟨x, -, rfl⟩ := Finset.mem_map.mp hi
  rw [View.write_emb_of_mem _ _ (Finset.mem_univ x)]
  obtain ⟨r, j, rfl⟩ : ∃ (r : Fin 128) (j : Fin 1024), x = ix2 r j := ⟨x 0, x 1, eq_ix2 x⟩
  refine ((poC_at I c a r _ (ValueKit.view_emb_slice_whole_unit_val cc0_stg3_0 _ _ p (ix2 r j) 0)).trans ?_).symm
  refine congrArg (fun z : Fin 1024 => halfC I c a (ix2 r z)) (Fin.ext ?_)
  exact (ValueKit.view_emb_slice_whole_unit_val cc0_stg3_0 _ _ p (ix2 r j) 1).trans (Nat.zero_add _)

theorem step_ldo {off : Fin 2 → ℕ} (ho : off = ![128 * a.val, 0]) {p : ∀ i, off i + S128x1024.size i ≤ S256x1024.size i}
    {hl : (Memref.whole cc0_stg3_0 : Memref sig .tc .vmem S256x1024 .f32).view.LoadsAt (Rect.unit (s := S256x1024) off S128x1024.size p).toLoadRect}
    {α : Type} {Q : α → sProp 𝕄} {k : Vec F S128x1024 .f32 → Prog (TpuEff nD τ sig (Elt F) Λ₀ .tc) α} :
    ouAny (F := F) c a ⊢ iprop((∀ v, ouAny (F := F) c a -∗ wp frame (wpE (defs₀ (F := F)) 𝒱₀ (c : Thread nD τ) none) Set.univ (k v) Q)
      -∗ wp frame (wpE (defs₀ (F := F)) 𝒱₀ (c : Thread nD τ) none) Set.univ (.op (.load (Memref.whole cc0_stg3_0) (Rect.unit (s := S256x1024) off S128x1024.size p).toLoadRect hl) k) Q) := by
  subst ho
  iintro ⟨%f, Hc⟩ Hk
  iapply (wp_load 𝒱₀ (c : Thread nD τ) none Set.univ (m := Memref.whole cc0_stg3_0) (S := halfR a) (by rw [setOn_whole])) $$ Hc
  iintro Hc
  iapply Hk
  iexists f; iexact Hc

theorem step_sto {off : Fin 2 → ℕ} (ho : off = ![128 * a.val, 0]) {p : ∀ i, off i + S128x1024.size i ≤ S256x1024.size i}
    {w : Vec F S128x1024 .f32} (hw : w = halfC I c a)
    {hx : ((Memref.whole cc0_stg3_0 : Memref sig .tc .vmem S256x1024 .f32).access (Rect.unit (s := S256x1024) off S128x1024.size p)).Stores Finset.univ}
    {hm : (Finset.univ : Finset (Rect.unit (s := S256x1024) off S128x1024.size p).shape.Idx) = Finset.univ ∨ ∀ a, (Rect.unit (s := S256x1024) off S128x1024.size p).stride a = 1}
    {α : Type} {Q : α → sProp 𝕄} {k : PUnit → Prog (TpuEff nD τ sig (Elt F) Λ₀ .tc) α} :
    ouAny (F := F) c a ⊢ iprop((ouP c (halfR a) fullShare (poC I c) -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_stg3_0) (Rect.unit (s := S256x1024) off S128x1024.size p) w Finset.univ hx hm) k) Q) := by
  subst ho hw
  iintro ⟨%f, Hc⟩ Hk
  iapply (wp_store 𝒱₀ (c : Thread nD τ) none Set.univ (m := Memref.whole cc0_stg3_0) (r := Rect.unit (s := S256x1024) ![128 * a.val, 0] S128x1024.size p) (Mk := Finset.univ) (S := halfR a)
    (by rw [View.setOn_univ, half_set])) $$ Hc
  iintro Hc
  iapply Hk
  iapply (Entails.of_eq (pointsTo_congr (half_landed I c a p f))); iexact Hc

end Loads

end Cert.KernelIdeal.Attn

end
-- ==== Proof.Exchange.lean ====
/-
# One rule per effect: the two exchanges

First every device sends each of the others its rows of the partial output and sums what it receives; then it sends its
finished rows to all the others.
-/
module

public import proofs.«01_k».proof.Proof.Attend

@[expose] public section

set_option maxRecDepth 16384

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Ins F)

/-! ## The first exchange: sending -/

def p1Tok (c d : Dev nD) : sProp 𝕄 :=
  iprop(dutyTok ER (dmaC d (r1q c)) 0 0 ∗ dutyTok ER (dmaC c (s1q d)) 0 0 ∗ barPay (F := F) c d)
abbrev s1Cr (c d : Dev nD) : sProp 𝕄 := cred (tallyAt (dmaC c (s1q d)) () 2048)
abbrev chP (c : Dev nD) (k : Fin 16) : sProp 𝕄 := ouP c (chunkM k).view.set fullShare (poC I c)

/-- Chunks before `p` are sent, those before `M` made. -/
def Sd (c : Dev nD) (M p : ℕ) : sProp 𝕄 :=
  iprop(bigSep (fromN (oth c) p) (p1Tok (F := F) c) ∗ bigSep (uptoN (oth c) p) (s1Cr (F := F) c)
    ∗ bigSep (fromN (uptoN Finset.univ M) p) (chP I c) ∗ bigSep (uptoN {c} p) (chP I c))

theorem r1_pay (c d : Dev nD) (f : Vec F S16x16x1024 .f32) :
    iprop(rbP d (slotM c).view.set ((slotM c).view.write (Elt F) f ((chunkM d).view.read (Elt F) (poC I c)) Finset.univ) ∗ ouP c (chunkM d).view.set fullShare (poC I c))
      ⊢ (Rd I).payload (dmaC d (r1q c)) 0 0 := by
  rw [payload_dma I (kind_r1 c) 0]
  exact sep_mono_left (Entails.of_eq (pointsTo_congr (slot_landed I c d f)))
theorem s1_pay (c d : Dev nD) : (emp : sProp 𝕄) ⊢ (Rd I).payload (dmaC c (s1q d)) 0 0 := by
  rw [payload_dma I (kind_s1 d) 0]; exact Entails.of_eq rfl

theorem live_s1 {c d : Dev nD} (h : d ≠ c) : Kind.live c (.s1 d) = true := decide_eq_true h
theorem live_r1 {c d : Dev nD} (h : d ≠ c) : Kind.live c (.r1 d) = true := decide_eq_true h
theorem live_r2 {c d : Dev nD} (h : d ≠ c) : Kind.live c (.r2 d) = true := decide_eq_true h

theorem step_p1 (c d : Dev nD) {n m t M p : ℕ} (hp : d.val = p) (hM : p < M) (hne : d ≠ c) {d' : Dev nD} (hd : d' = d)
    {src : Memref sig .tc .vmem S16x1024 .f32} (hs : src = chunkM d) {dst : Memref sig .tc .vmem S16x1024 .f32} (hds : dst = slotM c)
    {sS : DmaSem sig} (hsS : sS = s1q d) {sR : DmaSem sig} (hsR : sR = r1q c)
    {hsc : dst.view.ref.isScScratch = false} {hsrc : src.view.WordExact} {hdst : dst.view.WordExact}
    {hsem : DmaTarget.Typed (nD := nD) (τ := τ) .vmem (.dma sR) (DmaTarget.remote (p := Proc.tc) (d' : Thread nD τ) dst (.dma sS) hsc)}
    {α : Type} {Q : α → sProp 𝕄} {k : PUnit → Prog (TpuEff nD τ sig (Elt F) Λ₀ .tc) α} :
    iprop(At I c (fromN (oth c) p) n m t ∗ Sd I c M p)
      ⊢ iprop(((At I c (fromN (oth c) (p + 1)) n m t ∗ Sd I c M (p + 1)) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (d' : Thread nD τ) dst (.dma sS) hsc) (.dma sR) hsrc hdst hsem) k) Q) := by
  subst hp hs hds hsS hsR hd
  have hm : d' ∈ oth c := Finset.mem_erase.mpr ⟨hne, Finset.mem_univ _⟩
  have hm' : d' ∈ uptoN (Finset.univ : Finset (Dev nD)) M := Finset.mem_filter.mpr ⟨Finset.mem_univ _, hM⟩
  have hm'' : d' ∉ ({c} : Finset (Dev nD)) := fun h => hne (Finset.mem_singleton.mp h)
  unfold At Sd Own
  rw [peelF hm (p1Tok (F := F) c), pushF hm (s1Cr (F := F) c), peelF hm' (chP I c), upto_skip ({c} : Finset (Dev nD)) d'.isLt hm'',
    from_ins (oth c) d'.isLt hm, Ow_ins1 c (d := d') (from_not (oth c) d'.isLt)]
  unfold p1Tok barPay
  iintro ⟨⟨⟨#HR, #HL, ⟨%W, HO⟩⟩, HA⟩, ⟨⟨⟨Ht1, Ht2, ⟨%f, Hd⟩⟩, Htoks⟩, Hcr, ⟨Hsrc, Hch⟩, Hown⟩⟩ Hk
  ihave Hc := (rec_dma I c (s1q d') (by show 4 ≤ 20 + d'.val; omega)) $$ HR
  icases Hc with ⟨%κ₁, #HI₁, #Hr₁⟩
  ihave Hc := (rec_dma I d' (r1q c) (by show 4 ≤ 51 + c.val; omega)) $$ HR
  icases Hc with ⟨%κ₂, #HI₂, #Hr₂⟩
  iapply (Rounds.wp_send_landing_pointsTo 𝒱₀ ER (Rd I) (c : Thread nD τ) none (c' := (d' : Thread nD τ)) (src := chunkM d') (dst := slotM c) (sS := .dma (s1q d')) (sem := .dma (r1q c))
      (q := fullShare) (fs := poC I c) (fd := f) (r₁ := 0) (r₂ := 0) (d₁ := 0) (d₂ := 0) (κ₁ := κ₁) (κ₂ := κ₂)
      (by rw [duties_dma I (kind_s1 d') (live_s1 hne)]; exact Finset.mem_singleton_self _)
      (by rw [duties_dma I (kind_r1 c) (live_r1 hne.symm)]; exact Finset.mem_singleton_self _) () () 2048 (credit_16 (slotM c))
      (amount_dma I (kind_s1 d') 0) (amount_dma I (kind_r1 c) 0) (Ow c ∅ (fromN (oth c) (d'.val + 1)) (oth c)) rfl
      (s1_pay I c d') (r1_pay I c d' f)) $$ [Hd Hsrc Ht1 Ht2 HO]
  · isplitr; · iexact HI₁
    isplitr; · iexact HI₂
    isplitl [Hsrc]; · iexact Hsrc
    isplitl [Hd]; · iexact Hd
    isplitl [HO]; · iexact HO
    isplitl [Ht2]; · iexact Ht2
    isplitr; · iexact Hr₁
    isplitl [Ht1]; · iexact Ht1
    iexact Hr₂
  iintro ⟨Hc, HO⟩
  iapply Hk
  isplitl [HO HA]
  · isplitl [HO]
    · isplitr; · iexact HR
      isplitr; · iexact HL
      iexists W; iexact HO
    iexact HA
  isplitl [Htoks]; · iexact Htoks
  isplitl [Hc Hcr]
  · isplitl [Hc]; · iexact Hc
    iexact Hcr
  isplitl [Hch]; · iexact Hch
  iexact Hown

/-- Its own chunk a device keeps. -/
theorem skip_p1 (c d : Dev nD) {n m t M p : ℕ} (hp : d.val = p) (hM : p < M) (hne : d = c) :
    iprop(At I c (fromN (oth c) p) n m t ∗ Sd I c M p) ⊢ iprop(At I c (fromN (oth c) (p + 1)) n m t ∗ Sd I c M (p + 1)) := by
  subst hp hne
  have hm : d ∉ oth d := Finset.notMem_erase _ _
  have hm' : d ∈ uptoN (Finset.univ : Finset (Dev nD)) M := Finset.mem_filter.mpr ⟨Finset.mem_univ _, hM⟩
  have hm'' : d ∈ ({d} : Finset (Dev nD)) := Finset.mem_singleton_self _
  unfold Sd
  rw [← from_skip (oth d) d.isLt hm, upto_skip (oth d) d.isLt hm, peelF hm' (chP I d), pushF hm'' (chP I d)]
  iintro ⟨HA, Ht, Hc, ⟨Hch, Hr⟩, Ho⟩
  isplitl [HA]; · iexact HA
  isplitl [Ht]; · iexact Ht
  isplitl [Hc]; · iexact Hc
  isplitl [Hr]; · iexact Hr
  isplitl [Hch]; · iexact Hch
  iexact Ho

/-- The guarded send of chunk `d`. -/
theorem guard_p1 (c d : Dev nD) {n m t M p : ℕ} (hp : d.val = p) (hM : p < M) {C : Prop} [Decidable C] (hC : C ↔ d ≠ c)
    {Q : PUnit → sProp 𝕄} {f : C → Prog (TpuEff nD τ sig (Elt F) Λ₀ .tc) PUnit}
    (hf : ∀ h : C, iprop(At I c (fromN (oth c) p) n m t ∗ Sd I c M p)
      ⊢ iprop(((At I c (fromN (oth c) (p + 1)) n m t ∗ Sd I c M (p + 1)) -∗ Q ⟨⟩) -∗ wp frame (wpE (defs₀ (F := F)) 𝒱₀ (c : Thread nD τ) none) Set.univ (f h) Q)) :
    iprop(At I c (fromN (oth c) p) n m t ∗ Sd I c M p)
      ⊢ iprop(((At I c (fromN (oth c) (p + 1)) n m t ∗ Sd I c M (p + 1)) -∗ Q ⟨⟩)
        -∗ wp frame (wpE (defs₀ (F := F)) 𝒱₀ (c : Thread nD τ) none) Set.univ (if h : C then f h else (.ret ⟨⟩)) Q) := by
  by_cases h : C
  · rw [dif_pos h]; exact hf h
  · rw [dif_neg h]
    iintro H Hk
    rw [wp_ret]; imodintro
    iapply Hk
    iapply (skip_p1 I c d hp hM (not_not.mp fun hn => h (hC.mpr hn))); iexact H

/-! ## The first exchange: receiving -/

def r1Wait (c s : Dev nD) : sProp 𝕄 := iprop(cred (tallyAt (dmaC c (r1q s)) () 2048) ∗ atPos ER (dmaC c (r1q s)) 0 ∅ 0)
def r1Got (c s : Dev nD) : sProp 𝕄 :=
  iprop(semVal (dmaC c (r1q s)) 0 ∗ rbP c (slotM s).view.set (rbC I c) ∗ ouP s (chunkM c).view.set fullShare (poC I s))
/-- The blocks of the devices one to `j - 1` places before are here. -/
def Rx (c : Dev nD) (j : ℕ) : sProp 𝕄 :=
  iprop(Own I c ∅ ∅ (oth c) ∗ bigSep (restE (bwd c) j) (r1Wait (F := F) c) ∗ bigSep (doneE (bwd c) j) (r1Got I c))

theorem step_r1 (c : Dev nD) (j : ℕ) (h1 : 1 ≤ j) (h : j < 16) {q : DmaSem sig} (hq : q = r1q (bwd c j))
    {sp : Space} {src : Memref sig .tc sp S16x1024 .f32} {dst : Memref sig .tc .vmem S16x1024 .f32} {hsrc : src.view.WordExact} {hdst : dst.view.WordExact}
    {α : Type} {Q : α → sProp 𝕄} {k : PUnit → Prog (TpuEff nD τ sig (Elt F) Λ₀ .tc) α} :
    Rx I c j ⊢ iprop((Rx I c (j + 1) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hsrc hdst) k) Q) := by
  unfold Rx
  rw [peel_rest (bwd_enum c) h1 h (r1Wait (F := F) c), push_done (bwd_enum c) h1 h (r1Got I c)]
  unfold r1Wait r1Got
  iintro ⟨HO, ⟨⟨Hc, Ha⟩, Hr⟩, Hd⟩ Hk
  iapply (dma_wait I c hq (kind_r1 (bwd c j)) (by show 4 ≤ 51 + (bwd c j).val; omega) (live_r1 ((bwd_enum c).ne j h1 h)) (Or.inl rfl) (Or.inl rfl) (Or.inr (Nat.lt_succ_self 2)) (credit_16 dst)) $$ [HO Hc Ha]
  · isplitl [HO]; · iexact HO
    isplitl [Hc]; · iexact Hc
    iexact Ha
  iintro ⟨HO, Hz, Hp⟩
  iapply Hk
  isplitl [HO]; · iexact HO
  isplitl [Hr]; · iexact Hr
  isplitl [Hz Hp]
  · isplitl [Hz]; · iexact Hz
    iapply (Entails.of_eq (show pay I c (.r1 (bwd c j)) = iprop(rbP c (slotM (bwd c j)).view.set (rbC I c) ∗ ouP (bwd c j) (chunkM c).view.set fullShare (poC I (bwd c j))) from rfl)); iexact Hp
  iexact Hd

/-- The load of a block that has arrived. -/
theorem step_ldr (c : Dev nD) (j : ℕ) {x : ℕ} (h1 : 1 ≤ j) (h : j < x) {off : Fin 3 → ℕ} (ho : off = ![(bwd c j).val, 0, 0])
    {p : ∀ i, off i + S1x16x1024.size i ≤ S16x16x1024.size i}
    {hl : (Memref.whole cc0_scratch5 : Memref sig .tc .vmem S16x16x1024 .f32).view.LoadsAt (Rect.unit (s := S16x16x1024) off S1x16x1024.size p).toLoadRect}
    {α : Type} {Q : α → sProp 𝕄} {k : Vec F S1x16x1024 .f32 → Prog (TpuEff nD τ sig (Elt F) Λ₀ .tc) α} :
    Rx I c x ⊢ iprop((Rx I c x -∗ wp frame (wpE (defs₀ (F := F)) 𝒱₀ (c : Thread nD τ) none) Set.univ
          (k (rbM.view.readAt (Elt F) (Rect.unit (s := S16x16x1024) ![(bwd c j).val, 0, 0] S1x16x1024.size (inb_slot (bwd c j))).toLoadRect (rbC I c))) Q)
      -∗ wp frame (wpE (defs₀ (F := F)) 𝒱₀ (c : Thread nD τ) none) Set.univ (.op (.load (Memref.whole cc0_scratch5) (Rect.unit (s := S16x16x1024) off S1x16x1024.size p).toLoadRect hl) k) Q) := by
  subst ho
  have hm : bwd c j ∈ doneE (bwd c) x := Finset.mem_image.mpr ⟨j, Finset.mem_Ico.mpr ⟨h1, h⟩, rfl⟩
  unfold Rx
  rw [takeF hm (r1Got I c)]
  unfold r1Got
  iintro ⟨HO, Hw, ⟨Hz, Hb, Hs⟩, Hd⟩ Hk
  iapply (wp_load 𝒱₀ (c : Thread nD τ) none Set.univ (m := Memref.whole cc0_scratch5) (S := (slotM (bwd c j)).view.set) (by rw [setOn_whole, slot_set])) $$ Hb
  iintro Hb
  iapply Hk
  isplitl [HO]; · iexact HO
  isplitl [Hw]; · iexact Hw
  isplitr [Hd]
  · isplitl [Hz]; · iexact Hz
    isplitl [Hb]; · iexact Hb
    iexact Hs
  iexact Hd

/-- The load of its own rows. -/
theorem step_ldm (c : Dev nD) {off : Fin 2 → ℕ} (ho : off = ![16 * c.val, 0]) {p : ∀ i, off i + S16x1024.size i ≤ S256x1024.size i}
    {hl : (Memref.whole cc0_stg3_0 : Memref sig .tc .vmem S256x1024 .f32).view.LoadsAt (Rect.unit (s := S256x1024) off S16x1024.size p).toLoadRect}
    {α : Type} {Q : α → sProp 𝕄} {k : Vec F S16x1024 .f32 → Prog (TpuEff nD τ sig (Elt F) Λ₀ .tc) α} :
    chP I c c ⊢ iprop((chP I c c -∗ wp frame (wpE (defs₀ (F := F)) 𝒱₀ (c : Thread nD τ) none) Set.univ
          (k (outM.view.readAt (Elt F) (Rect.unit (s := S256x1024) ![16 * c.val, 0] S16x1024.size (inb_chunk c)).toLoadRect (poC I c))) Q)
      -∗ wp frame (wpE (defs₀ (F := F)) 𝒱₀ (c : Thread nD τ) none) Set.univ (.op (.load (Memref.whole cc0_stg3_0) (Rect.unit (s := S256x1024) off S16x1024.size p).toLoadRect hl) k) Q) := by
  subst ho
  iintro Hb Hk
  iapply (wp_load 𝒱₀ (c : Thread nD τ) none Set.univ (m := Memref.whole cc0_stg3_0) (S := (chunkM c).view.set) (by rw [setOn_whole, chunk_set])) $$ Hb
  iintro Hb
  iapply Hk; iexact Hb

theorem foC_at (k : Dev nD) (r : Fin 16) (i : S256x1024.Idx) (h0 : (i 0 : Fin 256).val = 16 * k.val + r.val) :
    foC I i = accC I k 15 (ix2 r (i 1 : Fin 1024)) := by
  have key : ∀ (A : Dev nD) (C : Fin 16), A = k → C = r → accC I A 15 (ix2 C (i 1 : Fin 1024)) = accC I k 15 (ix2 r (i 1 : Fin 1024)) := by
    rintro _ _ rfl rfl; rfl
  have := r.isLt
  exact key _ _ (Fin.ext (by show (i 0 : Fin 256).val / 16 = k.val; omega)) (Fin.ext (by show (i 0 : Fin 256).val % 16 = r.val; omega))

theorem chunk_acc_set (c : Dev nD) (p : ∀ i, (![16 * c.val, 0] : Fin 2 → ℕ) i + S16x1024.size i ≤ S256x1024.size i) :
    ((Memref.whole cc0_stg3_0 : Memref sig .tc .vmem S256x1024 .f32).access (Rect.unit (s := S256x1024) ![16 * c.val, 0] S16x1024.size p)).set = (chunkM c).view.set :=
  rfl
theorem own_landed (c : Dev nD) (p : ∀ i, (![16 * c.val, 0] : Fin 2 → ℕ) i + S16x1024.size i ≤ S256x1024.size i) (f : Vec F S256x1024 .f32) :
    ∀ i ∈ (chunkM c).view.set, ((Memref.whole cc0_stg3_0 : Memref sig .tc .vmem S256x1024 .f32).access
      (Rect.unit (s := S256x1024) ![16 * c.val, 0] S16x1024.size p)).write (Elt F) f (accC I c 15) Finset.univ i = foC I i := by
  intro i hi
  rw [← chunk_acc_set c p] at hi
  obtain ⟨x, -, rfl⟩ := Finset.mem_map.mp hi
  rw [View.write_emb_of_mem _ _ (Finset.mem_univ x)]
  obtain ⟨r, j, rfl⟩ : ∃ (r : Fin 16) (j : Fin 1024), x = ix2 r j := ⟨x 0, x 1, eq_ix2 x⟩
  refine ((foC_at I c r _ (ValueKit.view_emb_slice_whole_unit_val cc0_stg3_0 _ _ p (ix2 r j) 0)).trans ?_).symm
  refine congrArg (fun z : Fin 1024 => accC I c 15 (ix2 r z)) (Fin.ext ?_)
  exact (ValueKit.view_emb_slice_whole_unit_val cc0_stg3_0 _ _ p (ix2 r j) 1).trans (Nat.zero_add _)

/-- The store of its finished rows. -/
theorem step_stm (c : Dev nD) {off : Fin 2 → ℕ} (ho : off = ![16 * c.val, 0]) {p : ∀ i, off i + S16x1024.size i ≤ S256x1024.size i}
    {w : Vec F S16x1024 .f32} (hw : w = accC I c 15)
    {hx : ((Memref.whole cc0_stg3_0 : Memref sig .tc .vmem S256x1024 .f32).access (Rect.unit (s := S256x1024) off S16x1024.size p)).Stores Finset.univ}
    {hm : (Finset.univ : Finset (Rect.unit (s := S256x1024) off S16x1024.size p).shape.Idx) = Finset.univ ∨ ∀ a, (Rect.unit (s := S256x1024) off S16x1024.size p).stride a = 1}
    {α : Type} {Q : α → sProp 𝕄} {k : PUnit → Prog (TpuEff nD τ sig (Elt F) Λ₀ .tc) α} :
    chP I c c ⊢ iprop((ouP c (chunkM c).view.set fullShare (foC I) -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_stg3_0) (Rect.unit (s := S256x1024) off S16x1024.size p) w Finset.univ hx hm) k) Q) := by
  subst ho hw
  iintro Hc Hk
  iapply (wp_store 𝒱₀ (c : Thread nD τ) none Set.univ (m := Memref.whole cc0_stg3_0) (r := Rect.unit (s := S256x1024) ![16 * c.val, 0] S16x1024.size p) (Mk := Finset.univ) (S := (chunkM c).view.set)
    (by rw [View.setOn_univ, chunk_acc_set])) $$ Hc
  iintro Hc
  iapply Hk
  iapply (Entails.of_eq (pointsTo_congr (own_landed I c p (poC I c)))); iexact Hc

/-! ## The second exchange: sending -/

def p2Tok (c d : Dev nD) : sProp 𝕄 := iprop(dutyTok ER (dmaC d (r2q c)) 0 0 ∗ ouP d (chunkM c).view.set fullShare (poC I d))
def s2Tok (c : Dev nD) (i : Fin 15) : sProp 𝕄 := iprop(dutyTok ER (dmaC c (s2q i)) 0 0 ∗ ouP c (chunkM c).view.set (shr i) (foC I))
abbrev s2Cr (c : Dev nD) (i : Fin 15) : sProp 𝕄 := cred (tallyAt (dmaC c (s2q i)) () 2048)
/-- The finished rows are on their way to `i` of the others. -/
def P2 (c : Dev nD) (i : ℕ) : sProp 𝕄 :=
  iprop(Own I c ∅ ∅ (restE (fwd c) (i + 1)) ∗ bigSep (restE (fwd c) (i + 1)) (p2Tok I c)
    ∗ bigSep (fromN Finset.univ i) (s2Tok I c) ∗ bigSep (uptoN Finset.univ i) (s2Cr (F := F) c))

theorem r2_pay (c d : Dev nD) (f : Vec F S256x1024 .f32) :
    (ouP d (chunkM c).view.set fullShare ((chunkM c).view.write (Elt F) f ((chunkM c).view.read (Elt F) (foC I)) Finset.univ) : sProp 𝕄)
      ⊢ (Rd I).payload (dmaC d (r2q c)) 0 0 := by
  rw [payload_dma I (kind_r2 c) 0]
  exact Entails.of_eq (pointsTo_congr (chunk_landed I c f))
theorem s2_pay (c : Dev nD) (i : Fin 15) : (ouP c (chunkM c).view.set (shr i) (foC I) : sProp 𝕄) ⊢ (Rd I).payload (dmaC c (s2q i)) 0 0 := by
  rw [payload_dma I (kind_s2 i) 0]; exact Entails.of_eq rfl

theorem step_p2 (c : Dev nD) (i : Fin 15) {x : ℕ} (hx : i.val = x) {d : Dev nD} (hd : d = fwd c (i.val + 1))
    {src : Memref sig .tc .vmem S16x1024 .f32} (hs : src = chunkM c) {dst : Memref sig .tc .vmem S16x1024 .f32} (hds : dst = chunkM c)
    {sS : DmaSem sig} (hsS : sS = s2q i) {sR : DmaSem sig} (hsR : sR = r2q c)
    {hsc : dst.view.ref.isScScratch = false} {hsrc : src.view.WordExact} {hdst : dst.view.WordExact}
    {hsem : DmaTarget.Typed (nD := nD) (τ := τ) .vmem (.dma sR) (DmaTarget.remote (p := Proc.tc) (d : Thread nD τ) dst (.dma sS) hsc)}
    {α : Type} {Q : α → sProp 𝕄} {k : PUnit → Prog (TpuEff nD τ sig (Elt F) Λ₀ .tc) α} :
    P2 I c x ⊢ iprop((P2 I c (x + 1) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (d : Thread nD τ) dst (.dma sS) hsc) (.dma sR) hsrc hdst hsem) k) Q) := by
  have hds' : dst = chunkM c := hds
  subst hx hs hsS hsR hd
  subst hds'
  have hi := i.isLt
  have h16 : i.val + 1 < 16 := by omega
  have h1 : 1 ≤ i.val + 1 := by omega
  have hne := (fwd_enum c).ne (i.val + 1) h1 h16
  unfold P2 Own
  rw [peel_rest (fwd_enum c) h1 h16 (p2Tok I c), peelF (i := i) (Finset.mem_univ _) (s2Tok I c), pushF (i := i) (Finset.mem_univ _) (s2Cr (F := F) c),
    rest_ins (fwd_enum c) h1 h16, Ow_ins2 c (rest_not (fwd_enum c) h1 h16)]
  unfold p2Tok s2Tok
  iintro ⟨⟨#HR, #HL, ⟨%W, HO⟩⟩, ⟨⟨Ht1, Hd⟩, Htoks⟩, ⟨⟨Ht2, Hsrc⟩, Hst⟩, Hcr⟩ Hk
  ihave Hc := (rec_dma I c (s2q i) (by show 4 ≤ 36 + i.val; omega)) $$ HR
  icases Hc with ⟨%κ₁, #HI₁, #Hr₁⟩
  ihave Hc := (rec_dma I (fwd c (i.val + 1)) (r2q c) (by show 4 ≤ 67 + c.val; omega)) $$ HR
  icases Hc with ⟨%κ₂, #HI₂, #Hr₂⟩
  iapply (Rounds.wp_send_pointsTo 𝒱₀ ER (Rd I) (c : Thread nD τ) none (c' := (fwd c (i.val + 1) : Thread nD τ)) (src := chunkM c) (dst := chunkM c) (sS := .dma (s2q i)) (sem := .dma (r2q c))
      (q := shr i) (fs := foC I) (fd := poC I (fwd c (i.val + 1))) (r₁ := 0) (r₂ := 0) (d₁ := 0) (d₂ := 0) (κ₁ := κ₁) (κ₂ := κ₂)
      (by rw [duties_dma I (kind_s2 i) rfl]; exact Finset.mem_singleton_self _)
      (by rw [duties_dma I (kind_r2 c) (live_r2 hne.symm)]; exact Finset.mem_singleton_self _) () () 2048 (credit_16 (chunkM c))
      (amount_dma I (kind_s2 i) 0) (amount_dma I (kind_r2 c) 0) (Ow c ∅ ∅ (restE (fwd c) (i.val + 1 + 1))) rfl
      (s2_pay I c i) (r2_pay I c (fwd c (i.val + 1)) (poC I (fwd c (i.val + 1))))) $$ [Hd Hsrc Ht1 Ht2 HO]
  · isplitr; · iexact HI₁
    isplitr; · iexact HI₂
    isplitl [Hsrc]; · iexact Hsrc
    isplitl [Hd]; · iexact Hd
    isplitl [HO]; · iexact HO
    isplitl [Ht2]; · iexact Ht2
    isplitr; · iexact Hr₁
    isplitl [Ht1]; · iexact Ht1
    iexact Hr₂
  iintro ⟨Hc, HO⟩
  iapply Hk
  isplitl [HO]
  · isplitr; · iexact HR
    isplitr; · iexact HL
    iexists W; iexact HO
  isplitl [Htoks]; · iexact Htoks
  isplitl [Hst]; · iexact Hst
  isplitl [Hc]; · iexact Hc
  iexact Hcr

/-! ## The second exchange: receiving -/

def r2Wait (c s : Dev nD) : sProp 𝕄 := iprop(cred (tallyAt (dmaC c (r2q s)) () 2048) ∗ atPos ER (dmaC c (r2q s)) 0 ∅ 0)
def r2Got (c s : Dev nD) : sProp 𝕄 := iprop(semVal (dmaC c (r2q s)) 0 ∗ ouP c (chunkM s).view.set fullShare (foC I))
def R2 (c : Dev nD) (j : ℕ) : sProp 𝕄 :=
  iprop(Own I c ∅ ∅ ∅ ∗ bigSep (restE (bwd c) j) (r2Wait (F := F) c) ∗ bigSep (doneE (bwd c) j) (r2Got I c))

theorem step_r2 (c : Dev nD) (j : ℕ) (h1 : 1 ≤ j) (h : j < 16) {q : DmaSem sig} (hq : q = r2q (bwd c j))
    {sp : Space} {src : Memref sig .tc sp S16x1024 .f32} {dst : Memref sig .tc .vmem S16x1024 .f32} {hsrc : src.view.WordExact} {hdst : dst.view.WordExact}
    {α : Type} {Q : α → sProp 𝕄} {k : PUnit → Prog (TpuEff nD τ sig (Elt F) Λ₀ .tc) α} :
    R2 I c j ⊢ iprop((R2 I c (j + 1) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hsrc hdst) k) Q) := by
  unfold R2
  rw [peel_rest (bwd_enum c) h1 h (r2Wait (F := F) c), push_done (bwd_enum c) h1 h (r2Got I c)]
  unfold r2Wait r2Got
  iintro ⟨HO, ⟨⟨Hc, Ha⟩, Hr⟩, Hd⟩ Hk
  iapply (dma_wait I c hq (kind_r2 (bwd c j)) (by show 4 ≤ 67 + (bwd c j).val; omega) (live_r2 ((bwd_enum c).ne j h1 h)) (Or.inl rfl) (Or.inl rfl) (Or.inl rfl) (credit_16 dst)) $$ [HO Hc Ha]
  · isplitl [HO]; · iexact HO
    isplitl [Hc]; · iexact Hc
    iexact Ha
  iintro ⟨HO, Hz, Hp⟩
  iapply Hk
  isplitl [HO]; · iexact HO
  isplitl [Hr]; · iexact Hr
  isplitl [Hz Hp]
  · isplitl [Hz]; · iexact Hz
    iapply (Entails.of_eq (show pay I c (.r2 (bwd c j)) = ouP c (chunkM (bwd c j)).view.set fullShare (foC I) from rfl)); iexact Hp
  iexact Hd

/-! ## The senders' waits -/

def s1Wait (c d : Dev nD) : sProp 𝕄 := iprop(cred (tallyAt (dmaC c (s1q d)) () 2048) ∗ atPos ER (dmaC c (s1q d)) 0 ∅ 0)
abbrev s1Got (c d : Dev nD) : sProp 𝕄 := semVal (dmaC c (s1q d)) 0
def W1 (c : Dev nD) (p : ℕ) : sProp 𝕄 :=
  iprop(Own I c ∅ ∅ ∅ ∗ bigSep (fromN (oth c) p) (s1Wait (F := F) c) ∗ bigSep (uptoN (oth c) p) (s1Got (F := F) c))

theorem step_w1 (c d : Dev nD) {p : ℕ} (hp : d.val = p) (hne : d ≠ c) {q : DmaSem sig} (hq : q = s1q d)
    {sp : Space} {src : Memref sig .tc sp S16x1024 .f32} {dst : Memref sig .tc .vmem S16x1024 .f32} {hsrc : src.view.WordExact} {hdst : dst.view.WordExact}
    {α : Type} {Q : α → sProp 𝕄} {k : PUnit → Prog (TpuEff nD τ sig (Elt F) Λ₀ .tc) α} :
    W1 I c p ⊢ iprop((W1 I c (p + 1) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst hsrc hdst) k) Q) := by
  subst hp
  unfold W1
  have hm : d ∈ oth c := Finset.mem_erase.mpr ⟨hne, Finset.mem_univ _⟩
  rw [peelF hm (s1Wait (F := F) c), pushF hm (s1Got (F := F) c)]
  unfold s1Wait
  iintro ⟨HO, ⟨⟨Hc, Ha⟩, Hr⟩, Hd⟩ Hk
  iapply (dma_wait I c hq (kind_s1 d) (by show 4 ≤ 20 + d.val; omega) (live_s1 hne) (Or.inl rfl) (Or.inl rfl) (Or.inl rfl) (credit_16 dst)) $$ [HO Hc Ha]
  · isplitl [HO]; · iexact HO
    isplitl [Hc]; · iexact Hc
    iexact Ha
  iintro ⟨HO, Hz, Hp⟩
  iapply Hk
  isplitl [HO]; · iexact HO
  isplitl [Hr]; · iexact Hr
  isplitl [Hz]; · iexact Hz
  iexact Hd
theorem skip_w1 (c d : Dev nD) {p : ℕ} (hp : d.val = p) (he : d = c) : W1 I c p ⊢ W1 I c (p + 1) := by
  subst hp
  unfold W1
  have hm : d ∉ oth c := fun hm => (Finset.mem_erase.mp hm).1 he
  rw [← from_skip (oth c) d.isLt hm, upto_skip (oth c) d.isLt hm]

def s2Wait (c : Dev nD) (i : Fin 15) : sProp 𝕄 := iprop(cred (tallyAt (dmaC c (s2q i)) () 2048) ∗ atPos ER (dmaC c (s2q i)) 0 ∅ 0)
def s2Got (c : Dev nD) (i : Fin 15) : sProp 𝕄 := iprop(semVal (dmaC c (s2q i)) 0 ∗ ouP c (chunkM c).view.set (shr i) (foC I))
def W2 (c : Dev nD) (i : ℕ) : sProp 𝕄 :=
  iprop(Own I c ∅ ∅ ∅ ∗ bigSep (fromN Finset.univ i) (s2Wait (F := F) c) ∗ bigSep (uptoN Finset.univ i) (s2Got I c))

theorem step_w2 (c : Dev nD) (i : Fin 15) {x : ℕ} (hx : i.val = x) {q : DmaSem sig} (hq : q = s2q i)
    {sp : Space} {src : Memref sig .tc sp S16x1024 .f32} {dst : Memref sig .tc .vmem S16x1024 .f32} {hsrc : src.view.WordExact} {hdst : dst.view.WordExact}
    {α : Type} {Q : α → sProp 𝕄} {k : PUnit → Prog (TpuEff nD τ sig (Elt F) Λ₀ .tc) α} :
    W2 I c x ⊢ iprop((W2 I c (x + 1) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hsrc hdst) k) Q) := by
  subst hx
  unfold W2
  rw [peelF (i := i) (Finset.mem_univ _) (s2Wait (F := F) c), pushF (i := i) (Finset.mem_univ _) (s2Got I c)]
  unfold s2Wait s2Got
  iintro ⟨HO, ⟨⟨Hc, Ha⟩, Hr⟩, Hd⟩ Hk
  iapply (dma_wait I c hq (kind_s2 i) (by show 4 ≤ 36 + i.val; omega) rfl (Or.inl rfl) (Or.inl rfl) (Or.inl rfl) (credit_16 dst)) $$ [HO Hc Ha]
  · isplitl [HO]; · iexact HO
    isplitl [Hc]; · iexact Hc
    iexact Ha
  iintro ⟨HO, Hz, Hp⟩
  iapply Hk
  isplitl [HO]; · iexact HO
  isplitl [Hr]; · iexact Hr
  isplitl [Hz Hp]
  · isplitl [Hz]; · iexact Hz
    iapply (Entails.of_eq (show pay I c (.s2 i) = ouP c (chunkM c).view.set (shr i) (foC I) from rfl)); iexact Hp
  iexact Hd

end Cert.KernelIdeal.Attn

end
-- ==== Proof.Run.lean ====
/-
# Running a stretch of the program

`RunP c S p P T`: from `S`, device `c` runs `p` to a result of which `P` holds, and is left with `T`. Stretches compose,
and what a stretch does not touch is carried along.
-/
module

public import proofs.«01_k».proof.Proof.Exchange

@[expose] public section

set_option maxRecDepth 16384

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- What device `c` must hold to run `p` to `Q`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

def RunP (c : Dev nD) {α : Type} (S : sProp 𝕄) (p : Prog (TpuEff nD τ sig (Elt F) Λ₀ .tc) α) (P : α → Prop) (T : sProp 𝕄) : Prop :=
  ∀ Q : α → sProp 𝕄, S ⊢ iprop((∀ r, ⌜P r⌝ -∗ T -∗ Q r) -∗ wpc c p Q)

/-- Nothing is said of the result. -/
abbrev noted {α : Type} (_ : α) : Prop := True

namespace RunP

theorem step {c : Dev nD} {α : Type} {P : α → Prop} {S S' T : sProp 𝕄} {p k : Prog (TpuEff nD τ sig (Elt F) Λ₀ .tc) α} (h : ∀ Q, S ⊢ iprop((S' -∗ wpc c k Q) -∗ wpc c p Q))
    (hk : RunP c S' k P T) : RunP c S p P T := by
  intro Q
  refine (h Q).trans ?_
  iintro H Hk
  iapply H
  iintro HS
  iapply (hk Q) $$ HS Hk

theorem stepL {c : Dev nD} {α : Type} {P : α → Prop} {S S' R T : sProp 𝕄} {p k : Prog (TpuEff nD τ sig (Elt F) Λ₀ .tc) α} (h : ∀ Q, S ⊢ iprop((S' -∗ wpc c k Q) -∗ wpc c p Q))
    (hk : RunP c iprop(S' ∗ R) k P T) : RunP c iprop(S ∗ R) p P T :=
  step (fun Q => by
    iintro ⟨HS, HR⟩ Hk
    iapply (h Q) $$ HS
    iintro HS
    iapply Hk
    isplitl [HS]; · iexact HS
    iexact HR) hk

theorem stepR {c : Dev nD} {α : Type} {P : α → Prop} {S S' R T : sProp 𝕄} {p k : Prog (TpuEff nD τ sig (Elt F) Λ₀ .tc) α} (h : ∀ Q, S ⊢ iprop((S' -∗ wpc c k Q) -∗ wpc c p Q))
    (hk : RunP c iprop(R ∗ S') k P T) : RunP c iprop(R ∗ S) p P T :=
  step (fun Q => by
    iintro ⟨HR, HS⟩ Hk
    iapply (h Q) $$ HS
    iintro HS
    iapply Hk
    isplitl [HR]; · iexact HR
    iexact HS) hk

/-- A load whose value is not used. -/
theorem dead {c : Dev nD} {α : Type} {P : α → Prop} {S S' T : sProp 𝕄} {V : Type} {p : Prog (TpuEff nD τ sig (Elt F) Λ₀ .tc) α} {k : V → Prog (TpuEff nD τ sig (Elt F) Λ₀ .tc) α}
    (h : ∀ Q, S ⊢ iprop((∀ v, S' -∗ wpc c (k v) Q) -∗ wpc c p Q)) (hk : ∀ v, RunP c S' (k v) P T) : RunP c S p P T := by
  intro Q
  refine (h Q).trans ?_
  iintro H Hk
  iapply H
  iintro %v HS
  iapply (hk v Q) $$ HS Hk

theorem deadR {c : Dev nD} {α : Type} {P : α → Prop} {S S' R T : sProp 𝕄} {V : Type} {p : Prog (TpuEff nD τ sig (Elt F) Λ₀ .tc) α} {k : V → Prog (TpuEff nD τ sig (Elt F) Λ₀ .tc) α}
    (h : ∀ Q, S ⊢ iprop((∀ v, S' -∗ wpc c (k v) Q) -∗ wpc c p Q)) (hk : ∀ v, RunP c iprop(R ∗ S') (k v) P T) : RunP c iprop(R ∗ S) p P T :=
  dead (fun Q => by
    iintro ⟨HR, HS⟩ Hk
    iapply (h Q) $$ HS
    iintro %v HS
    iapply Hk
    isplitl [HR]; · iexact HR
    iexact HS) hk

theorem done {c : Dev nD} {α : Type} {P : α → Prop} {S : sProp 𝕄} {v : α} (h : P v) : RunP c S (.ret v) P S := by
  intro Q
  iintro HS Hk
  unfold wpc; rw [wp_ret]; imodintro
  iapply Hk $$ %v %h HS

theorem devId {c : Dev nD} {α : Type} {P : α → Prop} {S T : sProp 𝕄} {k : Dev nD → Prog (TpuEff nD τ sig (Elt F) Λ₀ .tc) α} (h : RunP c S (k c) P T) : RunP c S (.op .deviceId k) P T := by
  intro Q
  have e : wpc (F := F) c (.op .deviceId k) Q = wpc c (k c) Q := by
    unfold wpc; simp only [wp_deviceId]
  rw [e]; exact h Q

theorem seq {c : Dev nD} {α : Type} {P : α → Prop} {β : Type} {P' : β → Prop} {S T U : sProp 𝕄} {p : Prog (TpuEff nD τ sig (Elt F) Λ₀ .tc) α} {k : α → Prog (TpuEff nD τ sig (Elt F) Λ₀ .tc) β}
    (hp : RunP c S p P T) (hk : ∀ r, P r → RunP c T (k r) P' U) : RunP c S (p >>= k) P' U := by
  intro Q
  unfold wpc
  rw [wp_bind]
  refine (hp (fun a => wpc c (k a) Q)).trans ?_
  iintro H Hk
  iapply H
  iintro %r %hr HT
  iapply (hk r hr Q) $$ HT Hk

theorem pre {c : Dev nD} {α : Type} {P : α → Prop} {S S' T : sProp 𝕄} {p : Prog (TpuEff nD τ sig (Elt F) Λ₀ .tc) α} (h : S ⊢ S') (hp : RunP c S' p P T) : RunP c S p P T :=
  fun Q => h.trans (hp Q)

theorem preU {c : Dev nD} {α : Type} {P : α → Prop} {S S' T : sProp 𝕄} {p : Prog (TpuEff nD τ sig (Elt F) Λ₀ .tc) α} (h : S ⊢ iprop(|={Set.univ}[frame]=> S')) (hp : RunP c S' p P T) : RunP c S p P T := by
  intro Q
  iintro HS Hk
  iapply (fupd_wp frame (wpE (defs₀ (F := F)) 𝒱₀ (c : Thread nD τ) none) Set.univ p Q)
  imod h $$ HS with HS
  imodintro
  iapply (hp Q) $$ HS Hk

theorem post {c : Dev nD} {α : Type} {P : α → Prop} {S T U : sProp 𝕄} {p : Prog (TpuEff nD τ sig (Elt F) Λ₀ .tc) α} (h : T ⊢ U) (hp : RunP c S p P T) : RunP c S p P U := by
  intro Q
  iintro HS Hk
  iapply (hp Q) $$ HS
  iintro %r %hr HT
  iapply Hk $$ %r %hr
  iapply h; iexact HT

theorem carry {c : Dev nD} {α : Type} {P : α → Prop} {S T : sProp 𝕄} {p : Prog (TpuEff nD τ sig (Elt F) Λ₀ .tc) α} (R : sProp 𝕄) (hp : RunP c S p P T) : RunP c iprop(S ∗ R) p P iprop(T ∗ R) := by
  intro Q
  iintro ⟨HS, HR⟩ Hk
  iapply (hp Q) $$ HS
  iintro %r %hr HT
  iapply Hk $$ %r %hr
  isplitl [HT]; · iexact HT
  iexact HR

end RunP

/-- A printed function at the buffers of the call. -/
abbrev atA {β : Type 1}
    (p : (a0 : Memref sig .tc .vmem S256x1024 .f32) → a0.IsWhole → (a1 : Memref sig .tc .vmem S1024x1024 .f32) → a1.IsWhole
      → (a2 : Memref sig .tc .hbm S1x4096x128x128 .f32) → a2.IsWhole → (a3 : Memref sig .tc .hbm S1x4096x128x128 .f32) → a3.IsWhole
      → (a4 : Memref sig .tc .vmem S1024x1024 .f32) → a4.IsWhole → (a5 : Memref sig .tc .vmem S256x1024 .f32) → a5.IsWhole
      → (a6 : Memref sig .tc .vmem S256x1024 .f32) → a6.IsWhole → (a7 : Memref sig .tc .vmem S256x4096 .f32) → a7.IsWhole
      → (a8 : Memref sig .tc .vmem S256x1024 .f32) → a8.IsWhole → (a9 : Memref sig .tc .vmem S4096x1024 .f32) → a9.IsWhole
      → (a10 : Memref sig .tc .vmem S4096x1024 .f32) → a10.IsWhole → (a11 : Memref sig .tc .vmem S16x16x1024 .f32) → a11.IsWhole
      → DmaSems sig S2x8 → DmaSems sig S16 → DmaSems sig S15 → DmaSems sig S16 → DmaSems sig S16 → β) : β :=
  p (Memref.whole cc0_stg0_0) (Memref.isWhole_whole _) (Memref.whole cc0_stg1_0) (Memref.isWhole_whole _)
    (Memref.whole main_arg2) (Memref.isWhole_whole _) (Memref.whole main_arg3) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10

end Cert.KernelIdeal.Attn

end
-- ==== Proof.Pieces.lean ====
/-
# Splitting the buffers, and the facts of the printed offsets
-/
module

public import proofs.«01_k».proof.Proof.Run

@[expose] public section

set_option maxRecDepth 16384

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Ins F)

/-! ## Splitting a buffer among a family -/

theorem pts_family {J : Type} [DecidableEq J] {ℓ : Loc nD τ sig} {q : PosShare TreeShare} {f : Buf (Elt F) ℓ} (T : Finset J) (A : J → Finset (Idx ℓ)) :
    ∀ {S : Finset (Idx ℓ)}, (∀ i, i ∈ S ↔ ∃ t ∈ T, i ∈ A t) → (∀ t ∈ T, ∀ t' ∈ T, t ≠ t' → ∀ i ∈ A t, i ∉ A t') →
      (ℓ ↦[S]{q} f : sProp 𝕄) = bigSep T fun t => (ℓ ↦[A t]{q} f : sProp 𝕄) := by
  induction T using Finset.induction_on with
  | empty =>
    intro S h hd
    have e : S = ∅ := Finset.eq_empty_of_forall_notMem fun i hi => by
      obtain ⟨t, ht, -⟩ := (h i).mp hi
      exact absurd ht (Finset.notMem_empty t)
    subst e
    rw [bigSep_empty]; exact pointsTo_empty
  | insert t T ht ih =>
    intro S h hd
    classical
    rw [bigSep_insert ht, pts_split (S := S) (A := A t) (B := T.biUnion A) (fun i => by
        rw [h i, Finset.mem_biUnion]
        constructor
        · rintro ⟨t', ht', hi⟩
          rcases Finset.mem_insert.mp ht' with rfl | ht'
          · exact Or.inl hi
          · exact Or.inr ⟨t', ht', hi⟩
        · rintro (hi | ⟨t', ht', hi⟩)
          · exact ⟨t, Finset.mem_insert_self _ _, hi⟩
          · exact ⟨t', Finset.mem_insert_of_mem ht', hi⟩)
      (fun i hi hb => by
        obtain ⟨t', ht', hi'⟩ := Finset.mem_biUnion.mp hb
        exact hd t (Finset.mem_insert_self _ _) t' (Finset.mem_insert_of_mem ht') (fun e => ht (e ▸ ht')) i hi hi')]
    rw [ih (S := T.biUnion A) (fun i => Finset.mem_biUnion) (fun a ha b hb => hd a (Finset.mem_insert_of_mem ha) b (Finset.mem_insert_of_mem hb))]
    rfl

theorem chunk_disj (t t' : Dev nD) (hne : t ≠ t') : ∀ i ∈ (chunkM t).view.set, i ∉ (chunkM t').view.set :=
  fun i hi hi' => hne (Fin.ext (((mem_chunk t i).mp hi).symm.trans ((mem_chunk t' i).mp hi')))

theorem mem_half_chunks (a : Fin 2) (i : S256x1024.Idx) :
    i ∈ halfR a ↔ ∃ k ∈ fromN (uptoN (Finset.univ : Finset (Dev nD)) (8 * (a.val + 1))) (8 * a.val), i ∈ (chunkM k).view.set := by
  have hlt : (i 0 : Fin 256).val < 256 := (i 0 : Fin 256).isLt
  rw [mem_half a i]
  constructor
  · intro h
    refine ⟨⟨(i 0 : Fin 256).val / 16, by show _ < 16; omega⟩, ?_, (mem_chunk _ i).mpr rfl⟩
    refine Finset.mem_filter.mpr ⟨Finset.mem_filter.mpr ⟨Finset.mem_univ _, ?_⟩, ?_⟩
    · show (i 0 : Fin 256).val / 16 < 8 * (a.val + 1); omega
    · show 8 * a.val ≤ (i 0 : Fin 256).val / 16; omega
  · rintro ⟨k, hk, hi⟩
    have h1 := (Finset.mem_filter.mp hk).2
    have h2 := (Finset.mem_filter.mp (Finset.mem_filter.mp hk).1).2
    have h3 := (mem_chunk k i).mp hi
    omega

/-- Half the result's rows are eight of its chunks. -/
theorem half_chunks (c : Dev nD) (a : Fin 2) (f : Vec F S256x1024 .f32) :
    (ouP c (halfR a) fullShare f : sProp 𝕄)
      = bigSep (fromN (uptoN (Finset.univ : Finset (Dev nD)) (8 * (a.val + 1))) (8 * a.val)) fun k => ouP c (chunkM k).view.set fullShare f :=
  pts_family (ℓ := (c : Thread nD τ).loc cc0_stg3_0) _ (fun k : Dev nD => (chunkM k).view.set) (mem_half_chunks a) (fun t _ t' _ hne => chunk_disj t t' hne)

theorem mem_all_chunks (i : S256x1024.Idx) : i ∈ (Finset.univ : Finset S256x1024.Idx) ↔ ∃ k ∈ (Finset.univ : Finset (Dev nD)), i ∈ (chunkM k).view.set := by
  have hlt : (i 0 : Fin 256).val < 256 := (i 0 : Fin 256).isLt
  exact ⟨fun _ => ⟨⟨(i 0 : Fin 256).val / 16, by show _ < 16; omega⟩, Finset.mem_univ _, (mem_chunk _ i).mpr rfl⟩, fun _ => Finset.mem_univ i⟩

/-- All its rows are the sixteen chunks. -/
theorem all_chunks (c : Dev nD) (q : PosShare TreeShare) (f : Vec F S256x1024 .f32) :
    (ouP c Finset.univ q f : sProp 𝕄) = bigSep Finset.univ fun k : Dev nD => ouP c (chunkM k).view.set q f :=
  pts_family (ℓ := (c : Thread nD τ).loc cc0_stg3_0) _ (fun k : Dev nD => (chunkM k).view.set) mem_all_chunks (fun t _ t' _ hne => chunk_disj t t' hne)

theorem mem_halves (i : S256x1024.Idx) : i ∈ (Finset.univ : Finset S256x1024.Idx) ↔ i ∈ halfR 0 ∨ i ∈ halfR 1 := by
  have hlt : (i 0 : Fin 256).val < 256 := (i 0 : Fin 256).isLt
  refine ⟨fun _ => ?_, fun _ => Finset.mem_univ i⟩
  by_cases h : (i 0 : Fin 256).val < 128
  · exact Or.inl ((mem_half 0 i).mpr (by show _ = 0; omega))
  · exact Or.inr ((mem_half 1 i).mpr (by show _ = 1; omega))
theorem halves_disj (i : S256x1024.Idx) (hi : i ∈ halfR 0) : i ∉ halfR 1 := fun hi' => by
  have h0 : (i 0 : Fin 256).val / 128 = 0 := (mem_half 0 i).mp hi
  have h1 : (i 0 : Fin 256).val / 128 = 1 := (mem_half 1 i).mp hi'
  omega

/-- All its rows are the two halves. -/
theorem all_halves (c : Dev nD) (f : Vec F S256x1024 .f32) :
    (ouP c Finset.univ fullShare f : sProp 𝕄) = iprop(ouP c (halfR 0) fullShare f ∗ ouP c (halfR 1) fullShare f) :=
  pts_split (ℓ := (c : Thread nD τ).loc cc0_stg3_0) mem_halves halves_disj

theorem mem_all_slots (i : S16x16x1024.Idx) : i ∈ (Finset.univ : Finset S16x16x1024.Idx) ↔ ∃ s ∈ (Finset.univ : Finset (Dev nD)), i ∈ (slotM s).view.set :=
  ⟨fun _ => ⟨(i 0 : Fin 16), Finset.mem_univ _, (mem_slot _ i).mpr rfl⟩, fun _ => Finset.mem_univ i⟩
theorem slot_disj (t t' : Dev nD) (hne : t ≠ t') : ∀ i ∈ (slotM t).view.set, i ∉ (slotM t').view.set :=
  fun i hi hi' => hne (Fin.ext (((mem_slot t i).mp hi).symm.trans ((mem_slot t' i).mp hi')))

/-- The receive buffer is its sixteen slots. -/
theorem all_slots (c : Dev nD) (f : Vec F S16x16x1024 .f32) :
    (rbP c Finset.univ f : sProp 𝕄) = bigSep Finset.univ fun s : Dev nD => rbP c (slotM s).view.set f :=
  pts_family (ℓ := (c : Thread nD τ).loc cc0_scratch5) _ (fun k : Dev nD => (slotM k).view.set) mem_all_slots (fun t _ t' _ hne => slot_disj t t' hne)

theorem mem_all_kcols (i : S4096x1024.Idx) : i ∈ (Finset.univ : Finset S4096x1024.Idx) ↔ ∃ h ∈ (Finset.univ : Finset (Fin 8)), i ∈ (kcolM h).view.set := by
  have hlt : (i 1 : Fin 1024).val < 1024 := (i 1 : Fin 1024).isLt
  exact ⟨fun _ => ⟨⟨(i 1 : Fin 1024).val / 128, by omega⟩, Finset.mem_univ _, (mem_kcol _ i).mpr rfl⟩, fun _ => Finset.mem_univ i⟩
theorem kcol_disj (t t' : Fin 8) (hne : t ≠ t') : ∀ i ∈ (kcolM t).view.set, i ∉ (kcolM t').view.set :=
  fun i hi hi' => hne (Fin.ext (((mem_kcol t i).mp hi).symm.trans ((mem_kcol t' i).mp hi')))
theorem mem_all_vcols (i : S4096x1024.Idx) : i ∈ (Finset.univ : Finset S4096x1024.Idx) ↔ ∃ h ∈ (Finset.univ : Finset (Fin 8)), i ∈ (vcolM h).view.set := by
  have hlt : (i 1 : Fin 1024).val < 1024 := (i 1 : Fin 1024).isLt
  exact ⟨fun _ => ⟨⟨(i 1 : Fin 1024).val / 128, by omega⟩, Finset.mem_univ _, (mem_vcol _ i).mpr rfl⟩, fun _ => Finset.mem_univ i⟩
theorem vcol_disj (t t' : Fin 8) (hne : t ≠ t') : ∀ i ∈ (vcolM t).view.set, i ∉ (vcolM t').view.set :=
  fun i hi hi' => hne (Fin.ext (((mem_vcol t i).mp hi).symm.trans ((mem_vcol t' i).mp hi')))

/-- The key scratch is its eight columns, one for each head; likewise the value scratch. -/
theorem all_kcols (c : Dev nD) (f : Vec F S4096x1024 .f32) :
    (kaP c Finset.univ f : sProp 𝕄) = bigSep Finset.univ fun h : Fin 8 => kaP c (kcolM h).view.set f :=
  pts_family (ℓ := (c : Thread nD τ).loc cc0_scratch3) _ (fun k : Fin 8 => (kcolM k).view.set) mem_all_kcols (fun t _ t' _ hne => kcol_disj t t' hne)
theorem all_vcols (c : Dev nD) (f : Vec F S4096x1024 .f32) :
    (vaP c Finset.univ f : sProp 𝕄) = bigSep Finset.univ fun h : Fin 8 => vaP c (vcolM h).view.set f :=
  pts_family (ℓ := (c : Thread nD τ).loc cc0_scratch4) _ (fun k : Fin 8 => (vcolM k).view.set) mem_all_vcols (fun t _ t' _ hne => vcol_disj t t' hne)

open Classical in
/-- The cached keys a device copies, and those it does not. -/
def kSome (c : Dev nD) : Finset S1x4096x128x128.Idx := (Finset.univ : Finset (Fin 8)).biUnion fun h => (kheadM c h).view.set
open Classical in
def kRest (c : Dev nD) : Finset S1x4096x128x128.Idx := Finset.univ \ kSome c

theorem khead_disj (c : Dev nD) (t t' : Fin 8) (hne : t ≠ t') : ∀ i ∈ (kheadM c t).view.set, i ∉ (kheadM c t').view.set := fun i hi hi' => hne (Fin.ext (by
  have h1 := mem_headRect c t i (by rw [khead_set] at hi; exact hi)
  have h2 := mem_headRect c t' i (by rw [khead_set] at hi'; exact hi')
  omega))
theorem mem_kSome (c : Dev nD) (i : S1x4096x128x128.Idx) : i ∈ kSome c ↔ ∃ h ∈ (Finset.univ : Finset (Fin 8)), i ∈ (kheadM c h).view.set := Finset.mem_biUnion
theorem k_split (c : Dev nD) (i : S1x4096x128x128.Idx) : i ∈ (Finset.univ : Finset S1x4096x128x128.Idx) ↔ i ∈ kSome c ∨ i ∈ kRest c := by
  refine ⟨fun _ => ?_, fun _ => Finset.mem_univ i⟩
  by_cases h : i ∈ kSome c
  · exact Or.inl h
  · exact Or.inr (Finset.mem_sdiff.mpr ⟨Finset.mem_univ _, h⟩)

theorem all_kheads (c : Dev nD) (f : Vec F S1x4096x128x128 .f32) :
    (kP c Finset.univ f : sProp 𝕄) = iprop((bigSep Finset.univ fun h : Fin 8 => kP c (kheadM c h).view.set f) ∗ kP c (kRest c) f) := by
  have e1 : (kP c Finset.univ f : sProp 𝕄) = iprop(kP c (kSome c) f ∗ kP c (kRest c) f) :=
    pts_split (ℓ := (c : Thread nD τ).loc main_arg2) (k_split c) (fun i hi hb => (Finset.mem_sdiff.mp hb).2 hi)
  have e2 : (kP c (kSome c) f : sProp 𝕄) = bigSep Finset.univ fun h : Fin 8 => kP c (kheadM c h).view.set f :=
    pts_family (ℓ := (c : Thread nD τ).loc main_arg2) _ (fun h : Fin 8 => (kheadM c h).view.set) (mem_kSome c) (fun t _ t' _ hne => khead_disj c t t' hne)
  rw [e1, e2]

open Classical in
/-- The cached values a device copies, and those it does not. -/
def vSome (c : Dev nD) : Finset S1x4096x128x128.Idx := (Finset.univ : Finset (Fin 8)).biUnion fun h => (vheadM c h).view.set
open Classical in
def vRest (c : Dev nD) : Finset S1x4096x128x128.Idx := Finset.univ \ vSome c

theorem vhead_disj (c : Dev nD) (t t' : Fin 8) (hne : t ≠ t') : ∀ i ∈ (vheadM c t).view.set, i ∉ (vheadM c t').view.set := fun i hi hi' => hne (Fin.ext (by
  have h1 := mem_headRect c t i (by rw [vhead_set] at hi; exact hi)
  have h2 := mem_headRect c t' i (by rw [vhead_set] at hi'; exact hi')
  omega))
theorem mem_vSome (c : Dev nD) (i : S1x4096x128x128.Idx) : i ∈ vSome c ↔ ∃ h ∈ (Finset.univ : Finset (Fin 8)), i ∈ (vheadM c h).view.set := Finset.mem_biUnion
theorem v_split (c : Dev nD) (i : S1x4096x128x128.Idx) : i ∈ (Finset.univ : Finset S1x4096x128x128.Idx) ↔ i ∈ vSome c ∨ i ∈ vRest c := by
  refine ⟨fun _ => ?_, fun _ => Finset.mem_univ i⟩
  by_cases h : i ∈ vSome c
  · exact Or.inl h
  · exact Or.inr (Finset.mem_sdiff.mpr ⟨Finset.mem_univ _, h⟩)

theorem all_vheads (c : Dev nD) (f : Vec F S1x4096x128x128 .f32) :
    (vP c Finset.univ f : sProp 𝕄) = iprop((bigSep Finset.univ fun h : Fin 8 => vP c (vheadM c h).view.set f) ∗ vP c (vRest c) f) := by
  have e1 : (vP c Finset.univ f : sProp 𝕄) = iprop(vP c (vSome c) f ∗ vP c (vRest c) f) :=
    pts_split (ℓ := (c : Thread nD τ).loc main_arg3) (v_split c) (fun i hi hb => (Finset.mem_sdiff.mp hb).2 hi)
  have e2 : (vP c (vSome c) f : sProp 𝕄) = bigSep Finset.univ fun h : Fin 8 => vP c (vheadM c h).view.set f :=
    pts_family (ℓ := (c : Thread nD τ).loc main_arg3) _ (fun h : Fin 8 => (vheadM c h).view.set) (mem_vSome c) (fun t _ t' _ hne => vhead_disj c t t' hne)
  rw [e1, e2]

/-- The rows of a finished chunk, in fifteen shares. -/
theorem chunk_shares (c k : Dev nD) (f : Vec F S256x1024 .f32) :
    (ouP c (chunkM k).view.set fullShare f : sProp 𝕄) = bigSep Finset.univ fun i : Fin 15 => ouP c (chunkM k).view.set (shr i) f :=
  pointsTo_pieces _ _ 14 fullShare

/-! ## Starting the first exchange -/

abbrev Toks (c : Dev nD) : sProp 𝕄 := bigSep (oth c) (p1Tok (F := F) c)

theorem start_sd (c : Dev nD) {n m t : ℕ} :
    iprop(At I c (oth c) n m t ∗ (ouP c (halfR 0) fullShare (poC I c) ∗ Toks (F := F) c)) ⊢ iprop(At I c (fromN (oth c) 0) n m t ∗ Sd I c 8 0) := by
  unfold Sd
  rw [from_zero, from_zero, upto_zero, upto_zero, bigSep_empty, bigSep_empty, half_chunks c 0]
  iintro ⟨HA, Hh, Ht⟩
  isplitl [HA]; · iexact HA
  isplitl [Ht]; · iexact Ht
  isplitr; · iempintro
  isplitl [Hh]
  · iapply (Entails.of_eq (show _ = _ from rfl)); iexact Hh
  iempintro
theorem more_sd (c : Dev nD) {S1 : Finset (Dev nD)} {n m t : ℕ} :
    iprop(At I c S1 n m t ∗ (ouP c (halfR 1) fullShare (poC I c) ∗ Sd I c 8 8)) ⊢ iprop(At I c S1 n m t ∗ Sd I c 16 8) := by
  unfold Sd
  rw [half_chunks c 1]
  iintro ⟨HA, Hh, Ht, Hc, -, Ho⟩
  isplitl [HA]; · iexact HA
  isplitl [Ht]; · iexact Ht
  isplitl [Hc]; · iexact Hc
  isplitl [Hh]; · iexact Hh
  iexact Ho

/-! ## The rows of the attention's loads -/

abbrev rq (c : Dev nD) (a : Fin 2) (h : Fin 8) : Vec F S128x128 .f32 :=
  qM.view.readAt (Elt F) (Rect.unit (s := S256x1024) ![128 * a.val, 128 * h.val] S128x128.size (inb_blk a.isLt h.isLt)).toLoadRect (qC I c)
abbrev rk (c : Dev nD) (h : Fin 8) : Vec F S4096x128 .f32 :=
  (Memref.whole cc0_scratch3 : Memref sig .tc .vmem S4096x1024 .f32).view.readAt (Elt F) (Rect.unit (s := S4096x1024) ![0, 128 * h.val] S4096x128.size (inb_col h.isLt)).toLoadRect (kaC I c)
abbrev rb (a : Fin 2) : Vec F S128x4096 .f32 :=
  biasM.view.readAt (Elt F) (Rect.unit (s := S256x4096) ![128 * a.val, 0] S128x4096.size (inb_bias a.isLt)).toLoadRect (biasC (F := F))
abbrev rv (c : Dev nD) (h : Fin 8) : Vec F S4096x128 .f32 :=
  (Memref.whole cc0_scratch4 : Memref sig .tc .vmem S4096x1024 .f32).view.readAt (Elt F) (Rect.unit (s := S4096x1024) ![0, 128 * h.val] S4096x128.size (inb_col h.isLt)).toLoadRect (vaC I c)
abbrev rh (c : Dev nD) (a : Fin 2) : Vec F S128x1024 .f32 :=
  ctxM.view.readAt (Elt F) (Rect.unit (s := S256x1024) ![128 * a.val, 0] S128x1024.size (inb_half a.isLt)).toLoadRect (ctxC I c)

/-! ## The printed semaphores, offsets and guards -/

theorem r1_of {s : Dev nD} {off : Fin 1 → ℕ} (ho : off = ![s.val]) (p : ∀ i, off i + S1.size i ≤ S16.size i) :
    ((cc0_scratch9.slice (Rect.unit (s := S16) off S1.size p)).squeeze S_ squeezes_S1_S_).sem = r1q s := by
  subst ho; revert s; decide +kernel
theorem s1_of {s : Dev nD} {off : Fin 1 → ℕ} (ho : off = ![s.val]) (p : ∀ i, off i + S1.size i ≤ S16.size i) :
    ((cc0_scratch7.slice (Rect.unit (s := S16) off S1.size p)).squeeze S_ squeezes_S1_S_).sem = s1q s := by
  subst ho; revert s; decide +kernel
theorem r2_of {s : Dev nD} {off : Fin 1 → ℕ} (ho : off = ![s.val]) (p : ∀ i, off i + S1.size i ≤ S16.size i) :
    ((cc0_scratch10.slice (Rect.unit (s := S16) off S1.size p)).squeeze S_ squeezes_S1_S_).sem = r2q s := by
  subst ho; revert s; decide +kernel

theorem s2_of {i : Fin 15} {off : Fin 1 → ℕ} (ho : off = ![i.val]) (p : ∀ i, off i + S1.size i ≤ S15.size i) :
    ((cc0_scratch8.slice (Rect.unit (s := S15) off S1.size p)).squeeze S_ squeezes_S1_S_).sem = s2q i := by
  subst ho; revert i; decide +kernel

theorem back_val (c : Dev nD) (r : Fin 15) : ((c.val + 15) - r.val) % 16 = (bwd c (1 + r.val)).val := by
  have := r.isLt; have hc : c.val < 16 := c.isLt
  show _ = (c.val + 15 * (1 + r.val)) % 16
  omega
theorem off35_at (c : Dev nD) (j : ℕ) (h1 : 1 ≤ j) (h : j < 16) : k0_off35 c (BitVec.ofNat 32 j) = ![(bwd c j).val] := by
  obtain ⟨r, rfl⟩ : ∃ r : Fin 15, j = 1 + r.val := ⟨⟨j - 1, by omega⟩, by show j = 1 + (j - 1); omega⟩
  rw [k0_off35_eq, back_val]
theorem off37_at (c : Dev nD) (j : ℕ) (h1 : 1 ≤ j) (h : j < 16) : k0_off37 c (BitVec.ofNat 32 j) = ![(bwd c j).val, 0, 0] := by
  obtain ⟨r, rfl⟩ : ∃ r : Fin 15, j = 1 + r.val := ⟨⟨j - 1, by omega⟩, by show j = 1 + (j - 1); omega⟩
  rw [k0_off37_eq, back_val]

theorem cond_p0 : ∀ c : Dev nD, k0_cond1 c = 1#1 ↔ (0 : Dev nD) ≠ c := by decide +kernel
theorem cond_p1 : ∀ c : Dev nD, k0_cond2 c = 1#1 ↔ (1 : Dev nD) ≠ c := by decide +kernel
theorem cond_p2 : ∀ c : Dev nD, k0_cond3 c = 1#1 ↔ (2 : Dev nD) ≠ c := by decide +kernel
theorem cond_p3 : ∀ c : Dev nD, k0_cond4 c = 1#1 ↔ (3 : Dev nD) ≠ c := by decide +kernel
theorem cond_p4 : ∀ c : Dev nD, k0_cond5 c = 1#1 ↔ (4 : Dev nD) ≠ c := by decide +kernel
theorem cond_p5 : ∀ c : Dev nD, k0_cond6 c = 1#1 ↔ (5 : Dev nD) ≠ c := by decide +kernel
theorem cond_p6 : ∀ c : Dev nD, k0_cond7 c = 1#1 ↔ (6 : Dev nD) ≠ c := by decide +kernel
theorem cond_p7 : ∀ c : Dev nD, k0_cond8 c = 1#1 ↔ (7 : Dev nD) ≠ c := by decide +kernel
theorem cond_p8 : ∀ c : Dev nD, k0_cond9 c = 1#1 ↔ (8 : Dev nD) ≠ c := by decide +kernel
theorem cond_p9 : ∀ c : Dev nD, k0_cond10 c = 1#1 ↔ (9 : Dev nD) ≠ c := by decide +kernel
theorem cond_p10 : ∀ c : Dev nD, k0_cond11 c = 1#1 ↔ (10 : Dev nD) ≠ c := by decide +kernel
theorem cond_p11 : ∀ c : Dev nD, k0_cond12 c = 1#1 ↔ (11 : Dev nD) ≠ c := by decide +kernel
theorem cond_p12 : ∀ c : Dev nD, k0_cond13 c = 1#1 ↔ (12 : Dev nD) ≠ c := by decide +kernel
theorem cond_p13 : ∀ c : Dev nD, k0_cond14 c = 1#1 ↔ (13 : Dev nD) ≠ c := by decide +kernel
theorem cond_p14 : ∀ c : Dev nD, k0_cond15 c = 1#1 ↔ (14 : Dev nD) ≠ c := by decide +kernel
theorem cond_p15 : ∀ c : Dev nD, k0_cond16 c = 1#1 ↔ (15 : Dev nD) ≠ c := by decide +kernel
theorem cond_w0 : ∀ c : Dev nD, k0_cond17 c = 1#1 ↔ (0 : Dev nD) ≠ c := by decide +kernel
theorem cond_w1 : ∀ c : Dev nD, k0_cond18 c = 1#1 ↔ (1 : Dev nD) ≠ c := by decide +kernel
theorem cond_w2 : ∀ c : Dev nD, k0_cond19 c = 1#1 ↔ (2 : Dev nD) ≠ c := by decide +kernel
theorem cond_w3 : ∀ c : Dev nD, k0_cond20 c = 1#1 ↔ (3 : Dev nD) ≠ c := by decide +kernel
theorem cond_w4 : ∀ c : Dev nD, k0_cond21 c = 1#1 ↔ (4 : Dev nD) ≠ c := by decide +kernel
theorem cond_w5 : ∀ c : Dev nD, k0_cond22 c = 1#1 ↔ (5 : Dev nD) ≠ c := by decide +kernel
theorem cond_w6 : ∀ c : Dev nD, k0_cond23 c = 1#1 ↔ (6 : Dev nD) ≠ c := by decide +kernel
theorem cond_w7 : ∀ c : Dev nD, k0_cond24 c = 1#1 ↔ (7 : Dev nD) ≠ c := by decide +kernel
theorem cond_w8 : ∀ c : Dev nD, k0_cond25 c = 1#1 ↔ (8 : Dev nD) ≠ c := by decide +kernel
theorem cond_w9 : ∀ c : Dev nD, k0_cond26 c = 1#1 ↔ (9 : Dev nD) ≠ c := by decide +kernel
theorem cond_w10 : ∀ c : Dev nD, k0_cond27 c = 1#1 ↔ (10 : Dev nD) ≠ c := by decide +kernel
theorem cond_w11 : ∀ c : Dev nD, k0_cond28 c = 1#1 ↔ (11 : Dev nD) ≠ c := by decide +kernel
theorem cond_w12 : ∀ c : Dev nD, k0_cond29 c = 1#1 ↔ (12 : Dev nD) ≠ c := by decide +kernel
theorem cond_w13 : ∀ c : Dev nD, k0_cond30 c = 1#1 ↔ (13 : Dev nD) ≠ c := by decide +kernel
theorem cond_w14 : ∀ c : Dev nD, k0_cond31 c = 1#1 ↔ (14 : Dev nD) ≠ c := by decide +kernel
theorem cond_w15 : ∀ c : Dev nD, k0_cond32 c = 1#1 ↔ (15 : Dev nD) ≠ c := by decide +kernel

/-! ## Guarded sends -/

namespace RunP
theorem deadL {c : Dev nD} {α : Type} {P : α → Prop} {S S' R T : sProp 𝕄} {V : Type} {p : Prog (TpuEff nD τ sig (Elt F) Λ₀ .tc) α} {k : V → Prog (TpuEff nD τ sig (Elt F) Λ₀ .tc) α}
    (h : ∀ Q, S ⊢ iprop((∀ v, S' -∗ wpc c (k v) Q) -∗ wpc c p Q)) (hk : ∀ v, RunP c iprop(S' ∗ R) (k v) P T) : RunP c iprop(S ∗ R) p P T :=
  dead (fun Q => by
    iintro ⟨HS, HR⟩ Hk
    iapply (h Q) $$ HS
    iintro %v HS
    iapply Hk
    isplitl [HS]; · iexact HS
    iexact HR) hk
theorem deadRL {c : Dev nD} {α : Type} {P : α → Prop} {S S' R R' T : sProp 𝕄} {V : Type} {p : Prog (TpuEff nD τ sig (Elt F) Λ₀ .tc) α} {k : V → Prog (TpuEff nD τ sig (Elt F) Λ₀ .tc) α}
    (h : ∀ Q, S ⊢ iprop((∀ v, S' -∗ wpc c (k v) Q) -∗ wpc c p Q)) (hk : ∀ v, RunP c iprop(R ∗ (S' ∗ R')) (k v) P T) : RunP c iprop(R ∗ (S ∗ R')) p P T :=
  deadR (fun Q => by
    iintro ⟨HS, HR⟩ Hk
    iapply (h Q) $$ HS
    iintro %v HS
    iapply Hk
    isplitl [HS]; · iexact HS
    iexact HR) hk
theorem stepRL {c : Dev nD} {α : Type} {P : α → Prop} {S S' R R' T : sProp 𝕄} {p k : Prog (TpuEff nD τ sig (Elt F) Λ₀ .tc) α}
    (h : ∀ Q, S ⊢ iprop((S' -∗ wpc c k Q) -∗ wpc c p Q)) (hk : RunP c iprop(R ∗ (S' ∗ R')) k P T) : RunP c iprop(R ∗ (S ∗ R')) p P T :=
  stepR (fun Q => by
    iintro ⟨HS, HR⟩ Hk
    iapply (h Q) $$ HS
    iintro HS
    iapply Hk
    isplitl [HS]; · iexact HS
    iexact HR) hk
end RunP

theorem send_p1 (c d : Dev nD) {n m t M p : ℕ} (hp : d.val = p) (hM : p < M) {C : Prop} [Decidable C] (hC : C ↔ d ≠ c)
    {α : Type} {P : α → Prop} {T : sProp 𝕄} {e : C → TpuEff nD τ sig (Elt F) Λ₀ .tc PUnit} {k : Prog (TpuEff nD τ sig (Elt F) Λ₀ .tc) α}
    (hf : ∀ (h : C) (k : Prog (TpuEff nD τ sig (Elt F) Λ₀ .tc) α) (Q : α → sProp 𝕄), iprop(At I c (fromN (oth c) p) n m t ∗ Sd I c M p)
      ⊢ iprop(((At I c (fromN (oth c) (p + 1)) n m t ∗ Sd I c M (p + 1)) -∗ wpc c k Q) -∗ wpc c (.op (e h) fun _ => k) Q))
    (hk : RunP c iprop(At I c (fromN (oth c) (p + 1)) n m t ∗ Sd I c M (p + 1)) k P T) :
    RunP c iprop(At I c (fromN (oth c) p) n m t ∗ Sd I c M p) (if h : C then .op (e h) fun _ => k else k) P T := by
  by_cases h : C
  · rw [dif_pos h]; exact .step (hf h k) hk
  · rw [dif_neg h]; exact .pre (skip_p1 I c d hp hM (not_not.mp fun hn => h (hC.mpr hn))) hk

theorem wait_w1 (c d : Dev nD) {p : ℕ} (hp : d.val = p) {C : Prop} [Decidable C] (hC : C ↔ d ≠ c)
    {α : Type} {P : α → Prop} {R T : sProp 𝕄} {e : C → TpuEff nD τ sig (Elt F) Λ₀ .tc PUnit} {k : Prog (TpuEff nD τ sig (Elt F) Λ₀ .tc) α}
    (hf : ∀ (h : C) (k : Prog (TpuEff nD τ sig (Elt F) Λ₀ .tc) α) (Q : α → sProp 𝕄), W1 I c p ⊢ iprop((W1 I c (p + 1) -∗ wpc c k Q) -∗ wpc c (.op (e h) fun _ => k) Q))
    (hk : RunP c iprop(W1 I c (p + 1) ∗ R) k P T) : RunP c iprop(W1 I c p ∗ R) (if h : C then .op (e h) fun _ => k else k) P T := by
  by_cases h : C
  · rw [dif_pos h]; exact .stepL (hf h k) hk
  · rw [dif_neg h]
    refine .pre ?_ hk
    iintro ⟨HW, HR⟩
    isplitl [HW]
    · iapply (skip_w1 I c d hp (not_not.mp fun hn => h (hC.mpr hn))); iexact HW
    iexact HR

/-! ## From one stage to the next -/

theorem sep_split {J : Type} (s : Finset J) (Φ Ψ : J → sProp 𝕄) : bigSep s (fun i => iprop(Φ i ∗ Ψ i)) ⊢ (iprop(bigSep s Φ ∗ bigSep s Ψ) : sProp 𝕄) :=
  Entails.of_eq (bigSep_sep s Φ Ψ)
theorem sep_join {J : Type} (s : Finset J) (Φ Ψ : J → sProp 𝕄) : iprop(bigSep s Φ ∗ bigSep s Ψ) ⊢ (bigSep s (fun i => iprop(Φ i ∗ Ψ i)) : sProp 𝕄) :=
  Entails.of_eq (bigSep_sep s Φ Ψ).symm

theorem rest_one {c : Dev nD} {e : ℕ → Dev nD} (he : Enum c e) : restE e 1 = oth c := done_all he

/-- What is left of the attention while the exchange runs. -/
abbrev Left0 (c : Dev nD) : sProp 𝕄 :=
  iprop(bigSep (oth c) (s1Cr (F := F) c) ∗ KW I c 8 ∗ VW I c 8 ∗ qP c (qC I c) ∗ biP c biasC ∗ CX I c 16 ∗ woP c (I.wo c))
/-- The rows received and added up. -/
abbrev Left1 (c : Dev nD) : sProp 𝕄 := bigSep (oth c) fun s => iprop(semVal (dmaC c (r1q s)) 0 ∗ rbP c (slotM s).view.set (rbC I c))
/-- The duties of the second exchange's landings. -/
abbrev T2 (c : Dev nD) : sProp 𝕄 :=
  iprop(bigSep (oth c) (fun d => dutyTok ER (dmaC d (r2q c)) 0 0) ∗ bigSep Finset.univ fun i : Fin 15 => dutyTok ER (dmaC c (s2q i)) 0 0)

theorem from16 (S : Finset (Dev nD)) : fromN S 16 = ∅ := from_end S
theorem upto16 (S : Finset (Dev nD)) : uptoN S 16 = S := upto_end S
theorem from15 (S : Finset (Fin 15)) : fromN S 15 = ∅ := from_end S
theorem upto15 (S : Finset (Fin 15)) : uptoN S 15 = S := upto_end S

theorem to_rx (c : Dev nD) : iprop((At I c (fromN (oth c) 16) 8 8 16 ∗ Sd I c 16 16) ∗ bigSep (oth c) (r1Wait (F := F) c))
    ⊢ iprop((Rx I c 1 ∗ chP I c c) ∗ Left0 I c) := by
  unfold At Sd Rx
  rw [from16, from16, upto16, upto16, rest_one (bwd_enum c), done_one, bigSep_empty, bigSep_empty, bigSep_singleton]
  iintro ⟨⟨⟨HO, HK, HV, Hq, Hb, Hc, Hw⟩, -, Hs, -, Hm⟩, Hr⟩
  isplitl [HO Hr Hm]
  · isplitl [HO Hr]
    · isplitl [HO]; · iexact HO
      isplitl [Hr]; · iexact Hr
      rw [bigSep_empty]; iempintro
    iexact Hm
  isplitl [Hs]; · iexact Hs
  isplitl [HK]; · iexact HK
  isplitl [HV]; · iexact HV
  isplitl [Hq]; · iexact Hq
  isplitl [Hb]; · iexact Hb
  isplitl [Hc]; · iexact Hc
  iexact Hw

theorem r1_part (c s : Dev nD) : r1Got I c s ⊢ iprop((semVal (dmaC c (r1q s)) 0 ∗ rbP c (slotM s).view.set (rbC I c)) ∗ ouP s (chunkM c).view.set fullShare (poC I s)) := by
  unfold r1Got
  iintro ⟨Hz, Hr, Ho⟩
  isplitl [Hz Hr]
  · isplitl [Hz]; · iexact Hz
    iexact Hr
  iexact Ho
theorem r1_parts (c : Dev nD) : (bigSep (oth c) (r1Got I c) : sProp 𝕄) ⊢ iprop(Left1 I c ∗ bigSep (oth c) fun s => ouP s (chunkM c).view.set fullShare (poC I s)) :=
  BIBase.Entails.trans (bigSep_mono fun s _ => r1_part I c s) (sep_split (oth c) _ _)

theorem to_p2 (c : Dev nD) : iprop(Rx I c 16 ∗ (ouP c (chunkM c).view.set fullShare (foC I) ∗ T2 (F := F) c)) ⊢ iprop(P2 I c 0 ∗ Left1 I c) := by
  unfold Rx P2
  rw [rest_end, done_all (bwd_enum c), rest_one (fwd_enum c), from_zero, upto_zero, bigSep_empty, chunk_shares c c (foC I)]
  iintro ⟨⟨HO, -, Hg⟩, Hm, Ht, Hs⟩
  ihave Hg := (r1_parts I c) $$ Hg
  icases Hg with ⟨Hl, Hp⟩
  isplitl [HO Hm Ht Hs Hp]
  · isplitl [HO]; · iexact HO
    isplitl [Ht Hp]
    · unfold p2Tok
      iapply (sep_join (oth c) (fun d => dutyTok ER (dmaC d (r2q c)) 0 0) (fun d => ouP d (chunkM c).view.set fullShare (poC I d)))
      isplitl [Ht]; · iexact Ht
      iexact Hp
    isplitl [Hs Hm]
    · unfold s2Tok
      iapply (sep_join Finset.univ (fun i : Fin 15 => dutyTok ER (dmaC c (s2q i)) 0 0) (fun i => ouP c (chunkM c).view.set (shr i) (foC I)))
      isplitl [Hs]; · iexact Hs
      iexact Hm
    rw [bigSep_empty]; iempintro
  iexact Hl

theorem to_r2 (c : Dev nD) : iprop(P2 I c 15 ∗ bigSep (oth c) (r2Wait (F := F) c)) ⊢ iprop(R2 I c 1 ∗ bigSep Finset.univ (s2Cr (F := F) c)) := by
  unfold P2 R2
  rw [rest_end, rest_one (bwd_enum c), done_one, from15, upto15, bigSep_empty]
  iintro ⟨⟨HO, -, -, Hs⟩, Hr⟩
  isplitl [HO Hr]
  · isplitl [HO]; · iexact HO
    isplitl [Hr]; · iexact Hr
    rw [bigSep_empty]; iempintro
  iexact Hs

theorem to_w1 (c : Dev nD) : iprop(R2 I c 16 ∗ bigSep (oth c) (s1Wait (F := F) c)) ⊢ iprop(W1 I c 0 ∗ bigSep (oth c) (r2Got I c)) := by
  unfold R2 W1
  rw [rest_end, done_all (bwd_enum c), from_zero, upto_zero, bigSep_empty]
  iintro ⟨⟨HO, -, Hs⟩, Hr⟩
  isplitl [HO Hr]
  · isplitl [HO]; · iexact HO
    isplitl [Hr]; · iexact Hr
    rw [bigSep_empty]; iempintro
  iexact Hs

theorem to_w2 (c : Dev nD) : iprop(W1 I c 16 ∗ bigSep Finset.univ (s2Wait (F := F) c)) ⊢ iprop(W2 I c 0 ∗ bigSep (oth c) (s1Got (F := F) c)) := by
  unfold W1 W2
  rw [from16, upto16, from_zero, upto_zero, bigSep_empty]
  iintro ⟨⟨HO, -, Hs⟩, Hr⟩
  isplitl [HO Hr]
  · isplitl [HO]; · iexact HO
    isplitl [Hr]; · iexact Hr
    rw [bigSep_empty]; iempintro
  iexact Hs

end Cert.KernelIdeal.Attn

end
-- ==== Proof.Body0.lean ====
/-
# The start: the barrier, the copies of the caches, the queries, the bias
-/
module

public import proofs.«01_k».proof.Proof.Pieces

@[expose] public section

set_option maxRecDepth 16384

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Ins F)

/-- What the device holds of its two operands in fast memory, and its query, bias and context buffers. -/
abbrev xP (c : Dev nD) (f : Vec F S256x1024 .f32) : sProp 𝕄 := (c : Thread nD τ).loc cc0_stg0_0 ↦[Finset.univ]{fullShare} f
abbrev wqP (c : Dev nD) (f : Vec F S1024x1024 .f32) : sProp 𝕄 := (c : Thread nD τ).loc cc0_stg1_0 ↦[Finset.univ]{fullShare} f
abbrev qAny (c : Dev nD) : sProp 𝕄 := iprop(∃ f : Vec F S256x1024 .f32, qP c f)
abbrev biAny (c : Dev nD) : sProp 𝕄 := iprop(∃ f : Vec F S256x4096 .f32, biP c f)

theorem rot (A B C D : sProp 𝕄) : iprop(A ∗ (B ∗ (C ∗ D))) ⊢ iprop(A ∗ (C ∗ (D ∗ B))) := by
  iintro ⟨HA, HB, HC, HD⟩
  isplitl [HA]; · iexact HA
  isplitl [HC]; · iexact HC
  isplitl [HD]; · iexact HD
  iexact HB

theorem zeros2 : (![0, 0] : Fin 2 → ℕ) = fun _ => 0 := by funext i; fin_cases i <;> rfl

/-- Loading the whole of `x` gives its contents. -/
theorem step_ldx (c : Dev nD) (f : Vec F S256x1024 .f32) {p : ∀ a, (![0, 0] : Fin 2 → ℕ) a + S256x1024.size a ≤ S256x1024.size a}
    {hl : (Memref.whole cc0_stg0_0 : Memref sig .tc .vmem S256x1024 .f32).view.LoadsAt (Rect.unit (s := S256x1024) ![0, 0] S256x1024.size p).toLoadRect}
    {α : Type} {Q : α → sProp 𝕄} {k : Vec F S256x1024 .f32 → Prog (TpuEff nD τ sig (Elt F) Λ₀ .tc) α} :
    xP c f ⊢ iprop((xP c f -∗ wpc c (k f) Q)
      -∗ wpc c (.op (.load (Memref.whole cc0_stg0_0) (Rect.unit (s := S256x1024) ![0, 0] S256x1024.size p).toLoadRect hl) k) Q) := by
  unfold wpc
  iintro Hc Hk
  iapply (wp_load 𝒱₀ (c : Thread nD τ) none Set.univ (m := Memref.whole cc0_stg0_0) (fun i _ => Finset.mem_univ i)) $$ Hc
  iintro Hc
  rw [show (Memref.whole cc0_stg0_0 : Memref sig .tc .vmem S256x1024 .f32).view.readAt (Elt F) (Rect.unit (s := S256x1024) ![0, 0] S256x1024.size p).toLoadRect f = f from Memref.readAt_unit_zero (Elt F) cc0_stg0_0 zeros2 p f]
  iapply Hk; iexact Hc

/-- Loading the whole of the query projection gives its contents. -/
theorem step_ldwq (c : Dev nD) (f : Vec F S1024x1024 .f32) {p : ∀ a, (![0, 0] : Fin 2 → ℕ) a + S1024x1024.size a ≤ S1024x1024.size a}
    {hl : (Memref.whole cc0_stg1_0 : Memref sig .tc .vmem S1024x1024 .f32).view.LoadsAt (Rect.unit (s := S1024x1024) ![0, 0] S1024x1024.size p).toLoadRect}
    {α : Type} {Q : α → sProp 𝕄} {k : Vec F S1024x1024 .f32 → Prog (TpuEff nD τ sig (Elt F) Λ₀ .tc) α} :
    wqP c f ⊢ iprop((wqP c f -∗ wpc c (k f) Q)
      -∗ wpc c (.op (.load (Memref.whole cc0_stg1_0) (Rect.unit (s := S1024x1024) ![0, 0] S1024x1024.size p).toLoadRect hl) k) Q) := by
  unfold wpc
  iintro Hc Hk
  iapply (wp_load 𝒱₀ (c : Thread nD τ) none Set.univ (m := Memref.whole cc0_stg1_0) (fun i _ => Finset.mem_univ i)) $$ Hc
  iintro Hc
  rw [show (Memref.whole cc0_stg1_0 : Memref sig .tc .vmem S1024x1024 .f32).view.readAt (Elt F) (Rect.unit (s := S1024x1024) ![0, 0] S1024x1024.size p).toLoadRect f = f from Memref.readAt_unit_zero (Elt F) cc0_stg1_0 zeros2 p f]
  iapply Hk; iexact Hc

/-- Loading the whole query buffer. -/
theorem all_ldq (c : Dev nD) (f : Vec F S256x1024 .f32) {p : ∀ a, (![0, 0] : Fin 2 → ℕ) a + S256x1024.size a ≤ S256x1024.size a}
    {hl : (Memref.whole cc0_scratch0 : Memref sig .tc .vmem S256x1024 .f32).view.LoadsAt (Rect.unit (s := S256x1024) ![0, 0] S256x1024.size p).toLoadRect}
    {α : Type} {Q : α → sProp 𝕄} {k : Vec F S256x1024 .f32 → Prog (TpuEff nD τ sig (Elt F) Λ₀ .tc) α} :
    qP c f ⊢ iprop((qP c f -∗ wpc c (k f) Q)
      -∗ wpc c (.op (.load (Memref.whole cc0_scratch0) (Rect.unit (s := S256x1024) ![0, 0] S256x1024.size p).toLoadRect hl) k) Q) := by
  unfold wpc
  iintro Hc Hk
  iapply (wp_load 𝒱₀ (c : Thread nD τ) none Set.univ (m := Memref.whole cc0_scratch0) (fun i _ => Finset.mem_univ i)) $$ Hc
  iintro Hc
  rw [show (Memref.whole cc0_scratch0 : Memref sig .tc .vmem S256x1024 .f32).view.readAt (Elt F) (Rect.unit (s := S256x1024) ![0, 0] S256x1024.size p).toLoadRect f = f from Memref.readAt_unit_zero (Elt F) cc0_scratch0 zeros2 p f]
  iapply Hk; iexact Hc

/-- The same load, its result dropped. -/
theorem dead_q (c : Dev nD) {p : ∀ a, (![0, 0] : Fin 2 → ℕ) a + S256x1024.size a ≤ S256x1024.size a}
    {hl : (Memref.whole cc0_scratch0 : Memref sig .tc .vmem S256x1024 .f32).view.LoadsAt (Rect.unit (s := S256x1024) ![0, 0] S256x1024.size p).toLoadRect}
    {α : Type} {Q : α → sProp 𝕄} {k : Vec F S256x1024 .f32 → Prog (TpuEff nD τ sig (Elt F) Λ₀ .tc) α} :
    (iprop(∃ f : Vec F S256x1024 .f32, qP c f) : sProp 𝕄) ⊢ iprop((∀ v, (∃ f : Vec F S256x1024 .f32, qP c f) -∗ wpc c (k v) Q)
      -∗ wpc c (.op (.load (Memref.whole cc0_scratch0) (Rect.unit (s := S256x1024) ![0, 0] S256x1024.size p).toLoadRect hl) k) Q) := by
  iintro ⟨%f, Hc⟩ Hk
  iapply (all_ldq c f) $$ Hc
  iintro Hc
  iapply Hk $$ %f
  iexists f; iexact Hc

/-- A store over the whole of it leaves what was stored. -/
theorem fill_q (c : Dev nD) (w : Vec F S256x1024 .f32) {p : ∀ a, (![0, 0] : Fin 2 → ℕ) a + S256x1024.size a ≤ S256x1024.size a}
    {hx : ((Memref.whole cc0_scratch0 : Memref sig .tc .vmem S256x1024 .f32).access (Rect.unit (s := S256x1024) ![0, 0] S256x1024.size p)).Stores Finset.univ}
    {hm : (Finset.univ : Finset (Rect.unit (s := S256x1024) ![0, 0] S256x1024.size p).shape.Idx) = Finset.univ ∨ ∀ a, (Rect.unit (s := S256x1024) ![0, 0] S256x1024.size p).stride a = 1}
    {α : Type} {Q : α → sProp 𝕄} {k : PUnit → Prog (TpuEff nD τ sig (Elt F) Λ₀ .tc) α} :
    (iprop(∃ f : Vec F S256x1024 .f32, qP c f) : sProp 𝕄) ⊢ iprop((qP c w -∗ wpc c (k ⟨⟩) Q)
      -∗ wpc c (.op (.store (Memref.whole cc0_scratch0) (Rect.unit (s := S256x1024) ![0, 0] S256x1024.size p) w Finset.univ hx hm) k) Q) := by
  unfold wpc
  iintro ⟨%f, Hc⟩ Hk
  iapply (wp_store 𝒱₀ (c : Thread nD τ) none Set.univ (m := Memref.whole cc0_scratch0) (r := Rect.unit (s := S256x1024) ![0, 0] S256x1024.size p) (Mk := Finset.univ) (S := Finset.univ)
    (Finset.subset_univ _)) $$ Hc
  iintro Hc
  rw [show ((Memref.whole cc0_scratch0 : Memref sig .tc .vmem S256x1024 .f32).access (Rect.unit (s := S256x1024) ![0, 0] S256x1024.size p)).write (Elt F) f w Finset.univ = w from Memref.write_access_unit_zero_univ (Elt F) cc0_scratch0 zeros2 p f w]
  iapply Hk; iexact Hc

/-- Loading the whole bias buffer. -/
theorem all_ldb (c : Dev nD) (f : Vec F S256x4096 .f32) {p : ∀ a, (![0, 0] : Fin 2 → ℕ) a + S256x4096.size a ≤ S256x4096.size a}
    {hl : (Memref.whole cc0_scratch1 : Memref sig .tc .vmem S256x4096 .f32).view.LoadsAt (Rect.unit (s := S256x4096) ![0, 0] S256x4096.size p).toLoadRect}
    {α : Type} {Q : α → sProp 𝕄} {k : Vec F S256x4096 .f32 → Prog (TpuEff nD τ sig (Elt F) Λ₀ .tc) α} :
    biP c f ⊢ iprop((biP c f -∗ wpc c (k f) Q)
      -∗ wpc c (.op (.load (Memref.whole cc0_scratch1) (Rect.unit (s := S256x4096) ![0, 0] S256x4096.size p).toLoadRect hl) k) Q) := by
  unfold wpc
  iintro Hc Hk
  iapply (wp_load 𝒱₀ (c : Thread nD τ) none Set.univ (m := Memref.whole cc0_scratch1) (fun i _ => Finset.mem_univ i)) $$ Hc
  iintro Hc
  rw [show (Memref.whole cc0_scratch1 : Memref sig .tc .vmem S256x4096 .f32).view.readAt (Elt F) (Rect.unit (s := S256x4096) ![0, 0] S256x4096.size p).toLoadRect f = f from Memref.readAt_unit_zero (Elt F) cc0_scratch1 zeros2 p f]
  iapply Hk; iexact Hc

/-- The same load, its result dropped. -/
theorem dead_bi (c : Dev nD) {p : ∀ a, (![0, 0] : Fin 2 → ℕ) a + S256x4096.size a ≤ S256x4096.size a}
    {hl : (Memref.whole cc0_scratch1 : Memref sig .tc .vmem S256x4096 .f32).view.LoadsAt (Rect.unit (s := S256x4096) ![0, 0] S256x4096.size p).toLoadRect}
    {α : Type} {Q : α → sProp 𝕄} {k : Vec F S256x4096 .f32 → Prog (TpuEff nD τ sig (Elt F) Λ₀ .tc) α} :
    (iprop(∃ f : Vec F S256x4096 .f32, biP c f) : sProp 𝕄) ⊢ iprop((∀ v, (∃ f : Vec F S256x4096 .f32, biP c f) -∗ wpc c (k v) Q)
      -∗ wpc c (.op (.load (Memref.whole cc0_scratch1) (Rect.unit (s := S256x4096) ![0, 0] S256x4096.size p).toLoadRect hl) k) Q) := by
  iintro ⟨%f, Hc⟩ Hk
  iapply (all_ldb c f) $$ Hc
  iintro Hc
  iapply Hk $$ %f
  iexists f; iexact Hc

/-- A store over the whole of it leaves what was stored. -/
theorem fill_bi (c : Dev nD) (w : Vec F S256x4096 .f32) {p : ∀ a, (![0, 0] : Fin 2 → ℕ) a + S256x4096.size a ≤ S256x4096.size a}
    {hx : ((Memref.whole cc0_scratch1 : Memref sig .tc .vmem S256x4096 .f32).access (Rect.unit (s := S256x4096) ![0, 0] S256x4096.size p)).Stores Finset.univ}
    {hm : (Finset.univ : Finset (Rect.unit (s := S256x4096) ![0, 0] S256x4096.size p).shape.Idx) = Finset.univ ∨ ∀ a, (Rect.unit (s := S256x4096) ![0, 0] S256x4096.size p).stride a = 1}
    {α : Type} {Q : α → sProp 𝕄} {k : PUnit → Prog (TpuEff nD τ sig (Elt F) Λ₀ .tc) α} :
    (iprop(∃ f : Vec F S256x4096 .f32, biP c f) : sProp 𝕄) ⊢ iprop((biP c w -∗ wpc c (k ⟨⟩) Q)
      -∗ wpc c (.op (.store (Memref.whole cc0_scratch1) (Rect.unit (s := S256x4096) ![0, 0] S256x4096.size p) w Finset.univ hx hm) k) Q) := by
  unfold wpc
  iintro ⟨%f, Hc⟩ Hk
  iapply (wp_store 𝒱₀ (c : Thread nD τ) none Set.univ (m := Memref.whole cc0_scratch1) (r := Rect.unit (s := S256x4096) ![0, 0] S256x4096.size p) (Mk := Finset.univ) (S := Finset.univ)
    (Finset.subset_univ _)) $$ Hc
  iintro Hc
  rw [show ((Memref.whole cc0_scratch1 : Memref sig .tc .vmem S256x4096 .f32).access (Rect.unit (s := S256x4096) ![0, 0] S256x4096.size p)).write (Elt F) f w Finset.univ = w from Memref.write_access_unit_zero_univ (Elt F) cc0_scratch1 zeros2 p f w]
  iapply Hk; iexact Hc

theorem part1 (c : Dev nD) :
    RunP c (SigSt I c 1) (atA (k0_part1 (F := F))) (fun r => r.1 = c ∧ r.2.2.1 = SemArray.scalar (sig.barrier 0 rfl))
      (SigSt I c 6) := by
  rw [k0_part1_eq_skeleton]; unfold k0_part1_skel
  simp only [atA, Prog.lift, Prog.bind_op, Prog.bind_ret, Prog.pure_eq_ret, semSignalWord, semWaitWord]
  refine .devId ?_
  refine .step (fun _ => step_signal I c 1 (by decide) (by decide) (Fin.ext (k0_dev1_eq c))) ?_
  refine .step (fun _ => step_signal I c 2 (by decide) (by decide) (Fin.ext (k0_dev2_eq c))) ?_
  refine .step (fun _ => step_signal I c 3 (by decide) (by decide) (Fin.ext (k0_dev3_eq c))) ?_
  refine .step (fun _ => step_signal I c 4 (by decide) (by decide) (Fin.ext (k0_dev4_eq c))) ?_
  refine .step (fun _ => step_signal I c 5 (by decide) (by decide) (Fin.ext (k0_dev5_eq c))) ?_
  exact .done ⟨rfl, rfl⟩

theorem part2 (c : Dev nD) (v2 v24 w : BitVec 32) :
    RunP c (SigSt I c 6) (atA (k0_part2 (F := F)) c v2 (SemArray.scalar (sig.barrier 0 rfl)) v24 w) noted
      (SigSt I c 12) := by
  rw [k0_part2_eq_skeleton]; unfold k0_part2_skel
  simp only [atA, Prog.lift, Prog.bind_op, Prog.bind_ret, Prog.pure_eq_ret, semSignalWord, semWaitWord]
  refine .step (fun _ => step_signal I c 6 (by decide) (by decide) (Fin.ext (k0_dev6_eq c))) ?_
  refine .step (fun _ => step_signal I c 7 (by decide) (by decide) (Fin.ext (k0_dev7_eq c))) ?_
  refine .step (fun _ => step_signal I c 8 (by decide) (by decide) (Fin.ext (k0_dev8_eq c))) ?_
  refine .step (fun _ => step_signal I c 9 (by decide) (by decide) (Fin.ext (k0_dev9_eq c))) ?_
  refine .step (fun _ => step_signal I c 10 (by decide) (by decide) (Fin.ext (k0_dev10_eq c))) ?_
  refine .step (fun _ => step_signal I c 11 (by decide) (by decide) (Fin.ext (k0_dev11_eq c))) ?_
  exact .done trivial

/-- What waiting out the barrier takes besides the signals all sent. -/
abbrev BarW (c : Dev nD) : sProp 𝕄 := iprop(cred (tallyAt (barC c) () 15) ∗ atPos ER (barC c) 0 ∅ 0)
/-- What the barrier leaves: nothing owed but the sends, the cell spent, the other devices' slots. -/
abbrev BarD (c : Dev nD) : sProp 𝕄 := iprop(Own I c ∅ (Finset.univ.erase c) (Finset.univ.erase c) ∗ semVal (barC c) 0 ∗ bigSep (Finset.univ.erase c) fun d => barPay (F := F) c d)

theorem part3 (c : Dev nD) (v2 v48 w : BitVec 32) :
    RunP c iprop(SigSt I c 12 ∗ (BarW c ∗ CpSt I c 0 0)) (atA (k0_part3 (F := F)) c v2 (SemArray.scalar (sig.barrier 0 rfl)) v48 w) noted
      iprop(BarD I c ∗ CpSt I c 1 0) := by
  rw [k0_part3_eq_skeleton]; unfold k0_part3_skel
  simp only [atA, Prog.lift, Prog.bind_op, Prog.bind_ret, Prog.pure_eq_ret, semSignalWord, semWaitWord]
  refine .stepL (fun _ => step_signal I c 12 (by decide) (by decide) (Fin.ext (k0_dev12_eq c))) ?_
  refine .stepL (fun _ => step_signal I c 13 (by decide) (by decide) (Fin.ext (k0_dev13_eq c))) ?_
  refine .stepL (fun _ => step_signal I c 14 (by decide) (by decide) (Fin.ext (k0_dev14_eq c))) ?_
  refine .stepL (fun _ => step_signal I c 15 (by decide) (by decide) (Fin.ext (k0_dev15_eq c))) ?_
  refine .pre (S' := iprop((SigSt I c 16 ∗ BarW c) ∗ CpSt I c 0 0)) ?_ ?_
  · iintro ⟨H1, H2, H3⟩
    isplitr [H3]
    · isplitl [H1]; · iexact H1
      iexact H2
    · iexact H3
  refine .stepL (fun _ => step_barrier I c) ?_
  refine .stepR (fun _ => step_cpk I c 0 rfl (k0_off1_eq c 0) rfl rfl rfl) ?_
  exact .done trivial

theorem part4 (c : Dev nD) (v2 : BitVec 32) :
    RunP c (CpSt I c 1 0) (atA (k0_part4 (F := F)) c v2) noted
      (CpSt I c 3 2) := by
  rw [k0_part4_eq_skeleton]; unfold k0_part4_skel
  simp only [atA, Prog.lift, Prog.bind_op, Prog.bind_ret, Prog.pure_eq_ret]
  refine .step (fun _ => step_cpv I c 0 rfl (k0_off1_eq c 0) rfl rfl rfl) ?_
  refine .step (fun _ => step_cpk I c 1 rfl (k0_off1_eq c 1) rfl rfl rfl) ?_
  refine .step (fun _ => step_cpv I c 1 rfl (k0_off1_eq c 1) rfl rfl rfl) ?_
  refine .step (fun _ => step_cpk I c 2 rfl (k0_off1_eq c 2) rfl rfl rfl) ?_
  exact .done trivial

theorem part5 (c : Dev nD) (v2 : BitVec 32) :
    RunP c (CpSt I c 3 2) (atA (k0_part5 (F := F)) c v2) noted
      (CpSt I c 5 4) := by
  rw [k0_part5_eq_skeleton]; unfold k0_part5_skel
  simp only [atA, Prog.lift, Prog.bind_op, Prog.bind_ret, Prog.pure_eq_ret]
  refine .step (fun _ => step_cpv I c 2 rfl (k0_off1_eq c 2) rfl rfl rfl) ?_
  refine .step (fun _ => step_cpk I c 3 rfl (k0_off1_eq c 3) rfl rfl rfl) ?_
  refine .step (fun _ => step_cpv I c 3 rfl (k0_off1_eq c 3) rfl rfl rfl) ?_
  refine .step (fun _ => step_cpk I c 4 rfl (k0_off1_eq c 4) rfl rfl rfl) ?_
  exact .done trivial

theorem part6 (c : Dev nD) (v2 : BitVec 32) :
    RunP c (CpSt I c 5 4) (atA (k0_part6 (F := F)) c v2) noted
      (CpSt I c 7 6) := by
  rw [k0_part6_eq_skeleton]; unfold k0_part6_skel
  simp only [atA, Prog.lift, Prog.bind_op, Prog.bind_ret, Prog.pure_eq_ret]
  refine .step (fun _ => step_cpv I c 4 rfl (k0_off1_eq c 4) rfl rfl rfl) ?_
  refine .step (fun _ => step_cpk I c 5 rfl (k0_off1_eq c 5) rfl rfl rfl) ?_
  refine .step (fun _ => step_cpv I c 5 rfl (k0_off1_eq c 5) rfl rfl rfl) ?_
  refine .step (fun _ => step_cpk I c 6 rfl (k0_off1_eq c 6) rfl rfl rfl) ?_
  exact .done trivial

theorem part7 (c : Dev nD) (v2 : BitVec 32) :
    RunP c iprop(CpSt I c 7 6 ∗ (xP c (I.x c) ∗ (wqP c (I.wq c) ∗ qAny c))) (atA (k0_part7 (F := F)) c v2)
      (fun r => r = ⟨iota .tc S256x4096 32 [0] iota_S256x4096_d0_w32, 64#32⟩)
      iprop(CpSt I c 8 8 ∗ (xP c (I.x c) ∗ (wqP c (I.wq c) ∗ qP c (qC I c)))) := by
  rw [k0_part7_eq_skeleton]; unfold k0_part7_skel
  simp only [atA, Prog.lift, Prog.bind_op, Prog.bind_ret, Prog.pure_eq_ret]
  refine .stepL (fun _ => step_cpv I c 6 rfl (k0_off1_eq c 6) rfl rfl rfl) ?_
  refine .stepL (fun _ => step_cpk I c 7 rfl (k0_off1_eq c 7) rfl rfl rfl) ?_
  refine .stepL (fun _ => step_cpv I c 7 rfl (k0_off1_eq c 7) rfl rfl rfl) ?_
  refine .stepRL (fun _ => step_ldx c (I.x c)) ?_
  refine .pre (rot _ _ _ _) ?_
  refine .stepRL (fun _ => step_ldwq c (I.wq c)) ?_
  refine .pre (rot _ _ _ _) ?_
  refine .deadRL (fun _ => dead_q c) fun _ => ?_
  refine .stepRL (fun _ => fill_q c (qC I c)) ?_
  refine .pre (rot _ _ _ _) ?_
  exact .done rfl

theorem part8 (c : Dev nD) (S : sProp 𝕄) (v : IVec S256x4096 32) (w : BitVec 32) :
    RunP c S (atA (k0_part8 (F := F)) v w) (fun r => r = ⟨k0_pay2 v w, k0_pay3, k0_pay4, k0_pay5⟩) S := by
  rw [k0_part8_eq_skeleton]; unfold k0_part8_skel
  simp only [atA, Prog.lift, Prog.bind_op, Prog.bind_ret, Prog.pure_eq_ret]
  exact .done rfl

/-- The attention's state before the bias is written. -/
abbrev At0 (c : Dev nD) : sProp 𝕄 :=
  iprop(Own I c ∅ (oth c) (oth c) ∗ (KW I c 0 ∗ (VW I c 0 ∗ (qP c (qC I c) ∗ (CX I c 0 ∗ woP c (I.wo c))))))

theorem part9 (c : Dev nD) (v2 : BitVec 32) :
    RunP c iprop(biAny c ∗ At0 I c) (atA (k0_part9 (F := F)) c v2 (k0_pay2 (iota .tc S256x4096 32 [0] iota_S256x4096_d0_w32) 64#32) k0_pay3 k0_pay4 k0_pay5)
      (· = k0_pay7 (rq I c 0 0)) (At I c (oth c) 1 1 0) := by
  rw [k0_part9_eq_skeleton]; unfold k0_part9_skel
  simp only [atA, Prog.lift, Prog.bind_op, Prog.bind_ret, Prog.pure_eq_ret]
  refine .deadL (fun _ => dead_bi c) fun _ => ?_
  refine .stepL (fun _ => fill_bi c biasC) ?_
  refine .pre (S' := At I c (oth c) 0 0 0) ?_ ?_
  · unfold At
    iintro ⟨Hb, HO, HK, HV, Hq, HC, HW⟩
    isplitl [HO]; · iexact HO
    isplitl [HK]; · iexact HK
    isplitl [HV]; · iexact HV
    isplitl [Hq]; · iexact Hq
    isplitl [Hb]; · iexact Hb
    isplitl [HC]; · iexact HC
    iexact HW
  refine .step (fun _ => step_wk I c 0 rfl rfl) ?_
  refine .step (fun _ => step_wv I c 0 rfl rfl) ?_
  refine .step (fun _ => step_ldq I c 0 0 rfl) ?_
  exact .done rfl

end Cert.KernelIdeal.Attn

end
-- ==== Proof.Body1.lean ====
/-
# The attention, part by part
-/
module

public import proofs.«01_k».proof.Proof.Pieces

@[expose] public section

set_option maxRecDepth 16384

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Ins F)

theorem part10 (c : Dev nD) (v2 : BitVec 32) :
    RunP c (At I c (oth c) 1 1 0) (atA (k0_part10 (F := F)) c v2 (k0_pay7 (rq I c 0 0))) noted
      (At I c (oth c) 2 1 1) := by
  rw [k0_part10_eq_skeleton]; unfold k0_part10_skel
  simp only [atA, Prog.lift, Prog.bind_op, Prog.bind_ret, Prog.pure_eq_ret]
  refine .step (fun _ => step_ldk I c 0 (by decide) rfl) ?_
  refine .step (fun _ => step_ldb I c 0 rfl) ?_
  refine .step (fun _ => step_ldv I c 0 (by decide) rfl) ?_
  refine .dead (fun _ => step_ldc I c) fun _ => ?_
  refine .step (fun _ => step_stc I c 0 0 rfl rfl (head8 _ _ _ _)) ?_
  refine .step (fun _ => step_wk I c 1 rfl rfl) ?_
  exact .done trivial

theorem part11 (c : Dev nD) (v2 : BitVec 32) :
    RunP c (At I c (oth c) 2 1 1) (atA (k0_part11 (F := F)) c v2) noted
      (At I c (oth c) 2 2 2) := by
  rw [k0_part11_eq_skeleton]; unfold k0_part11_skel
  simp only [atA, Prog.lift, Prog.bind_op, Prog.bind_ret, Prog.pure_eq_ret]
  refine .step (fun _ => step_wv I c 1 rfl rfl) ?_
  refine .step (fun _ => step_ldq I c 0 1 rfl) ?_
  refine .step (fun _ => step_ldk I c 1 (by decide) rfl) ?_
  refine .step (fun _ => step_ldb I c 0 rfl) ?_
  refine .step (fun _ => step_ldv I c 1 (by decide) rfl) ?_
  refine .dead (fun _ => step_ldc I c) fun _ => ?_
  refine .step (fun _ => step_stc I c 0 1 rfl rfl (rfl)) ?_
  exact .done trivial

theorem part12 (c : Dev nD) (v2 : BitVec 32) :
    RunP c (At I c (oth c) 2 2 2) (atA (k0_part12 (F := F)) c v2) noted
      (At I c (oth c) 3 3 3) := by
  rw [k0_part12_eq_skeleton]; unfold k0_part12_skel
  simp only [atA, Prog.lift, Prog.bind_op, Prog.bind_ret, Prog.pure_eq_ret]
  refine .step (fun _ => step_wk I c 2 rfl rfl) ?_
  refine .step (fun _ => step_wv I c 2 rfl rfl) ?_
  refine .step (fun _ => step_ldq I c 0 2 rfl) ?_
  refine .step (fun _ => step_ldk I c 2 (by decide) rfl) ?_
  refine .step (fun _ => step_ldb I c 0 rfl) ?_
  refine .step (fun _ => step_ldv I c 2 (by decide) rfl) ?_
  refine .dead (fun _ => step_ldc I c) fun _ => ?_
  refine .step (fun _ => step_stc I c 0 2 rfl rfl (head10 _ _ _ _)) ?_
  exact .done trivial

theorem part13 (c : Dev nD)  :
    RunP c (At I c (oth c) 3 3 3) (atA (k0_part13 (F := F)) c) (· = (k0_pay11 (rq I c 0 3) (rk I c 3) (rb 0) (rv I c 3)))
      (At I c (oth c) 4 4 3) := by
  rw [k0_part13_eq_skeleton]; unfold k0_part13_skel
  simp only [atA, Prog.lift, Prog.bind_op, Prog.bind_ret, Prog.pure_eq_ret]
  refine .step (fun _ => step_wk I c 3 rfl rfl) ?_
  refine .step (fun _ => step_wv I c 3 rfl rfl) ?_
  refine .step (fun _ => step_ldq I c 0 3 rfl) ?_
  refine .step (fun _ => step_ldk I c 3 (by decide) rfl) ?_
  refine .step (fun _ => step_ldb I c 0 rfl) ?_
  refine .step (fun _ => step_ldv I c 3 (by decide) rfl) ?_
  refine .dead (fun _ => step_ldc I c) fun _ => ?_
  exact .done rfl

theorem part14 (c : Dev nD) (v2 : BitVec 32) :
    RunP c (At I c (oth c) 4 4 3) (atA (k0_part14 (F := F)) c v2 (k0_pay11 (rq I c 0 3) (rk I c 3) (rb 0) (rv I c 3))) (· = ⟨k0_pay14 (rq I c 0 4) (rk I c 4) (rb 0), k0_pay15 (rq I c 0 4) (rk I c 4) (rb 0), (rv I c 4)⟩)
      (At I c (oth c) 5 5 4) := by
  rw [k0_part14_eq_skeleton]; unfold k0_part14_skel
  simp only [atA, Prog.lift, Prog.bind_op, Prog.bind_ret, Prog.pure_eq_ret]
  refine .step (fun _ => step_stc I c 0 3 rfl rfl (head12 _ _ _ _)) ?_
  refine .step (fun _ => step_wk I c 4 rfl rfl) ?_
  refine .step (fun _ => step_wv I c 4 rfl rfl) ?_
  refine .step (fun _ => step_ldq I c 0 4 rfl) ?_
  refine .step (fun _ => step_ldk I c 4 (by decide) rfl) ?_
  refine .step (fun _ => step_ldb I c 0 rfl) ?_
  refine .step (fun _ => step_ldv I c 4 (by decide) rfl) ?_
  exact .done rfl

theorem part15 (c : Dev nD) (v2 : BitVec 32) :
    RunP c (At I c (oth c) 5 5 4) (atA (k0_part15 (F := F)) c v2 (k0_pay14 (rq I c 0 4) (rk I c 4) (rb 0)) (k0_pay15 (rq I c 0 4) (rk I c 4) (rb 0)) (rv I c 4)) (· = (k0_pay17 (rq I c 0 5) (rk I c 5) (rb 0)))
      (At I c (oth c) 6 6 5) := by
  rw [k0_part15_eq_skeleton]; unfold k0_part15_skel
  simp only [atA, Prog.lift, Prog.bind_op, Prog.bind_ret, Prog.pure_eq_ret]
  refine .dead (fun _ => step_ldc I c) fun _ => ?_
  refine .step (fun _ => step_stc I c 0 4 rfl rfl (head16 _ _ _ _)) ?_
  refine .step (fun _ => step_wk I c 5 rfl rfl) ?_
  refine .step (fun _ => step_wv I c 5 rfl rfl) ?_
  refine .step (fun _ => step_ldq I c 0 5 rfl) ?_
  refine .step (fun _ => step_ldk I c 5 (by decide) rfl) ?_
  refine .step (fun _ => step_ldb I c 0 rfl) ?_
  exact .done rfl

theorem part16 (c : Dev nD) (v2 : BitVec 32) :
    RunP c (At I c (oth c) 6 6 5) (atA (k0_part16 (F := F)) c v2 (k0_pay17 (rq I c 0 5) (rk I c 5) (rb 0))) (· = (k0_pay19 (rq I c 0 6) (rk I c 6)))
      (At I c (oth c) 7 7 6) := by
  rw [k0_part16_eq_skeleton]; unfold k0_part16_skel
  simp only [atA, Prog.lift, Prog.bind_op, Prog.bind_ret, Prog.pure_eq_ret]
  refine .step (fun _ => step_ldv I c 5 (by decide) rfl) ?_
  refine .dead (fun _ => step_ldc I c) fun _ => ?_
  refine .step (fun _ => step_stc I c 0 5 rfl rfl (head18 _ _ _ _)) ?_
  refine .step (fun _ => step_wk I c 6 rfl rfl) ?_
  refine .step (fun _ => step_wv I c 6 rfl rfl) ?_
  refine .step (fun _ => step_ldq I c 0 6 rfl) ?_
  refine .step (fun _ => step_ldk I c 6 (by decide) rfl) ?_
  exact .done rfl

theorem part17 (c : Dev nD) (v2 : BitVec 32) :
    RunP c (At I c (oth c) 7 7 6) (atA (k0_part17 (F := F)) c v2 (k0_pay19 (rq I c 0 6) (rk I c 6))) noted
      (At I c (oth c) 8 8 7) := by
  rw [k0_part17_eq_skeleton]; unfold k0_part17_skel
  simp only [atA, Prog.lift, Prog.bind_op, Prog.bind_ret, Prog.pure_eq_ret]
  refine .step (fun _ => step_ldb I c 0 rfl) ?_
  refine .step (fun _ => step_ldv I c 6 (by decide) rfl) ?_
  refine .dead (fun _ => step_ldc I c) fun _ => ?_
  refine .step (fun _ => step_stc I c 0 6 rfl rfl (head20 _ _ _ _)) ?_
  refine .step (fun _ => step_wk I c 7 rfl rfl) ?_
  refine .step (fun _ => step_wv I c 7 rfl rfl) ?_
  exact .done trivial

theorem part18 (c : Dev nD) (v2 : BitVec 32) :
    RunP c (iprop(At I c (oth c) 8 8 7 ∗ (ouAny (F := F) c 0 ∗ Toks (F := F) c))) (atA (k0_part18 (F := F)) c v2) noted
      (iprop(At I c (fromN (oth c) 1) 8 8 8 ∗ Sd I c 8 1)) := by
  rw [k0_part18_eq_skeleton]; unfold k0_part18_skel
  simp (config := { zeta := false }) only [atA, Prog.lift, Prog.bind_op, Prog.bind_ret, Prog.pure_eq_ret]
  refine .stepL (fun _ => step_ldq I c 0 7 rfl) ?_
  refine .stepL (fun _ => step_ldk I c 7 (by decide) rfl) ?_
  refine .stepL (fun _ => step_ldb I c 0 rfl) ?_
  refine .stepL (fun _ => step_ldv I c 7 (by decide) rfl) ?_
  refine .deadL (fun _ => step_ldc I c) fun _ => ?_
  refine .stepL (fun _ => step_stc I c 0 7 rfl rfl (head21 _ _ _ _)) ?_
  refine .stepL (fun _ => step_ldh I c 0 (by decide) rfl) ?_
  refine .stepL (fun _ => step_ldw I c rfl) ?_
  refine .deadRL (fun _ => step_ldo c 0 rfl) fun _ => ?_
  refine .stepRL (fun _ => step_sto I c 0 rfl (rfl)) ?_
  refine .pre (start_sd I c) ?_
  refine send_p1 I c (M := 8) (p := 0) 0 rfl (by decide) (cond_p0 c) (fun h k Q => step_p1 I c (M := 8) (p := 0) 0 rfl (by decide) ((cond_p0 c).mp h) (Fin.ext k0_dev16_eq) (chunk_of (off := ![0, 0]) (k := 0) (by decide) _) (slot_of (k0_off3_eq c) _) (s1_of (off := ![0]) (s := 0) (by decide) _) (r1_of (k0_off2_eq c) _) (Q := Q) (k := fun _ => k)) ?_
  exact .done trivial

theorem part19 (c : Dev nD) (v2 : BitVec 32) (c1_i32_457 : BitVec 32) :
    RunP c (iprop(At I c (fromN (oth c) 1) 8 8 8 ∗ Sd I c 8 1)) (atA (k0_part19 (F := F)) c v2 c1_i32_457) (· = (k0_pay23 (rq I c 1 0) (rk I c 0) (rb 1)))
      (iprop(At I c (fromN (oth c) 8) 8 8 8 ∗ Sd I c 8 8)) := by
  rw [k0_part19_eq_skeleton]; unfold k0_part19_skel
  simp (config := { zeta := false }) only [atA, Prog.lift, Prog.bind_op, Prog.bind_ret, Prog.pure_eq_ret]
  refine send_p1 I c (M := 8) (p := 1) 1 rfl (by decide) (cond_p1 c) (fun h k Q => step_p1 I c (M := 8) (p := 1) 1 rfl (by decide) ((cond_p1 c).mp h) (Fin.ext k0_dev17_eq) (chunk_of (off := ![16, 0]) (k := 1) (by decide) _) (slot_of (k0_off5_eq c) _) (s1_of (off := ![1]) (s := 1) (by decide) _) (r1_of (k0_off4_eq c) _) (Q := Q) (k := fun _ => k)) ?_
  refine send_p1 I c (M := 8) (p := 2) 2 rfl (by decide) (cond_p2 c) (fun h k Q => step_p1 I c (M := 8) (p := 2) 2 rfl (by decide) ((cond_p2 c).mp h) (Fin.ext k0_dev18_eq) (chunk_of (off := ![32, 0]) (k := 2) (by decide) _) (slot_of (k0_off7_eq c) _) (s1_of (off := ![2]) (s := 2) (by decide) _) (r1_of (k0_off6_eq c) _) (Q := Q) (k := fun _ => k)) ?_
  refine send_p1 I c (M := 8) (p := 3) 3 rfl (by decide) (cond_p3 c) (fun h k Q => step_p1 I c (M := 8) (p := 3) 3 rfl (by decide) ((cond_p3 c).mp h) (Fin.ext k0_dev19_eq) (chunk_of (off := ![48, 0]) (k := 3) (by decide) _) (slot_of (k0_off9_eq c) _) (s1_of (off := ![3]) (s := 3) (by decide) _) (r1_of (k0_off8_eq c) _) (Q := Q) (k := fun _ => k)) ?_
  refine send_p1 I c (M := 8) (p := 4) 4 rfl (by decide) (cond_p4 c) (fun h k Q => step_p1 I c (M := 8) (p := 4) 4 rfl (by decide) ((cond_p4 c).mp h) (Fin.ext k0_dev20_eq) (chunk_of (off := ![64, 0]) (k := 4) (by decide) _) (slot_of (k0_off11_eq c) _) (s1_of (off := ![4]) (s := 4) (by decide) _) (r1_of (k0_off10_eq c) _) (Q := Q) (k := fun _ => k)) ?_
  refine send_p1 I c (M := 8) (p := 5) 5 rfl (by decide) (cond_p5 c) (fun h k Q => step_p1 I c (M := 8) (p := 5) 5 rfl (by decide) ((cond_p5 c).mp h) (Fin.ext k0_dev21_eq) (chunk_of (off := ![80, 0]) (k := 5) (by decide) _) (slot_of (k0_off13_eq c) _) (s1_of (off := ![5]) (s := 5) (by decide) _) (r1_of (k0_off12_eq c) _) (Q := Q) (k := fun _ => k)) ?_
  refine send_p1 I c (M := 8) (p := 6) 6 rfl (by decide) (cond_p6 c) (fun h k Q => step_p1 I c (M := 8) (p := 6) 6 rfl (by decide) ((cond_p6 c).mp h) (Fin.ext k0_dev22_eq) (chunk_of (off := ![96, 0]) (k := 6) (by decide) _) (slot_of (k0_off15_eq c) _) (s1_of (off := ![6]) (s := 6) (by decide) _) (r1_of (k0_off14_eq c) _) (Q := Q) (k := fun _ => k)) ?_
  refine send_p1 I c (M := 8) (p := 7) 7 rfl (by decide) (cond_p7 c) (fun h k Q => step_p1 I c (M := 8) (p := 7) 7 rfl (by decide) ((cond_p7 c).mp h) (Fin.ext k0_dev23_eq) (chunk_of (off := ![112, 0]) (k := 7) (by decide) _) (slot_of (k0_off17_eq c) _) (s1_of (off := ![7]) (s := 7) (by decide) _) (r1_of (k0_off16_eq c) _) (Q := Q) (k := fun _ => k)) ?_
  refine .stepL (fun _ => step_ldq I c 1 0 rfl) ?_
  refine .stepL (fun _ => step_ldk I c 0 (by decide) rfl) ?_
  refine .stepL (fun _ => step_ldb I c 1 rfl) ?_
  exact .done rfl

theorem part20 (c : Dev nD)  :
    RunP c (At I c (fromN (oth c) 8) 8 8 8) (atA (k0_part20 (F := F)) (k0_pay23 (rq I c 1 0) (rk I c 0) (rb 1))) noted
      (At I c (fromN (oth c) 8) 8 8 10) := by
  rw [k0_part20_eq_skeleton]; unfold k0_part20_skel
  simp only [atA, Prog.lift, Prog.bind_op, Prog.bind_ret, Prog.pure_eq_ret]
  refine .step (fun _ => step_ldv I c 0 (by decide) rfl) ?_
  refine .dead (fun _ => step_ldc I c) fun _ => ?_
  refine .step (fun _ => step_stc I c 1 0 rfl rfl (head24 _ _ _ _)) ?_
  refine .step (fun _ => step_ldq I c 1 1 rfl) ?_
  refine .step (fun _ => step_ldk I c 1 (by decide) rfl) ?_
  refine .step (fun _ => step_ldb I c 1 rfl) ?_
  refine .step (fun _ => step_ldv I c 1 (by decide) rfl) ?_
  refine .dead (fun _ => step_ldc I c) fun _ => ?_
  refine .step (fun _ => step_stc I c 1 1 rfl rfl (head25 _ _ _ _)) ?_
  exact .done trivial

theorem part21 (c : Dev nD)  :
    RunP c (At I c (fromN (oth c) 8) 8 8 10) (atA (k0_part21 (F := F)) ) (· = ⟨k0_pay27 (rq I c 1 3) (rk I c 3) (rb 1), k0_pay28 (rq I c 1 3) (rk I c 3) (rb 1), Scalar.ofBits .f32 0x3F800000#32⟩)
      (At I c (fromN (oth c) 8) 8 8 11) := by
  rw [k0_part21_eq_skeleton]; unfold k0_part21_skel
  simp only [atA, Prog.lift, Prog.bind_op, Prog.bind_ret, Prog.pure_eq_ret]
  refine .step (fun _ => step_ldq I c 1 2 rfl) ?_
  refine .step (fun _ => step_ldk I c 2 (by decide) rfl) ?_
  refine .step (fun _ => step_ldb I c 1 rfl) ?_
  refine .step (fun _ => step_ldv I c 2 (by decide) rfl) ?_
  refine .dead (fun _ => step_ldc I c) fun _ => ?_
  refine .step (fun _ => step_stc I c 1 2 rfl rfl (head26 _ _ _ _)) ?_
  refine .step (fun _ => step_ldq I c 1 3 rfl) ?_
  refine .step (fun _ => step_ldk I c 3 (by decide) rfl) ?_
  refine .step (fun _ => step_ldb I c 1 rfl) ?_
  exact .done rfl

theorem part22 (c : Dev nD)  :
    RunP c (At I c (fromN (oth c) 8) 8 8 11) (atA (k0_part22 (F := F)) (k0_pay27 (rq I c 1 3) (rk I c 3) (rb 1)) (k0_pay28 (rq I c 1 3) (rk I c 3) (rb 1)) (Scalar.ofBits .f32 0x3F800000#32)) (· = (k0_pay31 (rq I c 1 5)))
      (At I c (fromN (oth c) 8) 8 8 13) := by
  rw [k0_part22_eq_skeleton]; unfold k0_part22_skel
  simp only [atA, Prog.lift, Prog.bind_op, Prog.bind_ret, Prog.pure_eq_ret]
  refine .step (fun _ => step_ldv I c 3 (by decide) rfl) ?_
  refine .dead (fun _ => step_ldc I c) fun _ => ?_
  refine .step (fun _ => step_stc I c 1 3 rfl rfl (head29 _ _ _ _)) ?_
  refine .step (fun _ => step_ldq I c 1 4 rfl) ?_
  refine .step (fun _ => step_ldk I c 4 (by decide) rfl) ?_
  refine .step (fun _ => step_ldb I c 1 rfl) ?_
  refine .step (fun _ => step_ldv I c 4 (by decide) rfl) ?_
  refine .dead (fun _ => step_ldc I c) fun _ => ?_
  refine .step (fun _ => step_stc I c 1 4 rfl rfl (head30 _ _ _ _)) ?_
  refine .step (fun _ => step_ldq I c 1 5 rfl) ?_
  exact .done rfl

theorem part23 (c : Dev nD)  :
    RunP c (At I c (fromN (oth c) 8) 8 8 13) (atA (k0_part23 (F := F)) (k0_pay31 (rq I c 1 5))) (· = ⟨k0_pay34 (rq I c 1 6) (rk I c 6) (rb 1), k0_pay35 (rq I c 1 6) (rk I c 6) (rb 1)⟩)
      (At I c (fromN (oth c) 8) 8 8 14) := by
  rw [k0_part23_eq_skeleton]; unfold k0_part23_skel
  simp only [atA, Prog.lift, Prog.bind_op, Prog.bind_ret, Prog.pure_eq_ret]
  refine .step (fun _ => step_ldk I c 5 (by decide) rfl) ?_
  refine .step (fun _ => step_ldb I c 1 rfl) ?_
  refine .step (fun _ => step_ldv I c 5 (by decide) rfl) ?_
  refine .dead (fun _ => step_ldc I c) fun _ => ?_
  refine .step (fun _ => step_stc I c 1 5 rfl rfl (head32 _ _ _ _)) ?_
  refine .step (fun _ => step_ldq I c 1 6 rfl) ?_
  refine .step (fun _ => step_ldk I c 6 (by decide) rfl) ?_
  refine .step (fun _ => step_ldb I c 1 rfl) ?_
  exact .done rfl

theorem part24 (c : Dev nD)  :
    RunP c (At I c (fromN (oth c) 8) 8 8 14) (atA (k0_part24 (F := F)) (k0_pay34 (rq I c 1 6) (rk I c 6) (rb 1)) (k0_pay35 (rq I c 1 6) (rk I c 6) (rb 1))) (· = ⟨k0_pay38 (rh I c 1), (I.wo c)⟩)
      (At I c (fromN (oth c) 8) 8 8 16) := by
  rw [k0_part24_eq_skeleton]; unfold k0_part24_skel
  simp only [atA, Prog.lift, Prog.bind_op, Prog.bind_ret, Prog.pure_eq_ret]
  refine .step (fun _ => step_ldv I c 6 (by decide) rfl) ?_
  refine .dead (fun _ => step_ldc I c) fun _ => ?_
  refine .step (fun _ => step_stc I c 1 6 rfl rfl (head36 _ _ _ _)) ?_
  refine .step (fun _ => step_ldq I c 1 7 rfl) ?_
  refine .step (fun _ => step_ldk I c 7 (by decide) rfl) ?_
  refine .step (fun _ => step_ldb I c 1 rfl) ?_
  refine .step (fun _ => step_ldv I c 7 (by decide) rfl) ?_
  refine .dead (fun _ => step_ldc I c) fun _ => ?_
  refine .step (fun _ => step_stc I c 1 7 rfl rfl (head37 _ _ _ _)) ?_
  refine .step (fun _ => step_ldh I c 1 (by decide) rfl) ?_
  refine .step (fun _ => step_ldw I c rfl) ?_
  exact .done rfl

set_option maxHeartbeats 1000000 in
theorem part25 (c : Dev nD) (v2 : BitVec 32) :
    RunP c (iprop(At I c (fromN (oth c) 8) 8 8 16 ∗ (ouAny (F := F) c 1 ∗ Sd I c 8 8))) (atA (k0_part25 (F := F)) c v2 (k0_pay38 (rh I c 1)) (I.wo c)) noted
      (iprop(At I c (fromN (oth c) 16) 8 8 16 ∗ Sd I c 16 16)) := by
  rw [k0_part25_eq_skeleton]; unfold k0_part25_skel
  simp (config := { zeta := false }) only [atA, Prog.lift, Prog.bind_op, Prog.bind_ret, Prog.pure_eq_ret]
  refine .deadRL (fun _ => step_ldo c 1 rfl) fun _ => ?_
  refine .stepRL (fun _ => step_sto I c 1 rfl (half39 _ _)) ?_
  refine .pre (more_sd I c) ?_
  refine send_p1 I c (M := 16) (p := 8) 8 rfl (by decide) (cond_p8 c) (fun h k Q => step_p1 I c (M := 16) (p := 8) 8 rfl (by decide) ((cond_p8 c).mp h) (Fin.ext k0_dev24_eq) (chunk_of (off := ![128, 0]) (k := 8) (by decide) _) (slot_of (k0_off19_eq c) _) (s1_of (off := ![8]) (s := 8) (by decide) _) (r1_of (k0_off18_eq c) _) (Q := Q) (k := fun _ => k)) ?_
  refine send_p1 I c (M := 16) (p := 9) 9 rfl (by decide) (cond_p9 c) (fun h k Q => step_p1 I c (M := 16) (p := 9) 9 rfl (by decide) ((cond_p9 c).mp h) (Fin.ext k0_dev25_eq) (chunk_of (off := ![144, 0]) (k := 9) (by decide) _) (slot_of (k0_off21_eq c) _) (s1_of (off := ![9]) (s := 9) (by decide) _) (r1_of (k0_off20_eq c) _) (Q := Q) (k := fun _ => k)) ?_
  refine send_p1 I c (M := 16) (p := 10) 10 rfl (by decide) (cond_p10 c) (fun h k Q => step_p1 I c (M := 16) (p := 10) 10 rfl (by decide) ((cond_p10 c).mp h) (Fin.ext k0_dev26_eq) (chunk_of (off := ![160, 0]) (k := 10) (by decide) _) (slot_of (k0_off23_eq c) _) (s1_of (off := ![10]) (s := 10) (by decide) _) (r1_of (k0_off22_eq c) _) (Q := Q) (k := fun _ => k)) ?_
  refine send_p1 I c (M := 16) (p := 11) 11 rfl (by decide) (cond_p11 c) (fun h k Q => step_p1 I c (M := 16) (p := 11) 11 rfl (by decide) ((cond_p11 c).mp h) (Fin.ext k0_dev27_eq) (chunk_of (off := ![176, 0]) (k := 11) (by decide) _) (slot_of (k0_off25_eq c) _) (s1_of (off := ![11]) (s := 11) (by decide) _) (r1_of (k0_off24_eq c) _) (Q := Q) (k := fun _ => k)) ?_
  refine send_p1 I c (M := 16) (p := 12) 12 rfl (by decide) (cond_p12 c) (fun h k Q => step_p1 I c (M := 16) (p := 12) 12 rfl (by decide) ((cond_p12 c).mp h) (Fin.ext k0_dev28_eq) (chunk_of (off := ![192, 0]) (k := 12) (by decide) _) (slot_of (k0_off27_eq c) _) (s1_of (off := ![12]) (s := 12) (by decide) _) (r1_of (k0_off26_eq c) _) (Q := Q) (k := fun _ => k)) ?_
  refine send_p1 I c (M := 16) (p := 13) 13 rfl (by decide) (cond_p13 c) (fun h k Q => step_p1 I c (M := 16) (p := 13) 13 rfl (by decide) ((cond_p13 c).mp h) (Fin.ext k0_dev29_eq) (chunk_of (off := ![208, 0]) (k := 13) (by decide) _) (slot_of (k0_off29_eq c) _) (s1_of (off := ![13]) (s := 13) (by decide) _) (r1_of (k0_off28_eq c) _) (Q := Q) (k := fun _ => k)) ?_
  refine send_p1 I c (M := 16) (p := 14) 14 rfl (by decide) (cond_p14 c) (fun h k Q => step_p1 I c (M := 16) (p := 14) 14 rfl (by decide) ((cond_p14 c).mp h) (Fin.ext k0_dev30_eq) (chunk_of (off := ![224, 0]) (k := 14) (by decide) _) (slot_of (k0_off31_eq c) _) (s1_of (off := ![14]) (s := 14) (by decide) _) (r1_of (k0_off30_eq c) _) (Q := Q) (k := fun _ => k)) ?_
  refine send_p1 I c (M := 16) (p := 15) 15 rfl (by decide) (cond_p15 c) (fun h k Q => step_p1 I c (M := 16) (p := 15) 15 rfl (by decide) ((cond_p15 c).mp h) (Fin.ext k0_dev31_eq) (chunk_of (off := ![240, 0]) (k := 15) (by decide) _) (slot_of (k0_off33_eq c) _) (s1_of (off := ![15]) (s := 15) (by decide) _) (r1_of (k0_off32_eq c) _) (Q := Q) (k := fun _ => k)) ?_
  exact .done trivial

end Cert.KernelIdeal.Attn

end
-- ==== Proof.Body2.lean ====
/-
# The two exchanges, part by part
-/
module

public import proofs.«01_k».proof.Proof.Pieces

@[expose] public section

set_option maxRecDepth 16384

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Ins F)

/-- The rows device `c` reads from what its `j`-th predecessor sent. -/
abbrev rr (c : Dev nD) (j : ℕ) : Vec F S1x16x1024 .f32 :=
  rbM.view.readAt (Elt F) (Rect.unit (s := S16x16x1024) ![(bwd c j).val, 0, 0] S1x16x1024.size (inb_slot (bwd c j))).toLoadRect (rbC I c)

theorem part26 (c : Dev nD) (v2 : BitVec 32) :
    RunP c iprop(Rx I c 1 ∗ chP I c c) (atA (k0_part26 (F := F)) c v2) (fun r => r.1 = accC I c 2)
      iprop(Rx I c 3 ∗ chP I c c) := by
  rw [k0_part26_eq_skeleton]; unfold k0_part26_skel
  simp only [atA, Prog.lift, Prog.bind_op, Prog.bind_ret, Prog.pure_eq_ret]
  refine .stepR (fun _ => step_ldm I c (k0_off34_eq c)) ?_
  refine .stepL (fun _ => step_r1 I c 1 (by decide) (by decide) (r1_of (off35_at c 1 (by decide) (by decide)) _)) ?_
  refine .stepL (fun _ => step_ldr I c 1 (by decide) (by decide) (off37_at c 1 (by decide) (by decide))) ?_
  refine .stepL (fun _ => step_r1 I c 2 (by decide) (by decide) (r1_of (off35_at c 2 (by decide) (by decide)) _)) ?_
  refine .stepL (fun _ => step_ldr I c 2 (by decide) (by decide) (off37_at c 2 (by decide) (by decide))) ?_
  exact .done (acc40 _ _ _)

theorem part27 (c : Dev nD) (v2 : BitVec 32) (v796 : BitVec 32) :
    RunP c iprop(Rx I c 3 ∗ chP I c c) (atA (k0_part27 (F := F)) c v2 (accC I c 2) v796) (fun r => r.1 = accC I c 4)
      iprop(Rx I c 5 ∗ chP I c c) := by
  rw [k0_part27_eq_skeleton]; unfold k0_part27_skel
  simp only [atA, Prog.lift, Prog.bind_op, Prog.bind_ret, Prog.pure_eq_ret]
  refine .stepL (fun _ => step_r1 I c 3 (by decide) (by decide) (r1_of (off35_at c 3 (by decide) (by decide)) _)) ?_
  refine .stepL (fun _ => step_ldr I c 3 (by decide) (by decide) (off37_at c 3 (by decide) (by decide))) ?_
  refine .stepL (fun _ => step_r1 I c 4 (by decide) (by decide) (r1_of (off35_at c 4 (by decide) (by decide)) _)) ?_
  refine .stepL (fun _ => step_ldr I c 4 (by decide) (by decide) (off37_at c 4 (by decide) (by decide))) ?_
  exact .done (acc41 _ _ _)

theorem part28 (c : Dev nD) (v2 : BitVec 32) (v828 : BitVec 32) :
    RunP c iprop(Rx I c 5 ∗ chP I c c) (atA (k0_part28 (F := F)) c v2 (accC I c 4) v828) (fun r => r.1 = accC I c 6)
      iprop(Rx I c 7 ∗ chP I c c) := by
  rw [k0_part28_eq_skeleton]; unfold k0_part28_skel
  simp only [atA, Prog.lift, Prog.bind_op, Prog.bind_ret, Prog.pure_eq_ret]
  refine .stepL (fun _ => step_r1 I c 5 (by decide) (by decide) (r1_of (off35_at c 5 (by decide) (by decide)) _)) ?_
  refine .stepL (fun _ => step_ldr I c 5 (by decide) (by decide) (off37_at c 5 (by decide) (by decide))) ?_
  refine .stepL (fun _ => step_r1 I c 6 (by decide) (by decide) (r1_of (off35_at c 6 (by decide) (by decide)) _)) ?_
  refine .stepL (fun _ => step_ldr I c 6 (by decide) (by decide) (off37_at c 6 (by decide) (by decide))) ?_
  exact .done (acc42 _ _ _)

theorem part29 (c : Dev nD) (v2 : BitVec 32) (v858 : BitVec 32) (v859 : BitVec 32) (c0_i32_693 : BitVec 32) :
    RunP c iprop(Rx I c 7 ∗ chP I c c) (atA (k0_part29 (F := F)) c v2 (accC I c 6) v858 v859 c0_i32_693) (fun r => r.1 = accC I c 8)
      iprop(Rx I c 9 ∗ chP I c c) := by
  rw [k0_part29_eq_skeleton]; unfold k0_part29_skel
  simp only [atA, Prog.lift, Prog.bind_op, Prog.bind_ret, Prog.pure_eq_ret]
  refine .stepL (fun _ => step_r1 I c 7 (by decide) (by decide) (r1_of (off35_at c 7 (by decide) (by decide)) _)) ?_
  refine .stepL (fun _ => step_ldr I c 7 (by decide) (by decide) (off37_at c 7 (by decide) (by decide))) ?_
  refine .stepL (fun _ => step_r1 I c 8 (by decide) (by decide) (r1_of (off35_at c 8 (by decide) (by decide)) _)) ?_
  refine .stepL (fun _ => step_ldr I c 8 (by decide) (by decide) (off37_at c 8 (by decide) (by decide))) ?_
  exact .done (acc43 _ _ _)

theorem part30 (c : Dev nD) (v2 : BitVec 32) (v888 : BitVec 32) :
    RunP c iprop(Rx I c 9 ∗ chP I c c) (atA (k0_part30 (F := F)) c v2 (accC I c 8) v888) (fun r => r.1 = accC I c 10)
      iprop(Rx I c 11 ∗ chP I c c) := by
  rw [k0_part30_eq_skeleton]; unfold k0_part30_skel
  simp only [atA, Prog.lift, Prog.bind_op, Prog.bind_ret, Prog.pure_eq_ret]
  refine .stepL (fun _ => step_r1 I c 9 (by decide) (by decide) (r1_of (off35_at c 9 (by decide) (by decide)) _)) ?_
  refine .stepL (fun _ => step_ldr I c 9 (by decide) (by decide) (off37_at c 9 (by decide) (by decide))) ?_
  refine .stepL (fun _ => step_r1 I c 10 (by decide) (by decide) (r1_of (off35_at c 10 (by decide) (by decide)) _)) ?_
  refine .stepL (fun _ => step_ldr I c 10 (by decide) (by decide) (off37_at c 10 (by decide) (by decide))) ?_
  exact .done (acc44 _ _ _)

theorem part31 (c : Dev nD) (v2 : BitVec 32) (v918 : BitVec 32) :
    RunP c iprop(Rx I c 11 ∗ chP I c c) (atA (k0_part31 (F := F)) c v2 (accC I c 10) v918) (fun r => r.1 = accC I c 12)
      iprop(Rx I c 14 ∗ chP I c c) := by
  rw [k0_part31_eq_skeleton]; unfold k0_part31_skel
  simp only [atA, Prog.lift, Prog.bind_op, Prog.bind_ret, Prog.pure_eq_ret]
  refine .stepL (fun _ => step_r1 I c 11 (by decide) (by decide) (r1_of (off35_at c 11 (by decide) (by decide)) _)) ?_
  refine .stepL (fun _ => step_ldr I c 11 (by decide) (by decide) (off37_at c 11 (by decide) (by decide))) ?_
  refine .stepL (fun _ => step_r1 I c 12 (by decide) (by decide) (r1_of (off35_at c 12 (by decide) (by decide)) _)) ?_
  refine .stepL (fun _ => step_ldr I c 12 (by decide) (by decide) (off37_at c 12 (by decide) (by decide))) ?_
  refine .stepL (fun _ => step_r1 I c 13 (by decide) (by decide) (r1_of (off35_at c 13 (by decide) (by decide)) _)) ?_
  exact .done (acc45 _ _ _)

theorem part32 (c : Dev nD) (v2 : BitVec 32) (v948 : BitVec 32) :
    RunP c iprop(Rx I c 14 ∗ chP I c c) (atA (k0_part32 (F := F)) c v2 (accC I c 12) v948) (fun r => r.1 = accC I c 14 ∧ r.2 = rr I c 15)
      iprop(Rx I c 16 ∗ chP I c c) := by
  rw [k0_part32_eq_skeleton]; unfold k0_part32_skel
  simp only [atA, Prog.lift, Prog.bind_op, Prog.bind_ret, Prog.pure_eq_ret]
  refine .stepL (fun _ => step_ldr I c 13 (by decide) (by decide) (off37_at c 13 (by decide) (by decide))) ?_
  refine .stepL (fun _ => step_r1 I c 14 (by decide) (by decide) (r1_of (off35_at c 14 (by decide) (by decide)) _)) ?_
  refine .stepL (fun _ => step_ldr I c 14 (by decide) (by decide) (off37_at c 14 (by decide) (by decide))) ?_
  refine .stepL (fun _ => step_r1 I c 15 (by decide) (by decide) (r1_of (off35_at c 15 (by decide) (by decide)) _)) ?_
  refine .stepL (fun _ => step_ldr I c 15 (by decide) (by decide) (off37_at c 15 (by decide) (by decide))) ?_
  exact .done ⟨acc46 _ _ _, rfl⟩

theorem part33 (c : Dev nD) (v2 : BitVec 32) (v762 : BitVec 32) :
    RunP c iprop(Rx I c 16 ∗ (chP I c c ∗ T2 (F := F) c)) (atA (k0_part33 (F := F)) c v2 v762 (accC I c 14) (rr I c 15)) noted
      iprop(P2 I c 3 ∗ Left1 I c) := by
  rw [k0_part33_eq_skeleton]; unfold k0_part33_skel
  simp only [atA, Prog.lift, Prog.bind_op, Prog.bind_ret, Prog.pure_eq_ret]
  refine .stepRL (fun _ => step_ldm I c (k0_off34_eq c)) ?_
  refine .stepRL (fun _ => step_stm I c (k0_off34_eq c) rfl) ?_
  refine .pre (to_p2 I c) ?_
  refine .stepL (fun _ => step_p2 I c (x := 0) 0 rfl (Fin.ext (k0_dev32_eq c)) (chunk_of (k0_off39_eq c) _) (chunk_of (k0_off39_eq c) _) (s2_of (off := ![0]) (i := 0) (by decide) _) (r2_of (k0_off38_eq c) _)) ?_
  refine .stepL (fun _ => step_p2 I c (x := 1) 1 rfl (Fin.ext (k0_dev33_eq c)) (chunk_of (k0_off39_eq c) _) (chunk_of (k0_off39_eq c) _) (s2_of (off := ![1]) (i := 1) (by decide) _) (r2_of (k0_off38_eq c) _)) ?_
  refine .stepL (fun _ => step_p2 I c (x := 2) 2 rfl (Fin.ext (k0_dev34_eq c)) (chunk_of (k0_off39_eq c) _) (chunk_of (k0_off39_eq c) _) (s2_of (off := ![2]) (i := 2) (by decide) _) (r2_of (k0_off38_eq c) _)) ?_
  exact .done trivial

theorem part34 (c : Dev nD) (v2 : BitVec 32) :
    RunP c (P2 I c 3) (atA (k0_part34 (F := F)) c v2) noted
      (P2 I c 6) := by
  rw [k0_part34_eq_skeleton]; unfold k0_part34_skel
  simp only [atA, Prog.lift, Prog.bind_op, Prog.bind_ret, Prog.pure_eq_ret]
  refine .step (fun _ => step_p2 I c (x := 3) 3 rfl (Fin.ext (k0_dev35_eq c)) (chunk_of (k0_off39_eq c) _) (chunk_of (k0_off39_eq c) _) (s2_of (off := ![3]) (i := 3) (by decide) _) (r2_of (k0_off38_eq c) _)) ?_
  refine .step (fun _ => step_p2 I c (x := 4) 4 rfl (Fin.ext (k0_dev36_eq c)) (chunk_of (k0_off39_eq c) _) (chunk_of (k0_off39_eq c) _) (s2_of (off := ![4]) (i := 4) (by decide) _) (r2_of (k0_off38_eq c) _)) ?_
  refine .step (fun _ => step_p2 I c (x := 5) 5 rfl (Fin.ext (k0_dev37_eq c)) (chunk_of (k0_off39_eq c) _) (chunk_of (k0_off39_eq c) _) (s2_of (off := ![5]) (i := 5) (by decide) _) (r2_of (k0_off38_eq c) _)) ?_
  exact .done trivial

theorem part35 (c : Dev nD) (v2 : BitVec 32) (v1054 : BitVec 32) (c1_i32_842 : BitVec 32) :
    RunP c (P2 I c 6) (atA (k0_part35 (F := F)) c v2 v1054 c1_i32_842) noted
      (P2 I c 9) := by
  rw [k0_part35_eq_skeleton]; unfold k0_part35_skel
  simp only [atA, Prog.lift, Prog.bind_op, Prog.bind_ret, Prog.pure_eq_ret]
  refine .step (fun _ => step_p2 I c (x := 6) 6 rfl (Fin.ext (k0_dev38_eq c)) (chunk_of (k0_off39_eq c) _) (chunk_of (k0_off39_eq c) _) (s2_of (off := ![6]) (i := 6) (by decide) _) (r2_of (k0_off38_eq c) _)) ?_
  refine .step (fun _ => step_p2 I c (x := 7) 7 rfl (Fin.ext (k0_dev39_eq c)) (chunk_of (k0_off39_eq c) _) (chunk_of (k0_off39_eq c) _) (s2_of (off := ![7]) (i := 7) (by decide) _) (r2_of (k0_off38_eq c) _)) ?_
  refine .step (fun _ => step_p2 I c (x := 8) 8 rfl (Fin.ext (k0_dev40_eq c)) (chunk_of (k0_off39_eq c) _) (chunk_of (k0_off39_eq c) _) (s2_of (off := ![8]) (i := 8) (by decide) _) (r2_of (k0_off38_eq c) _)) ?_
  exact .done trivial

theorem part36 (c : Dev nD) (v2 : BitVec 32) :
    RunP c (P2 I c 9) (atA (k0_part36 (F := F)) c v2) noted
      (P2 I c 13) := by
  rw [k0_part36_eq_skeleton]; unfold k0_part36_skel
  simp only [atA, Prog.lift, Prog.bind_op, Prog.bind_ret, Prog.pure_eq_ret]
  refine .step (fun _ => step_p2 I c (x := 9) 9 rfl (Fin.ext (k0_dev41_eq c)) (chunk_of (k0_off39_eq c) _) (chunk_of (k0_off39_eq c) _) (s2_of (off := ![9]) (i := 9) (by decide) _) (r2_of (k0_off38_eq c) _)) ?_
  refine .step (fun _ => step_p2 I c (x := 10) 10 rfl (Fin.ext (k0_dev42_eq c)) (chunk_of (k0_off39_eq c) _) (chunk_of (k0_off39_eq c) _) (s2_of (off := ![10]) (i := 10) (by decide) _) (r2_of (k0_off38_eq c) _)) ?_
  refine .step (fun _ => step_p2 I c (x := 11) 11 rfl (Fin.ext (k0_dev43_eq c)) (chunk_of (k0_off39_eq c) _) (chunk_of (k0_off39_eq c) _) (s2_of (off := ![11]) (i := 11) (by decide) _) (r2_of (k0_off38_eq c) _)) ?_
  refine .step (fun _ => step_p2 I c (x := 12) 12 rfl (Fin.ext (k0_dev44_eq c)) (chunk_of (k0_off39_eq c) _) (chunk_of (k0_off39_eq c) _) (s2_of (off := ![12]) (i := 12) (by decide) _) (r2_of (k0_off38_eq c) _)) ?_
  exact .done trivial

theorem part37 (c : Dev nD) (v2 : BitVec 32) :
    RunP c iprop(P2 I c 13 ∗ bigSep (oth c) (r2Wait (F := F) c)) (atA (k0_part37 (F := F)) c v2) noted
      iprop(R2 I c 2 ∗ bigSep Finset.univ (s2Cr (F := F) c)) := by
  rw [k0_part37_eq_skeleton]; unfold k0_part37_skel
  simp only [atA, Prog.lift, Prog.bind_op, Prog.bind_ret, Prog.pure_eq_ret]
  refine .stepL (fun _ => step_p2 I c (x := 13) 13 rfl (Fin.ext (k0_dev45_eq c)) (chunk_of (k0_off39_eq c) _) (chunk_of (k0_off39_eq c) _) (s2_of (off := ![13]) (i := 13) (by decide) _) (r2_of (k0_off38_eq c) _)) ?_
  refine .stepL (fun _ => step_p2 I c (x := 14) 14 rfl (Fin.ext (k0_dev46_eq c)) (chunk_of (k0_off39_eq c) _) (chunk_of (k0_off39_eq c) _) (s2_of (off := ![14]) (i := 14) (by decide) _) (r2_of (k0_off38_eq c) _)) ?_
  refine .pre (to_r2 I c) ?_
  refine .stepL (fun _ => step_r2 I c 1 (by decide) (by decide) (r2_of (off35_at c 1 (by decide) (by decide)) _)) ?_
  exact .done trivial

theorem part38 (c : Dev nD) (v2 : BitVec 32) (v1154 : BitVec 32) :
    RunP c (R2 I c 2) (atA (k0_part38 (F := F)) c v2 v1154) noted
      (R2 I c 4) := by
  rw [k0_part38_eq_skeleton]; unfold k0_part38_skel
  simp only [atA, Prog.lift, Prog.bind_op, Prog.bind_ret, Prog.pure_eq_ret]
  refine .step (fun _ => step_r2 I c 2 (by decide) (by decide) (r2_of (off35_at c 2 (by decide) (by decide)) _)) ?_
  refine .step (fun _ => step_r2 I c 3 (by decide) (by decide) (r2_of (off35_at c 3 (by decide) (by decide)) _)) ?_
  exact .done trivial

theorem part39 (c : Dev nD) (v2 : BitVec 32) :
    RunP c (R2 I c 4) (atA (k0_part39 (F := F)) c v2) noted
      (R2 I c 7) := by
  rw [k0_part39_eq_skeleton]; unfold k0_part39_skel
  simp only [atA, Prog.lift, Prog.bind_op, Prog.bind_ret, Prog.pure_eq_ret]
  refine .step (fun _ => step_r2 I c 4 (by decide) (by decide) (r2_of (off35_at c 4 (by decide) (by decide)) _)) ?_
  refine .step (fun _ => step_r2 I c 5 (by decide) (by decide) (r2_of (off35_at c 5 (by decide) (by decide)) _)) ?_
  refine .step (fun _ => step_r2 I c 6 (by decide) (by decide) (r2_of (off35_at c 6 (by decide) (by decide)) _)) ?_
  exact .done trivial

theorem part40 (c : Dev nD) (v2 : BitVec 32) (v1211 : BitVec 32) (c1_i32_968 : BitVec 32) :
    RunP c (R2 I c 7) (atA (k0_part40 (F := F)) c v2 v1211 c1_i32_968) noted
      (R2 I c 10) := by
  rw [k0_part40_eq_skeleton]; unfold k0_part40_skel
  simp only [atA, Prog.lift, Prog.bind_op, Prog.bind_ret, Prog.pure_eq_ret]
  refine .step (fun _ => step_r2 I c 7 (by decide) (by decide) (r2_of (off35_at c 7 (by decide) (by decide)) _)) ?_
  refine .step (fun _ => step_r2 I c 8 (by decide) (by decide) (r2_of (off35_at c 8 (by decide) (by decide)) _)) ?_
  refine .step (fun _ => step_r2 I c 9 (by decide) (by decide) (r2_of (off35_at c 9 (by decide) (by decide)) _)) ?_
  exact .done trivial

theorem part41 (c : Dev nD) (v2 : BitVec 32) (v1244 : BitVec 32) :
    RunP c (R2 I c 10) (atA (k0_part41 (F := F)) c v2 v1244) noted
      (R2 I c 13) := by
  rw [k0_part41_eq_skeleton]; unfold k0_part41_skel
  simp only [atA, Prog.lift, Prog.bind_op, Prog.bind_ret, Prog.pure_eq_ret]
  refine .step (fun _ => step_r2 I c 10 (by decide) (by decide) (r2_of (off35_at c 10 (by decide) (by decide)) _)) ?_
  refine .step (fun _ => step_r2 I c 11 (by decide) (by decide) (r2_of (off35_at c 11 (by decide) (by decide)) _)) ?_
  refine .step (fun _ => step_r2 I c 12 (by decide) (by decide) (r2_of (off35_at c 12 (by decide) (by decide)) _)) ?_
  exact .done trivial

theorem part42 (c : Dev nD) (v2 : BitVec 32) :
    RunP c (R2 I c 13) (atA (k0_part42 (F := F)) c v2) noted
      (R2 I c 15) := by
  rw [k0_part42_eq_skeleton]; unfold k0_part42_skel
  simp only [atA, Prog.lift, Prog.bind_op, Prog.bind_ret, Prog.pure_eq_ret]
  refine .step (fun _ => step_r2 I c 13 (by decide) (by decide) (r2_of (off35_at c 13 (by decide) (by decide)) _)) ?_
  refine .step (fun _ => step_r2 I c 14 (by decide) (by decide) (r2_of (off35_at c 14 (by decide) (by decide)) _)) ?_
  exact .done trivial

set_option maxHeartbeats 1000000 in
theorem part43 (c : Dev nD) (v2 : BitVec 32) :
    RunP c iprop(R2 I c 15 ∗ bigSep (oth c) (s1Wait (F := F) c)) (atA (k0_part43 (F := F)) c v2) noted
      iprop(W1 I c 9 ∗ bigSep (oth c) (r2Got I c)) := by
  rw [k0_part43_eq_skeleton]; unfold k0_part43_skel
  simp (config := { zeta := false }) only [atA, Prog.lift, Prog.bind_op, Prog.bind_ret, Prog.pure_eq_ret]
  refine .stepL (fun _ => step_r2 I c 15 (by decide) (by decide) (r2_of (off35_at c 15 (by decide) (by decide)) _)) ?_
  refine .pre (to_w1 I c) ?_
  refine wait_w1 I c (p := 0) 0 rfl (cond_w0 c) (fun h k Q => step_w1 I c (p := 0) 0 rfl ((cond_w0 c).mp h) (s1_of (off := ![0]) (s := 0) (by decide) _) (Q := Q) (k := fun _ => k)) ?_
  refine wait_w1 I c (p := 1) 1 rfl (cond_w1 c) (fun h k Q => step_w1 I c (p := 1) 1 rfl ((cond_w1 c).mp h) (s1_of (off := ![1]) (s := 1) (by decide) _) (Q := Q) (k := fun _ => k)) ?_
  refine wait_w1 I c (p := 2) 2 rfl (cond_w2 c) (fun h k Q => step_w1 I c (p := 2) 2 rfl ((cond_w2 c).mp h) (s1_of (off := ![2]) (s := 2) (by decide) _) (Q := Q) (k := fun _ => k)) ?_
  refine wait_w1 I c (p := 3) 3 rfl (cond_w3 c) (fun h k Q => step_w1 I c (p := 3) 3 rfl ((cond_w3 c).mp h) (s1_of (off := ![3]) (s := 3) (by decide) _) (Q := Q) (k := fun _ => k)) ?_
  refine wait_w1 I c (p := 4) 4 rfl (cond_w4 c) (fun h k Q => step_w1 I c (p := 4) 4 rfl ((cond_w4 c).mp h) (s1_of (off := ![4]) (s := 4) (by decide) _) (Q := Q) (k := fun _ => k)) ?_
  refine wait_w1 I c (p := 5) 5 rfl (cond_w5 c) (fun h k Q => step_w1 I c (p := 5) 5 rfl ((cond_w5 c).mp h) (s1_of (off := ![5]) (s := 5) (by decide) _) (Q := Q) (k := fun _ => k)) ?_
  refine wait_w1 I c (p := 6) 6 rfl (cond_w6 c) (fun h k Q => step_w1 I c (p := 6) 6 rfl ((cond_w6 c).mp h) (s1_of (off := ![6]) (s := 6) (by decide) _) (Q := Q) (k := fun _ => k)) ?_
  refine wait_w1 I c (p := 7) 7 rfl (cond_w7 c) (fun h k Q => step_w1 I c (p := 7) 7 rfl ((cond_w7 c).mp h) (s1_of (off := ![7]) (s := 7) (by decide) _) (Q := Q) (k := fun _ => k)) ?_
  refine wait_w1 I c (p := 8) 8 rfl (cond_w8 c) (fun h k Q => step_w1 I c (p := 8) 8 rfl ((cond_w8 c).mp h) (s1_of (off := ![8]) (s := 8) (by decide) _) (Q := Q) (k := fun _ => k)) ?_
  exact .done trivial

set_option maxHeartbeats 1000000 in
theorem part44 (c : Dev nD) (v2 : BitVec 32) :
    RunP c iprop(W1 I c 9 ∗ bigSep Finset.univ (s2Wait (F := F) c)) (atA (k0_part44 (F := F)) c v2) noted
      iprop(W2 I c 2 ∗ bigSep (oth c) (s1Got (F := F) c)) := by
  rw [k0_part44_eq_skeleton]; unfold k0_part44_skel
  simp (config := { zeta := false }) only [atA, Prog.lift, Prog.bind_op, Prog.bind_ret, Prog.pure_eq_ret]
  refine wait_w1 I c (p := 9) 9 rfl (cond_w9 c) (fun h k Q => step_w1 I c (p := 9) 9 rfl ((cond_w9 c).mp h) (s1_of (off := ![9]) (s := 9) (by decide) _) (Q := Q) (k := fun _ => k)) ?_
  refine wait_w1 I c (p := 10) 10 rfl (cond_w10 c) (fun h k Q => step_w1 I c (p := 10) 10 rfl ((cond_w10 c).mp h) (s1_of (off := ![10]) (s := 10) (by decide) _) (Q := Q) (k := fun _ => k)) ?_
  refine wait_w1 I c (p := 11) 11 rfl (cond_w11 c) (fun h k Q => step_w1 I c (p := 11) 11 rfl ((cond_w11 c).mp h) (s1_of (off := ![11]) (s := 11) (by decide) _) (Q := Q) (k := fun _ => k)) ?_
  refine wait_w1 I c (p := 12) 12 rfl (cond_w12 c) (fun h k Q => step_w1 I c (p := 12) 12 rfl ((cond_w12 c).mp h) (s1_of (off := ![12]) (s := 12) (by decide) _) (Q := Q) (k := fun _ => k)) ?_
  refine wait_w1 I c (p := 13) 13 rfl (cond_w13 c) (fun h k Q => step_w1 I c (p := 13) 13 rfl ((cond_w13 c).mp h) (s1_of (off := ![13]) (s := 13) (by decide) _) (Q := Q) (k := fun _ => k)) ?_
  refine wait_w1 I c (p := 14) 14 rfl (cond_w14 c) (fun h k Q => step_w1 I c (p := 14) 14 rfl ((cond_w14 c).mp h) (s1_of (off := ![14]) (s := 14) (by decide) _) (Q := Q) (k := fun _ => k)) ?_
  refine wait_w1 I c (p := 15) 15 rfl (cond_w15 c) (fun h k Q => step_w1 I c (p := 15) 15 rfl ((cond_w15 c).mp h) (s1_of (off := ![15]) (s := 15) (by decide) _) (Q := Q) (k := fun _ => k)) ?_
  refine .pre (to_w2 I c) ?_
  refine .stepL (fun _ => step_w2 I c (x := 0) 0 rfl (s2_of (off := ![0]) (i := 0) (by decide) _)) ?_
  refine .stepL (fun _ => step_w2 I c (x := 1) 1 rfl (s2_of (off := ![1]) (i := 1) (by decide) _)) ?_
  exact .done trivial

theorem part45 (c : Dev nD)  :
    RunP c (W2 I c 2) (atA (k0_part45 (F := F)) c) noted
      (W2 I c 8) := by
  rw [k0_part45_eq_skeleton]; unfold k0_part45_skel
  simp only [atA, Prog.lift, Prog.bind_op, Prog.bind_ret, Prog.pure_eq_ret]
  refine .step (fun _ => step_w2 I c (x := 2) 2 rfl (s2_of (off := ![2]) (i := 2) (by decide) _)) ?_
  refine .step (fun _ => step_w2 I c (x := 3) 3 rfl (s2_of (off := ![3]) (i := 3) (by decide) _)) ?_
  refine .step (fun _ => step_w2 I c (x := 4) 4 rfl (s2_of (off := ![4]) (i := 4) (by decide) _)) ?_
  refine .step (fun _ => step_w2 I c (x := 5) 5 rfl (s2_of (off := ![5]) (i := 5) (by decide) _)) ?_
  refine .step (fun _ => step_w2 I c (x := 6) 6 rfl (s2_of (off := ![6]) (i := 6) (by decide) _)) ?_
  refine .step (fun _ => step_w2 I c (x := 7) 7 rfl (s2_of (off := ![7]) (i := 7) (by decide) _)) ?_
  exact .done trivial

end Cert.KernelIdeal.Attn

end
-- ==== Proof.Body.lean ====
/-
# The program of a device, its parts in order
-/
module

public import proofs.«01_k».proof.Proof.Body0
public import proofs.«01_k».proof.Proof.Body1
public import proofs.«01_k».proof.Proof.Body2

@[expose] public section

set_option maxRecDepth 16384

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Ins F)

/-! ## Reordering -/

theorem assocL (A B C : sProp 𝕄) : (iprop(A ∗ (B ∗ C)) : sProp 𝕄) ⊢ iprop((A ∗ B) ∗ C) := by
  iintro ⟨HA, ⟨HB, HC⟩⟩
  isplitl [HA HB]
  · isplitl [HA]
    · iexact HA
    iexact HB
  iexact HC

theorem assocR (A B C : sProp 𝕄) : (iprop((A ∗ B) ∗ C) : sProp 𝕄) ⊢ iprop(A ∗ (B ∗ C)) := by
  iintro ⟨⟨HA, HB⟩, HC⟩
  isplitl [HA]
  · iexact HA
  isplitl [HB]
  · iexact HB
  iexact HC

theorem swapIn (A B C : sProp 𝕄) : (iprop((A ∗ B) ∗ C) : sProp 𝕄) ⊢ iprop(B ∗ (A ∗ C)) := by
  iintro ⟨⟨HA, HB⟩, HC⟩
  isplitl [HB]
  · iexact HB
  isplitl [HA]
  · iexact HA
  iexact HC

theorem pull2 (A B C D : sProp 𝕄) : (iprop(A ∗ (B ∗ (C ∗ D))) : sProp 𝕄) ⊢ iprop((A ∗ C) ∗ (B ∗ D)) := by
  iintro ⟨HA, ⟨HB, ⟨HC, HD⟩⟩⟩
  isplitl [HA HC]
  · isplitl [HA]
    · iexact HA
    iexact HC
  isplitl [HB]
  · iexact HB
  iexact HD

theorem pullUnder (A E O R S : sProp 𝕄) : (iprop(A ∗ (S ∗ ((O ∗ R) ∗ E))) : sProp 𝕄) ⊢ iprop((A ∗ (O ∗ S)) ∗ (R ∗ E)) := by
  iintro ⟨HA, ⟨HS, ⟨⟨HO, HR⟩, HE⟩⟩⟩
  isplitl [HA HO HS]
  · isplitl [HA]
    · iexact HA
    isplitl [HO]
    · iexact HO
    iexact HS
  isplitl [HR]
  · iexact HR
  iexact HE

theorem pullIn (A B C E O R : sProp 𝕄) : (iprop((A ∗ B) ∗ (C ∗ ((O ∗ R) ∗ E))) : sProp 𝕄) ⊢ iprop((A ∗ (B ∗ O)) ∗ (C ∗ (R ∗ E))) := by
  iintro ⟨⟨HA, HB⟩, ⟨HC, ⟨⟨HO, HR⟩, HE⟩⟩⟩
  isplitl [HA HB HO]
  · isplitl [HA]
    · iexact HA
    isplitl [HB]
    · iexact HB
    iexact HO
  isplitl [HC]
  · iexact HC
  isplitl [HR]
  · iexact HR
  iexact HE

theorem pull4 (A B C E O R : sProp 𝕄) : (iprop(A ∗ (B ∗ (C ∗ ((O ∗ R) ∗ E)))) : sProp 𝕄) ⊢ iprop((A ∗ O) ∗ (B ∗ (C ∗ (R ∗ E)))) := by
  iintro ⟨HA, ⟨HB, ⟨HC, ⟨⟨HO, HR⟩, HE⟩⟩⟩⟩
  isplitl [HA HO]
  · isplitl [HA]
    · iexact HA
    iexact HO
  isplitl [HB]
  · iexact HB
  isplitl [HC]
  · iexact HC
  isplitl [HR]
  · iexact HR
  iexact HE

theorem trade (A B C D : sProp 𝕄) : (iprop((A ∗ B) ∗ (C ∗ D)) : sProp 𝕄) ⊢ iprop((A ∗ C) ∗ (B ∗ D)) := by
  iintro ⟨⟨HA, HB⟩, ⟨HC, HD⟩⟩
  isplitl [HA HC]
  · isplitl [HA]
    · iexact HA
    iexact HC
  isplitl [HB]
  · iexact HB
  iexact HD

/-! ## The states -/

abbrev kPos (c : Dev nD) (h : Fin 8) : sProp 𝕄 := atPos ER (dmaC c (kq h)) 0 ∅ 0
abbrev vPos (c : Dev nD) (h : Fin 8) : sProp 𝕄 := atPos ER (dmaC c (vq h)) 0 ∅ 0
abbrev s1Pos (c d : Dev nD) : sProp 𝕄 := atPos ER (dmaC c (s1q d)) 0 ∅ 0
abbrev s2Pos (c : Dev nD) (i : Fin 15) : sProp 𝕄 := atPos ER (dmaC c (s2q i)) 0 ∅ 0
/-- The duties of a first-exchange block sent by `c` to `d`: its landing there and its leaving here. -/
abbrev p1Duty (c d : Dev nD) : sProp 𝕄 := iprop(dutyTok ER (dmaC d (r1q c)) 0 0 ∗ dutyTok ER (dmaC c (s1q d)) 0 0)
abbrev cxAny (c : Dev nD) : sProp 𝕄 := iprop(∃ f : Vec F S256x1024 .f32, cxP c f)
/-- What the exchanges use. -/
abbrev Later7 (c : Dev nD) : sProp 𝕄 := iprop(bigSep (oth c) (s1Pos (F := F) c) ∗ bigSep Finset.univ (s2Pos (F := F) c))
abbrev Later (c : Dev nD) : sProp 𝕄 :=
  iprop(ouAny (F := F) c 1 ∗ (bigSep (oth c) (r1Wait (F := F) c) ∗ (T2 (F := F) c ∗ (bigSep (oth c) (r2Wait (F := F) c) ∗ Later7 (F := F) c))))
/-- What the attention uses besides the copies and the queries. -/
abbrev Mid (c : Dev nD) : sProp 𝕄 :=
  iprop(biAny (F := F) c ∗ ((bigSep Finset.univ (kPos (F := F) c) ∗ bigSep Finset.univ (vPos (F := F) c)) ∗ (cxAny (F := F) c ∗ (woP c (I.wo c)
    ∗ (ouAny (F := F) c 0 ∗ (bigSep (oth c) (p1Duty (F := F) c) ∗ Later (F := F) c))))))
/-- What a device's program starts from. -/
abbrev Start (c : Dev nD) : sProp 𝕄 :=
  iprop(SigSt I c 1 ∗ ((BarW (F := F) c ∗ CpSt I c 0 0) ∗ ((xP c (I.x c) ∗ (wqP c (I.wq c) ∗ qAny (F := F) c)) ∗ Mid I c)))
abbrev Ends (c : Dev nD) : sProp 𝕄 := iprop(xP c (I.x c) ∗ (wqP c (I.wq c) ∗ semVal (barC c) 0))
/-- The attention's buffers when it is done. -/
abbrev Kept (c : Dev nD) : sProp 𝕄 :=
  iprop(KW I c 8 ∗ VW I c 8 ∗ qP c (qC I c) ∗ biP c biasC ∗ CX I c 16 ∗ woP c (I.wo c))
/-- What it leaves besides the shares of its own rows. -/
abbrev Left (c : Dev nD) : sProp 𝕄 :=
  iprop(bigSep (oth c) (s1Got (F := F) c) ∗ (bigSep (oth c) (r2Got I c) ∗ (Left1 I c ∗ (Kept I c ∗ Ends I c))))

theorem k_wait (c : Dev nD) : iprop(bigSep Finset.univ (kCr (F := F) c) ∗ bigSep Finset.univ (kPos (F := F) c)) ⊢ KW I c 0 := by
  unfold KW
  rw [from_zero, upto_zero, bigSep_empty]
  iintro ⟨H1, H2⟩
  isplitl [H1 H2]
  · iapply (sep_join Finset.univ (kCr (F := F) c) (kPos (F := F) c))
    isplitl [H1]; · iexact H1
    iexact H2
  · iempintro
theorem v_wait (c : Dev nD) : iprop(bigSep Finset.univ (vCr (F := F) c) ∗ bigSep Finset.univ (vPos (F := F) c)) ⊢ VW I c 0 := by
  unfold VW
  rw [from_zero, upto_zero, bigSep_empty]
  iintro ⟨H1, H2⟩
  isplitl [H1 H2]
  · iapply (sep_join Finset.univ (vCr (F := F) c) (vPos (F := F) c))
    isplitl [H1]; · iexact H1
    iexact H2
  · iempintro
theorem tok3 (c d : Dev nD) : iprop(p1Duty (F := F) c d ∗ barPay (F := F) c d) ⊢ p1Tok (F := F) c d := by
  unfold p1Tok
  exact assocR _ _ _
theorem toks_join (c : Dev nD) : iprop(bigSep (oth c) (p1Duty (F := F) c) ∗ bigSep (oth c) fun d => barPay (F := F) c d) ⊢ Toks (F := F) c :=
  (sep_join (oth c) (p1Duty (F := F) c) (fun d => barPay (F := F) c d)).trans (bigSep_mono fun d _ => tok3 c d)
theorem cx_zero (c : Dev nD) : cxAny (F := F) c ⊢ CX I c 0 := by
  unfold CX
  iintro ⟨%f, H⟩
  iexists f
  isplitr [H]
  · ipureintro; intro i hi; exact absurd hi (Nat.not_lt_zero _)
  · iexact H
theorem cp_done (c : Dev nD) : CpSt I c 8 8 ⊢ iprop(bigSep Finset.univ (kCr (F := F) c) ∗ bigSep Finset.univ (vCr (F := F) c)) := by
  unfold CpSt
  rw [upto_end]
  iintro ⟨-, ⟨-, H1⟩, ⟨-, H2⟩⟩
  isplitl [H1]; · iexact H1
  iexact H2

theorem to_at (c : Dev nD) : iprop((CpSt I c 8 8 ∗ (xP c (I.x c) ∗ (wqP c (I.wq c) ∗ qP c (qC I c)))) ∗ (BarD I c ∗ Mid I c))
    ⊢ iprop((biAny (F := F) c ∗ At0 I c) ∗ ((ouAny (F := F) c 0 ∗ Toks (F := F) c) ∗ (Later (F := F) c ∗ Ends I c))) := by
  iintro ⟨⟨Hcp, Hx, Hwq, Hq⟩, ⟨HO, Hb, Hpay⟩, Hbi, ⟨Hkp, Hvp⟩, Hcx, Hwo, Hou, Hd, HL⟩
  ihave Hcr := (cp_done I c) $$ Hcp
  icases Hcr with ⟨Hk, Hv⟩
  isplitl [Hbi HO Hkp Hvp Hk Hv Hq Hcx Hwo]
  · isplitl [Hbi]; · iexact Hbi
    isplitl [HO]; · iexact HO
    isplitl [Hk Hkp]
    · iapply (k_wait I c)
      isplitl [Hk]; · iexact Hk
      iexact Hkp
    isplitl [Hv Hvp]
    · iapply (v_wait I c)
      isplitl [Hv]; · iexact Hv
      iexact Hvp
    isplitl [Hq]; · iexact Hq
    isplitl [Hcx]
    · iapply (cx_zero I c); iexact Hcx
    iexact Hwo
  isplitl [Hou Hd Hpay]
  · isplitl [Hou]; · iexact Hou
    iapply (toks_join c)
    isplitl [Hd]; · iexact Hd
    iexact Hpay
  isplitl [HL]; · iexact HL
  isplitl [Hx]; · iexact Hx
  isplitl [Hwq]; · iexact Hwq
  iexact Hb

theorem to_rx' (c : Dev nD) {R E : sProp 𝕄} : (iprop((At I c (fromN (oth c) 16) 8 8 16 ∗ Sd I c 16 16) ∗ ((bigSep (oth c) (r1Wait (F := F) c) ∗ R) ∗ E)) : sProp 𝕄)
    ⊢ iprop((Rx I c 1 ∗ chP I c c) ∗ (Left0 I c ∗ (R ∗ E))) := by
  iintro ⟨H1, ⟨H2, H3⟩, H4⟩
  ihave H := (to_rx I c) $$ [H1 H2]
  · isplitl [H1]; · iexact H1
    iexact H2
  icases H with ⟨Ha, Hb⟩
  isplitl [Ha]; · iexact Ha
  isplitl [Hb]; · iexact Hb
  isplitl [H3]; · iexact H3
  iexact H4

theorem s1_wait (c : Dev nD) : iprop(bigSep (oth c) (s1Cr (F := F) c) ∗ bigSep (oth c) (s1Pos (F := F) c)) ⊢ bigSep (oth c) (s1Wait (F := F) c) := by
  unfold s1Wait
  exact sep_join (oth c) (s1Cr (F := F) c) (s1Pos (F := F) c)
theorem s2_wait (c : Dev nD) : iprop(bigSep Finset.univ (s2Cr (F := F) c) ∗ bigSep Finset.univ (s2Pos (F := F) c)) ⊢ bigSep Finset.univ (s2Wait (F := F) c) := by
  unfold s2Wait
  exact sep_join Finset.univ (s2Cr (F := F) c) (s2Pos (F := F) c)

theorem to_s1 (c : Dev nD) {E : sProp 𝕄} : (iprop(R2 I c 15 ∗ (bigSep Finset.univ (s2Cr (F := F) c) ∗ (Left1 I c ∗ (Left0 I c ∗ (Later7 (F := F) c ∗ E))))) : sProp 𝕄)
    ⊢ iprop((R2 I c 15 ∗ bigSep (oth c) (s1Wait (F := F) c)) ∗ (bigSep Finset.univ (s2Wait (F := F) c) ∗ (Left1 I c ∗ (Kept I c ∗ E)))) := by
  iintro ⟨HR, Hc2, HL, ⟨Hc1, HK⟩, ⟨Hp1, Hp2⟩, HE⟩
  isplitl [HR Hc1 Hp1]
  · isplitl [HR]; · iexact HR
    iapply (s1_wait c)
    isplitl [Hc1]; · iexact Hc1
    iexact Hp1
  isplitl [Hc2 Hp2]
  · iapply (s2_wait c)
    isplitl [Hc2]; · iexact Hc2
    iexact Hp2
  isplitl [HL]; · iexact HL
  isplitl [HK]; · iexact HK
  iexact HE

/-! ## The whole program of a device -/

set_option maxHeartbeats 2000000 in
theorem part46 (c : Dev nD) :
    RunP c (Start I c) (atA (k0_part46 (F := F))) (fun d => d = c) iprop(W2 I c 10 ∗ Left I c) := by
  rw [k0_part46_eq_skeleton]; unfold k0_part46_skel
  simp only [atA, Prog.lift, Prog.bind_op, Prog.bind_ret, Prog.pure_eq_ret]
  refine .seq ((part1 I c).carry _) fun r hr => ?_
  obtain ⟨d0, v2, v3, v24, w⟩ := r
  obtain ⟨h1, h2⟩ := hr
  replace h1 : c = d0 := h1.symm
  replace h2 : v3 = SemArray.scalar (sig.barrier 0 rfl) := h2
  subst h1 h2
  dsimp only
  refine .seq ((part2 I c v2 v24 w).carry _) fun r hr => ?_
  obtain ⟨v48, w'⟩ := r
  dsimp only
  refine .pre (assocL _ _ _) ?_
  refine .seq ((part3 I c v2 v48 w').carry _) fun r hr => ?_
  refine .pre (swapIn _ _ _) ?_
  refine .seq ((part4 I c v2).carry _) fun r hr => ?_
  refine .seq ((part5 I c v2).carry _) fun r hr => ?_
  refine .seq ((part6 I c v2).carry _) fun r hr => ?_
  refine .pre (pull2 _ _ _ _) ?_
  refine .seq ((part7 I c v2).carry _) fun r hr => ?_
  subst hr
  dsimp only
  refine .seq (part8 c _ _ _) fun r hr => ?_
  subst hr
  dsimp only
  refine .pre (to_at I c) ?_
  refine .seq ((part9 I c v2).carry _) fun r hr => ?_
  subst hr
  refine .seq ((part10 I c v2).carry _) fun r hr => ?_
  refine .seq ((part11 I c v2).carry _) fun r hr => ?_
  refine .seq ((part12 I c v2).carry _) fun r hr => ?_
  refine .seq ((part13 I c).carry _) fun r hr => ?_
  subst hr
  refine .seq ((part14 I c v2).carry _) fun r hr => ?_
  subst hr
  dsimp only
  refine .seq ((part15 I c v2).carry _) fun r hr => ?_
  subst hr
  refine .seq ((part16 I c v2).carry _) fun r hr => ?_
  subst hr
  refine .seq ((part17 I c v2).carry _) fun r hr => ?_
  refine .pre (assocL _ _ _) ?_
  refine .seq ((part18 I c v2).carry _) fun r hr => ?_
  refine .seq ((part19 I c v2 r).carry _) fun r hr => ?_
  subst hr
  refine .pre (assocR _ _ _) ?_
  refine .seq ((part20 I c).carry _) fun r hr => ?_
  refine .seq ((part21 I c).carry _) fun r hr => ?_
  subst hr
  dsimp only
  refine .seq ((part22 I c).carry _) fun r hr => ?_
  subst hr
  refine .seq ((part23 I c).carry _) fun r hr => ?_
  subst hr
  dsimp only
  refine .seq ((part24 I c).carry _) fun r hr => ?_
  subst hr
  dsimp only
  refine .pre (pullUnder _ _ _ _ _) ?_
  refine .seq ((part25 I c v2).carry _) fun r hr => ?_
  obtain ⟨v762, e762⟩ : ∃ v, v = r := ⟨r, rfl⟩
  subst e762
  refine .pre (to_rx' I c) ?_
  refine .seq ((part26 I c v2).carry _) fun r hr => ?_
  obtain ⟨a2, w796⟩ := r
  replace hr : a2 = accC I c 2 := hr
  subst hr
  dsimp only
  refine .seq ((part27 I c v2 w796).carry _) fun r hr => ?_
  obtain ⟨a4, w828⟩ := r
  replace hr : a4 = accC I c 4 := hr
  subst hr
  dsimp only
  refine .seq ((part28 I c v2 w828).carry _) fun r hr => ?_
  obtain ⟨a6, w858, w859, w693⟩ := r
  replace hr : a6 = accC I c 6 := hr
  subst hr
  dsimp only
  refine .seq ((part29 I c v2 w858 w859 w693).carry _) fun r hr => ?_
  obtain ⟨a8, w888⟩ := r
  replace hr : a8 = accC I c 8 := hr
  subst hr
  dsimp only
  refine .seq ((part30 I c v2 w888).carry _) fun r hr => ?_
  obtain ⟨a10, w918⟩ := r
  replace hr : a10 = accC I c 10 := hr
  subst hr
  dsimp only
  refine .seq ((part31 I c v2 w918).carry _) fun r hr => ?_
  obtain ⟨a12, w948⟩ := r
  replace hr : a12 = accC I c 12 := hr
  subst hr
  dsimp only
  refine .seq ((part32 I c v2 w948).carry _) fun r hr => ?_
  obtain ⟨a14, b15⟩ := r
  obtain ⟨h1, h2⟩ := hr
  replace h1 : a14 = accC I c 14 := h1
  replace h2 : b15 = rr I c 15 := h2
  subst h1 h2
  dsimp only
  refine .pre (pullIn _ _ _ _ _ _) ?_
  refine .seq ((part33 I c v2 v762).carry _) fun r hr => ?_
  refine .pre (assocR _ _ _) ?_
  refine .seq ((part34 I c v2).carry _) fun r hr => ?_
  obtain ⟨w1054, w842⟩ := r
  dsimp only
  refine .seq ((part35 I c v2 w1054 w842).carry _) fun r hr => ?_
  refine .seq ((part36 I c v2).carry _) fun r hr => ?_
  refine .pre (pull4 _ _ _ _ _ _) ?_
  refine .seq ((part37 I c v2).carry _) fun r hr => ?_
  obtain ⟨w1154, e⟩ : ∃ v, v = r := ⟨r, rfl⟩
  subst e
  refine .pre (assocR _ _ _) ?_
  refine .seq ((part38 I c v2 w1154).carry _) fun r hr => ?_
  refine .seq ((part39 I c v2).carry _) fun r hr => ?_
  obtain ⟨w1211, w968⟩ := r
  dsimp only
  refine .seq ((part40 I c v2 w1211 w968).carry _) fun r hr => ?_
  obtain ⟨w1244, e⟩ : ∃ v, v = r := ⟨r, rfl⟩
  subst e
  refine .seq ((part41 I c v2 w1244).carry _) fun r hr => ?_
  refine .seq ((part42 I c v2).carry _) fun r hr => ?_
  refine .pre (to_s1 I c) ?_
  refine .seq ((part43 I c v2).carry _) fun r hr => ?_
  refine .pre (trade _ _ _ _) ?_
  refine .seq ((part44 I c v2).carry _) fun r hr => ?_
  refine .pre (assocR _ _ _) ?_
  refine .seq ((part45 I c).carry _) fun r hr => ?_
  refine .stepL (fun _ => step_w2 I c (x := 8) 8 rfl (s2_of (off := ![8]) (i := 8) (by decide) _)) ?_
  refine .stepL (fun _ => step_w2 I c (x := 9) 9 rfl (s2_of (off := ![9]) (i := 9) (by decide) _)) ?_
  exact .done rfl

theorem device (c : Dev nD) :
    RunP c (Start I c) (atA (cc0__body (F := F))) noted iprop(W2 I c 15 ∗ Left I c) := by
  rw [cc0__body_eq_skeleton]; unfold cc0__body_skel
  simp only [atA, Prog.lift, Prog.bind_op, Prog.bind_ret, Prog.pure_eq_ret]
  refine .seq (part46 I c) fun r hr => ?_
  replace hr : c = r := hr.symm
  subst hr
  refine .stepL (fun _ => step_w2 I c (x := 10) 10 rfl (s2_of (off := ![10]) (i := 10) (by decide) _)) ?_
  refine .stepL (fun _ => step_w2 I c (x := 11) 11 rfl (s2_of (off := ![11]) (i := 11) (by decide) _)) ?_
  refine .stepL (fun _ => step_w2 I c (x := 12) 12 rfl (s2_of (off := ![12]) (i := 12) (by decide) _)) ?_
  refine .stepL (fun _ => step_w2 I c (x := 13) 13 rfl (s2_of (off := ![13]) (i := 13) (by decide) _)) ?_
  refine .stepL (fun _ => step_w2 I c (x := 14) 14 rfl (s2_of (off := ![14]) (i := 14) (by decide) _)) ?_
  exact .done trivial

end Cert.KernelIdeal.Attn

end
-- ==== Proof.Deal.lean ====
/-
# The launch: the cells, the duties dealt, the credit
-/
module

public import proofs.«01_k».proof.Proof.Attend

@[expose] public section

set_option maxRecDepth 16384

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Ins F)

/-! ## A device's cells, kind by kind -/

theorem split_nat (a b : ℕ) (Φ : ℕ → sProp 𝕄) :
    bigSep Finset.univ (fun i : Fin (a + b) => Φ i.val) = (iprop(bigSep Finset.univ (fun i : Fin a => Φ i.val) ∗ bigSep Finset.univ (fun j : Fin b => Φ (a + j.val))) : sProp 𝕄) := by
  rw [bigSep_univ_equiv (finSumFinEquiv (m := a) (n := b)) (fun i : Fin (a + b) => Φ i.val), bigSep_univ_sum]
  rfl

/-- The family over a device's transfer cells as one over numbers. -/
def atN (c : Dev nD) (Φ : GSem nD τ sig → sProp 𝕄) (n : ℕ) : sProp 𝕄 := if h : n < 83 then Φ (dmaC c ⟨n, h⟩) else iprop(emp)
theorem atN_eq (c : Dev nD) (Φ : GSem nD τ sig → sProp 𝕄) {n : ℕ} (q : DmaSem sig) (h : n = q.val) : atN c Φ n = Φ (dmaC c q) := by
  subst h
  unfold atN
  rw [dif_pos (show q.val < 83 from q.isLt)]

/-- One thing for every transfer cell of a device. -/
abbrev Kinds (c : Dev nD) (Φ : GSem nD τ sig → sProp 𝕄) : sProp 𝕄 :=
  iprop(bigSep Finset.univ (fun h : Fin 8 => Φ (dmaC c (kq h))) ∗ (bigSep Finset.univ (fun h : Fin 8 => Φ (dmaC c (vq h)))
    ∗ (bigSep Finset.univ (fun k : Fin 16 => Φ (dmaC c (s1q k))) ∗ (bigSep Finset.univ (fun j : Fin 15 => Φ (dmaC c (s2q j)))
    ∗ (bigSep Finset.univ (fun s : Fin 16 => Φ (dmaC c (r1q s))) ∗ bigSep Finset.univ (fun s : Fin 16 => Φ (dmaC c (r2q s))))))))

theorem split79 (c : Dev nD) (Φ : GSem nD τ sig → sProp 𝕄) :
    (bigSep Finset.univ (fun i : Fin 79 => Φ ((c : Thread nD τ), osem i)) : sProp 𝕄) = Kinds c Φ := by
  rw [show (bigSep Finset.univ (fun i : Fin 79 => Φ ((c : Thread nD τ), osem i)) : sProp 𝕄) = bigSep Finset.univ (fun i : Fin (8 + (8 + (16 + (15 + (16 + 16))))) => atN c Φ (4 + i.val)) from
      bigSep_congr fun i _ => (atN_eq c Φ _ rfl).symm,
    split_nat 8 (8 + (16 + (15 + (16 + 16)))) (fun n => atN c Φ (4 + n)), split_nat 8 (16 + (15 + (16 + 16))) (fun n => atN c Φ (4 + (8 + n))),
    split_nat 16 (15 + (16 + 16)) (fun n => atN c Φ (4 + (8 + (8 + n)))), split_nat 15 (16 + 16) (fun n => atN c Φ (4 + (8 + (8 + (16 + n))))),
    split_nat 16 16 (fun n => atN c Φ (4 + (8 + (8 + (16 + (15 + n))))))]
  rw [bigSep_congr fun (h : Fin 8) _ => atN_eq c Φ (kq h) rfl,
    bigSep_congr fun (h : Fin 8) _ => atN_eq c Φ (vq h) (show 4 + (8 + h.val) = 12 + h.val by omega),
    bigSep_congr fun (k : Fin 16) _ => atN_eq c Φ (s1q k) (show 4 + (8 + (8 + k.val)) = 20 + k.val by omega),
    bigSep_congr fun (j : Fin 15) _ => atN_eq c Φ (s2q j) (show 4 + (8 + (8 + (16 + j.val))) = 36 + j.val by omega),
    bigSep_congr fun (s : Fin 16) _ => atN_eq c Φ (r1q s) (show 4 + (8 + (8 + (16 + (15 + s.val)))) = 51 + s.val by omega),
    bigSep_congr fun (s : Fin 16) _ => atN_eq c Φ (r2q s) (show 4 + (8 + (8 + (16 + (15 + (16 + s.val))))) = 67 + s.val by omega)]

theorem split80 (c : Dev nD) (Φ : GSem nD τ sig → sProp 𝕄) :
    (bigSep Finset.univ (fun i : Fin 80 => Φ (kcell (c, i))) : sProp 𝕄) = iprop(Φ (barC c) ∗ Kinds c Φ) := by
  rw [bigSep_univ_succ, ← split79]
  rfl

/-! ## Minting -/

theorem reg_ne_dma {q : DmaSem sig} (h : (SemLoc.reg barS : SemLoc sig) = .dma q) : False := by cases h
theorem osem_injective : Function.Injective osem := by
  intro i j h
  have h' : (4 + i.val) = 4 + j.val := congrArg (fun s : SemLoc sig => match s with | .reg _ => 0 | .dma q => q.val) h
  exact Fin.ext (by omega)
theorem csem_injective : Function.Injective csem := by
  intro i j h
  induction i using Fin.cases with
  | zero =>
    induction j using Fin.cases with
    | zero => rfl
    | succ j => exact (reg_ne_dma (q := ⟨4 + j.val, show 4 + j.val < 83 by omega⟩) h).elim
  | succ i =>
    induction j using Fin.cases with
    | zero => exact (reg_ne_dma (q := ⟨4 + i.val, show 4 + i.val < 83 by omega⟩) h.symm).elim
    | succ j => exact congrArg Fin.succ (osem_injective h)
theorem kcell_injective : Function.Injective kcell := by
  rintro ⟨c, k⟩ ⟨c', k'⟩ h
  have h1 : c = c' := congrArg (fun g : GSem nD τ sig => g.1.1) h
  subst h1
  exact congrArg (Prod.mk c) (csem_injective (congrArg Prod.snd h))
def ringCells : Finset (GSem nD τ sig) := Finset.univ.map ⟨kcell, kcell_injective⟩
abbrev tokOf (x : (Dev nD × Fin 80) × Duty) : GSem nD τ sig × ℕ × Duty := (kcell x.1, 0, x.2)
theorem tokOf_injective : Function.Injective tokOf := by
  rintro ⟨ck, d⟩ ⟨ck', d'⟩ h
  have h1 : ck = ck' := kcell_injective (congrArg Prod.fst h)
  have h2 : d = d' := congrArg (fun x : GSem nD τ sig × ℕ × Duty => x.2.2) h
  subst h1 h2; rfl
def ringToks : Finset (GSem nD τ sig × ℕ × Duty) := Finset.univ.map ⟨tokOf, tokOf_injective⟩

def u₀ : UU :=
  (initOf (Pipeline.cells cfgs cellOf_inj) (Pipeline.launchToks cfgs cellOf_inj), initOf ringCells ringToks)

/-- Every duty token of a cell. -/
abbrev cellToks (g : GSem nD τ sig) : sProp 𝕄 := bigSep Finset.univ fun d : Duty => dutyTok ER g 0 d
def toks (c : Dev nD) : sProp 𝕄 := bigSep Finset.univ fun k : Fin 80 => cellToks (F := F) (kcell (c, k))

def G (c : Dev nD) : sProp 𝕄 :=
  iprop((bigSep Finset.univ fun k : Fin 80 => roundState ER (Rd I) (kcell (c, k)) 0)
    ∗ (bigSep Finset.univ fun k : Fin 80 => atPos ER (kcell (c, k)) 0 ∅ 0) ∗ (bigSep Finset.univ fun k : Fin 80 => reached ER (kcell (c, k)) 0) ∗ toks (F := F) c)

theorem fund_ring : BI.own (ER (initOf ringCells ringToks)) ⊢ (|==> bigSep Finset.univ (G I) : sProp 𝕄) := by
  have hX (Φ : GSem nD τ sig → sProp 𝕄) : bigSep ringCells Φ = bigSep Finset.univ fun c : Dev nD => bigSep Finset.univ fun k : Fin 80 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks toks; rw [bigSep_map, bigSep_univ_prod, bigSep_univ_prod]; rfl
  iintro HX
  imod (Rounds.fund ER (Rd I) ringCells ringToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## Allocating the invariants -/

theorem ownSems0_eq (c : Dev nD) : (Pipeline.ownSems0 (Ix := Unit) (Name := ℕ) (U := UU) (Lvl := ℕ) (Val := Elt F) (τ := τ) osem c : sProp 𝕄)
    = Kinds c fun g => semVal g 0 := by
  rw [← split79]; rfl
theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 80 => semVal (kcell (c, k)) 0 : sProp 𝕄) := by
  rw [ownSems0_eq, unscopedSems0_eq, split80 c fun g => semVal g 0]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (Rd I) κ (kcell (c, k))))
          ∗ (bigSep Finset.univ fun k : Fin 80 => atPos ER (kcell (c, k)) 0 ∅ 0) ∗ (bigSep Finset.univ fun k : Fin 80 => reached ER (kcell (c, k)) 0) ∗ toks (F := F) c) := by
  unfold G
  iintro ⟨Hos, Hus, Hst, Hat, Hr, Htok⟩
  ihave Hv := (sems0_eq (F := F) c) $$ [Hos Hus]
  · isplitl [Hos] <;> iassumption
  imod (show iprop((bigSep Finset.univ fun k : Fin 80 => semVal (kcell (c, k)) 0) ∗ bigSep Finset.univ fun k : Fin 80 => roundState ER (Rd I) (kcell (c, k)) 0)
      ⊢ (|={Set.univ}=> bigSep Finset.univ fun k => iprop(∃ κ : ℕ, cellInv ER (Rd I) κ (kcell (c, k))) : sProp 𝕄) from by
        rw [← bigSep_sep']
        exact (bigSep_mono fun k _ => (Rounds.body_intro ER (Rd I) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-! ## Dealing -/

/-- The duties a device pays at the barrier and in the exchanges, and those of its own copies. -/
abbrev payToks (c : Dev nD) : sProp 𝕄 :=
  iprop(bigSep Finset.univ (fun d : Dev nD => dutyTok ER (barC d) 0 c) ∗ (bigSep Finset.univ (fun d : Dev nD => dutyTok ER (dmaC d (r1q c)) 0 0)
    ∗ (bigSep Finset.univ (fun d : Dev nD => dutyTok ER (dmaC d (r2q c)) 0 0) ∗ (bigSep Finset.univ (fun d : Dev nD => dutyTok ER (dmaC c (s1q d)) 0 0)
    ∗ (bigSep Finset.univ (fun i : Fin 15 => dutyTok ER (dmaC c (s2q i)) 0 0) ∗ (bigSep Finset.univ (fun h : Fin 8 => dutyTok ER (dmaC c (kq h)) 0 0)
    ∗ bigSep Finset.univ (fun h : Fin 8 => dutyTok ER (dmaC c (vq h)) 0 0)))))))
/-- The same before they change hands. -/
abbrev ownToks (c : Dev nD) : sProp 𝕄 :=
  iprop(bigSep Finset.univ (fun d : Dev nD => dutyTok ER (barC c) 0 d) ∗ (bigSep Finset.univ (fun d : Dev nD => dutyTok ER (dmaC c (r1q d)) 0 0)
    ∗ (bigSep Finset.univ (fun d : Dev nD => dutyTok ER (dmaC c (r2q d)) 0 0) ∗ (bigSep Finset.univ (fun d : Dev nD => dutyTok ER (dmaC c (s1q d)) 0 0)
    ∗ (bigSep Finset.univ (fun i : Fin 15 => dutyTok ER (dmaC c (s2q i)) 0 0) ∗ (bigSep Finset.univ (fun h : Fin 8 => dutyTok ER (dmaC c (kq h)) 0 0)
    ∗ bigSep Finset.univ (fun h : Fin 8 => dutyTok ER (dmaC c (vq h)) 0 0)))))))

theorem tok0 {J : Type} (S : Finset J) (g : J → GSem nD τ sig) : bigSep S (fun j => cellToks (F := F) (g j)) ⊢ (bigSep S fun j => dutyTok ER (g j) 0 0 : sProp 𝕄) :=
  bigSep_mono fun j _ => bigSep_elim (Φ := fun d : Duty => (dutyTok ER (g j) 0 d : sProp 𝕄)) (Finset.mem_univ (0 : Duty))

theorem own_toks (c : Dev nD) : toks (F := F) c ⊢ ownToks (F := F) c := by
  unfold toks
  rw [split80 c fun g => cellToks (F := F) g]
  iintro ⟨HB, Hk, Hv, H1, H2, H3, H4⟩
  isplitl [HB]; · iexact HB
  isplitl [H3]; · iapply (tok0 (F := F) Finset.univ fun s : Fin 16 => dmaC c (r1q s)); iexact H3
  isplitl [H4]; · iapply (tok0 (F := F) Finset.univ fun s : Fin 16 => dmaC c (r2q s)); iexact H4
  isplitl [H1]; · iapply (tok0 (F := F) Finset.univ fun s : Fin 16 => dmaC c (s1q s)); iexact H1
  isplitl [H2]; · iapply (tok0 (F := F) Finset.univ fun s : Fin 15 => dmaC c (s2q s)); iexact H2
  isplitl [Hk]; · iapply (tok0 (F := F) Finset.univ fun s : Fin 8 => dmaC c (kq s)); iexact Hk
  iapply (tok0 (F := F) Finset.univ fun s : Fin 8 => dmaC c (vq s)); iexact Hv

theorem toks_around : (bigSep Finset.univ fun c : Dev nD => (toks (F := F) c : sProp 𝕄)) ⊢ bigSep Finset.univ fun c : Dev nD => payToks (F := F) c := by
  refine (bigSep_mono fun c _ => own_toks (F := F) c).trans ?_
  simp only [bigSep_sep']
  rw [bigSep_univ_comm (fun (c d : Dev nD) => (dutyTok ER (barC c) 0 d : sProp 𝕄)),
    bigSep_univ_comm (fun (c d : Dev nD) => (dutyTok ER (dmaC c (r1q d)) 0 0 : sProp 𝕄)),
    bigSep_univ_comm (fun (c d : Dev nD) => (dutyTok ER (dmaC c (r2q d)) 0 0 : sProp 𝕄))]
  exact Idealize.SL.BI.Entails.refl _

/-- What a device is dealt: the records, its positions, its duties. -/
def G' (c : Dev nD) : sProp 𝕄 := iprop(Rec I ∗ ((atPos ER (barC c) 0 ∅ 0 ∗ Kinds c fun g => atPos ER g 0 ∅ 0) ∗ payToks (F := F) c))

theorem one_rec (ck : Dev nD × Fin 80) :
    iprop((∃ κ : ℕ, cellInv ER (Rd I) κ (kcell ck)) ∗ reached ER (kcell ck) 0) ⊢ (iprop(∃ κ : ℕ, cellInv ER (Rd I) κ (kcell ck) ∗ reached ER (kcell ck) 0) : sProp 𝕄) := by
  iintro ⟨⟨%κ, H⟩, HR⟩
  iexists κ
  isplitl [H]; · iexact H
  iexact HR
theorem all_rec : (iprop((bigSep Finset.univ fun c : Dev nD => bigSep Finset.univ fun k : Fin 80 => iprop(∃ κ : ℕ, cellInv ER (Rd I) κ (kcell (c, k))))
    ∗ bigSep Finset.univ fun c : Dev nD => bigSep Finset.univ fun k : Fin 80 => reached ER (kcell (c, k)) 0) : sProp 𝕄) ⊢ Rec I := by
  rw [← bigSep_univ_prod (fun ck : Dev nD × Fin 80 => iprop(∃ κ : ℕ, cellInv ER (Rd I) κ (kcell ck))),
    ← bigSep_univ_prod (fun ck : Dev nD × Fin 80 => (reached ER (kcell ck) 0 : sProp 𝕄)), ← bigSep_sep']
  unfold Rec
  exact bigSep_mono fun ck _ => one_rec I ck

theorem with_rec {R : sProp 𝕄} [BI.Persistent R] {Φ : Dev nD → sProp 𝕄} : iprop(R ∗ bigSep Finset.univ Φ) ⊢ (bigSep Finset.univ fun c => iprop(R ∗ Φ c) : sProp 𝕄) :=
  (sep_mono_left (BI.bigSep_of_persistent Finset.univ R)).trans (by rw [← bigSep_sep'])

theorem regroup :
    (bigSep Finset.univ fun c : Dev nD => iprop((bigSep Finset.univ fun k => iprop(∃ κ : ℕ, cellInv ER (Rd I) κ (kcell (c, k))))
          ∗ (bigSep Finset.univ fun k : Fin 80 => atPos ER (kcell (c, k)) 0 ∅ 0) ∗ (bigSep Finset.univ fun k : Fin 80 => reached ER (kcell (c, k)) 0) ∗ toks (F := F) c) : sProp 𝕄)
      ⊢ bigSep Finset.univ (G' I) := by
  rw [bigSep_sep', bigSep_sep', bigSep_sep',
    bigSep_congr (s := Finset.univ) (fun (c : Dev nD) _ => split80 (F := F) c fun g => atPos ER g 0 ∅ 0)]
  unfold G'
  iintro ⟨HI, Hat, HR, Htok⟩
  ihave #Hrec := (all_rec I) $$ [HI HR]
  · isplitl [HI]; · iexact HI
    iexact HR
  ihave Htk := (toks_around (F := F)) $$ Htok
  iapply (with_rec (F := F) (R := Rec I))
  isplitr
  · iexact Hrec
  · iapply (Entails.of_eq (bigSep_sep' Finset.univ (fun c : Dev nD => iprop(atPos ER (barC c) 0 ∅ 0 ∗ Kinds c fun g => atPos ER g 0 ∅ 0)) (payToks (F := F))).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The launch credit -/

theorem bar_eq {a b : Dev nD} (h : barC a = barC b) : a = b := congrArg (fun g : GSem nD τ sig => g.1.1) h
theorem dma_eq {a b : Dev nD} {p q : DmaSem sig} (h : dmaC a p = dmaC b q) : a = b ∧ p.val = q.val :=
  ⟨congrArg (fun g : GSem nD τ sig => g.1.1) h, congrArg (fun g : GSem nD τ sig => match g.2 with | .reg _ => 0 | .dma q => q.val) h⟩
theorem bar_ne_dma {a b : Dev nD} {q : DmaSem sig} (h : barC a = dmaC b q) : False := reg_ne_dma (congrArg Prod.snd h)

theorem sum_one {S : Finset (Dev nD)} {Gd : Dev nD → GSem nD τ sig} {n : ℕ} (g : GSem nD τ sig) (c : Dev nD) (hc : Gd c = g) (hG : ∀ d, Gd d = g → d = c) :
    (∑ d ∈ S, tallyAt (Gd d) () n : CellTallies nD τ sig Unit) g () = if c ∈ S then n else 0 := by
  rw [sum_apply']
  have e (d : Dev nD) : (tallyAt (Gd d) () n : CellTallies nD τ sig Unit) g () = if c = d then n else 0 := by
    rw [tallyAt_apply]
    by_cases h : c = d
    · subst h; rw [if_pos ⟨hc.symm, rfl⟩, if_pos rfl]
    · rw [if_neg (fun h' => h (hG d h'.1.symm).symm), if_neg h]
  rw [Finset.sum_congr rfl fun d _ => e d, Finset.sum_ite_eq]
theorem sum_none {S : Finset (Dev nD)} {Gd : Dev nD → GSem nD τ sig} {n : ℕ} (g : GSem nD τ sig) (hG : ∀ d, Gd d ≠ g) :
    (∑ d ∈ S, tallyAt (Gd d) () n : CellTallies nD τ sig Unit) g () = 0 := by
  rw [sum_apply']
  exact Finset.sum_eq_zero fun d _ => by rw [tallyAt_apply, if_neg (fun h => hG d h.1.symm)]

theorem owed_bar (d c : Dev nD) : O₀ d (barC c) () = if c = d then 0 else 1 := by
  unfold O₀ Ow tB t1 t2
  rw [Pi.add_apply, Finsupp.add_apply, Pi.add_apply, Finsupp.add_apply, sum_one (barC c) c rfl (fun d h => bar_eq h),
    sum_none (barC c) (fun d h => bar_ne_dma h.symm), sum_none (barC c) (fun d h => bar_ne_dma h.symm)]
  by_cases h : c = d
  · rw [if_pos h, if_neg (fun h' => (Finset.mem_erase.mp h').1 h)]
  · rw [if_neg h, if_pos (Finset.mem_erase.mpr ⟨h, Finset.mem_univ _⟩)]
theorem owed_r1 (d c s : Dev nD) (hs : s ≠ c) : O₀ d (dmaC c (r1q s)) () = if s = d then 2048 else 0 := by
  unfold O₀ Ow tB t1 t2
  rw [Pi.add_apply, Finsupp.add_apply, Pi.add_apply, Finsupp.add_apply, sum_none (dmaC c (r1q s)) (fun d h => bar_ne_dma h),
    sum_none (Gd := fun e => dmaC e (r2q d)) (dmaC c (r1q s)) (fun e h => by have h' : 67 + d.val = 51 + s.val := (dma_eq h).2; have h2 : s.val < 16 := s.isLt; omega)]
  by_cases h : s = d
  · subst h
    rw [sum_one (Gd := fun e => dmaC e (r1q s)) (dmaC c (r1q s)) c rfl (fun e h => (dma_eq h).1), if_pos rfl, if_pos (Finset.mem_erase.mpr ⟨fun h => hs h.symm, Finset.mem_univ _⟩)]
  · rw [sum_none (Gd := fun e => dmaC e (r1q d)) (dmaC c (r1q s)) (fun e h' => h (Fin.ext (by have h2 : 51 + d.val = 51 + s.val := (dma_eq h').2; omega))), if_neg h]
theorem owed_r2 (d c s : Dev nD) (hs : s ≠ c) : O₀ d (dmaC c (r2q s)) () = if s = d then 2048 else 0 := by
  unfold O₀ Ow tB t1 t2
  rw [Pi.add_apply, Finsupp.add_apply, Pi.add_apply, Finsupp.add_apply, sum_none (dmaC c (r2q s)) (fun d h => bar_ne_dma h),
    sum_none (Gd := fun e => dmaC e (r1q d)) (dmaC c (r2q s)) (fun e h => by have h' : 51 + d.val = 67 + s.val := (dma_eq h).2; have h2 : d.val < 16 := d.isLt; omega)]
  by_cases h : s = d
  · subst h
    rw [sum_one (Gd := fun e => dmaC e (r2q s)) (dmaC c (r2q s)) c rfl (fun e h => (dma_eq h).1), if_pos rfl, if_pos (Finset.mem_erase.mpr ⟨fun h => hs h.symm, Finset.mem_univ _⟩)]
  · rw [sum_none (Gd := fun e => dmaC e (r2q d)) (dmaC c (r2q s)) (fun e h' => h (Fin.ext (by have h2 : 67 + d.val = 67 + s.val := (dma_eq h').2; omega))), if_neg h]

theorem launch_bar (c : Dev nD) :
    tallyOn (barC c) (launchCredit (Pipeline.owing O₀) 0 (barC c)) = (tallyAt (barC c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_r1 (c s : Dev nD) (hs : s ≠ c) :
    tallyOn (dmaC c (r1q s)) (launchCredit (Pipeline.owing O₀) 0 (dmaC c (r1q s))) = (tallyAt (dmaC c (r1q s)) () 2048 : CellTallies nD τ sig Unit) := by
  unfold tallyAt; refine congrArg _ (Finsupp.ext fun u => ?_); cases u
  rw [Pipeline.launchCredit_owing, Finsupp.single_eq_same, Finset.sum_congr rfl fun d _ => owed_r1 d c s hs, Finset.sum_ite_eq, if_pos (Finset.mem_univ _)]
theorem launch_r2 (c s : Dev nD) (hs : s ≠ c) :
    tallyOn (dmaC c (r2q s)) (launchCredit (Pipeline.owing O₀) 0 (dmaC c (r2q s))) = (tallyAt (dmaC c (r2q s)) () 2048 : CellTallies nD τ sig Unit) := by
  unfold tallyAt; refine congrArg _ (Finsupp.ext fun u => ?_); cases u
  rw [Pipeline.launchCredit_owing, Finsupp.single_eq_same, Finset.sum_congr rfl fun d _ => owed_r2 d c s hs, Finset.sum_ite_eq, if_pos (Finset.mem_univ _)]

/-- The semaphores a device is credited for at launch. -/
def credSem : Unit ⊕ (Fin 16 ⊕ Fin 16) → SemLoc sig
  | .inl _ => .reg barS
  | .inr (.inl s) => .dma (r1q s)
  | .inr (.inr s) => .dma (r2q s)
theorem credSem_injective : Function.Injective credSem := by
  have num (a b : DmaSem sig) (h : SemLoc.dma a = SemLoc.dma b) : a.val = b.val := congrArg (fun s : SemLoc sig => match s with | .reg _ => 0 | .dma q => q.val) h
  rintro (_ | s | s) (_ | t | t) h
  · rfl
  · exact (reg_ne_dma (q := r1q t) h).elim
  · exact (reg_ne_dma (q := r2q t) h).elim
  · exact (reg_ne_dma (q := r1q s) h.symm).elim
  · have h1 : 51 + s.val = 51 + t.val := num _ _ h
    exact congrArg (fun x => Sum.inr (Sum.inl x)) (Fin.ext (by omega))
  · have h1 : 51 + s.val = 67 + t.val := num _ _ h
    have := s.isLt; omega
  · exact (reg_ne_dma (q := r2q s) h.symm).elim
  · have h1 : 67 + s.val = 51 + t.val := num _ _ h
    have := t.isLt; omega
  · have h1 : 67 + s.val = 67 + t.val := num _ _ h
    exact congrArg (fun x => Sum.inr (Sum.inr x)) (Fin.ext (by omega))

theorem creds (c : Dev nD) :
    (Pipeline.launchCred O₀ c : sProp 𝕄) ⊢ iprop(cred (tallyAt (barC c) () 15) ∗ (bigSep (oth c) (fun s : Dev nD => cred (tallyAt (dmaC c (r1q s)) () 2048))
      ∗ bigSep (oth c) (fun s : Dev nD => cred (tallyAt (dmaC c (r2q s)) () 2048)))) := by
  unfold Pipeline.launchCred
  refine (bigSep_subset (Finset.subset_univ (Finset.univ.map ⟨credSem, credSem_injective⟩))).trans ?_
  rw [bigSep_map, bigSep_univ_sum, bigSep_univ_sum]
  refine BI.sep_mono ?_ (BI.sep_mono ?_ ?_)
  · refine (bigSep_elim (Finset.mem_univ ())).trans ?_
    show Idealize.SL.BI.Entails (cred (tallyOn (barC c) (launchCredit (Pipeline.owing O₀) 0 (barC c))) : sProp 𝕄) _
    rw [launch_bar]
  · refine (bigSep_subset (Finset.subset_univ (oth c))).trans (bigSep_mono fun s hs => ?_)
    show Idealize.SL.BI.Entails (cred (tallyOn (dmaC c (r1q s)) (launchCredit (Pipeline.owing O₀) 0 (dmaC c (r1q s)))) : sProp 𝕄) _
    rw [launch_r1 c s (Finset.mem_erase.mp hs).1]
  · refine (bigSep_subset (Finset.subset_univ (oth c))).trans (bigSep_mono fun s hs => ?_)
    show Idealize.SL.BI.Entails (cred (tallyOn (dmaC c (r2q s)) (launchCredit (Pipeline.owing O₀) 0 (dmaC c (r2q s)))) : sProp 𝕄) _
    rw [launch_r2 c s (Finset.mem_erase.mp hs).1]

end Cert.KernelIdeal.Attn

end
-- ==== Proof.Ends.lean ====
/-
# A device's start and end
-/
module

public import proofs.«01_k».proof.Proof.Body
public import proofs.«01_k».proof.Proof.Deal

@[expose] public section

set_option maxRecDepth 16384

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Ins F)

/-! ## What the launch deals a device -/

abbrev Dead (c : Dev nD) : sProp 𝕄 := iprop(semVal (dmaC c (s1q c)) 0 ∗ (semVal (dmaC c (r1q c)) 0 ∗ semVal (dmaC c (r2q c)) 0))
abbrev r1Pos (c s : Dev nD) : sProp 𝕄 := atPos ER (dmaC c (r1q s)) 0 ∅ 0
abbrev r2Pos (c s : Dev nD) : sProp 𝕄 := atPos ER (dmaC c (r2q s)) 0 ∅ 0
/-- The positions of the cells that are paid. -/
abbrev Pos (c : Dev nD) : sProp 𝕄 :=
  iprop(atPos ER (barC c) 0 ∅ 0 ∗ (bigSep Finset.univ (kPos (F := F) c) ∗ (bigSep Finset.univ (vPos (F := F) c) ∗ (bigSep (oth c) (s1Pos (F := F) c)
    ∗ (bigSep Finset.univ (s2Pos (F := F) c) ∗ (bigSep (oth c) (r1Pos (F := F) c) ∗ bigSep (oth c) (r2Pos (F := F) c)))))))
abbrev Ghost (c : Dev nD) : sProp 𝕄 := iprop(Rec I ∗ (Dead (F := F) c ∗ (Pos (F := F) c ∗ payToks (F := F) c)))

theorem close_dead (c : Dev nD) (q : DmaSem sig) (hq : 4 ≤ q.val) (h : (kind q).live c = false) :
    iprop(Rec I ∗ atPos ER (dmaC c q) 0 ∅ 0) ⊢ (|={Set.univ}=> semVal (dmaC c q) 0 : sProp 𝕄) := by
  iintro ⟨#HR, Ha⟩
  icases (rec_dma I c q hq) $$ HR with ⟨%κ, #Hi, -⟩
  iapply (Rounds.cell_close ER (Rd I) (Set.mem_univ κ) (fun h => h) (R := 0) (duties_dead I h))
  isplitr; · iexact Hi
  iexact Ha

theorem open_dead (c : Dev nD) : G' I c ⊢ (|={Set.univ}=> Ghost I c : sProp 𝕄) := by
  unfold G'
  iintro ⟨#HR, ⟨Hb, Hk, Hv, H1, H2, H3, H4⟩, Ht⟩
  ihave H1 := (Entails.of_eq (takeF (Finset.mem_univ c) (s1Pos (F := F) c))) $$ H1
  ihave H3 := (Entails.of_eq (takeF (Finset.mem_univ c) (r1Pos (F := F) c))) $$ H3
  ihave H4 := (Entails.of_eq (takeF (Finset.mem_univ c) (r2Pos (F := F) c))) $$ H4
  icases H1 with ⟨D1, H1⟩
  icases H3 with ⟨D3, H3⟩
  icases H4 with ⟨D4, H4⟩
  imod (close_dead I c (s1q c) (by show 4 ≤ 20 + c.val; omega) (by rw [kind_s1]; simp [Kind.live])) $$ [D1] with D1
  · isplitr; · iexact HR
    iexact D1
  imod (close_dead I c (r1q c) (by show 4 ≤ 51 + c.val; omega) (by rw [kind_r1]; simp [Kind.live])) $$ [D3] with D3
  · isplitr; · iexact HR
    iexact D3
  imod (close_dead I c (r2q c) (by show 4 ≤ 67 + c.val; omega) (by rw [kind_r2]; simp [Kind.live])) $$ [D4] with D4
  · isplitr; · iexact HR
    iexact D4
  imodintro
  isplitr; · iexact HR
  isplitl [D1 D3 D4]
  · isplitl [D1]; · iexact D1
    isplitl [D3]; · iexact D3
    iexact D4
  isplitl [Hb Hk Hv H1 H2 H3 H4]
  · isplitl [Hb]; · iexact Hb
    isplitl [Hk]; · iexact Hk
    isplitl [Hv]; · iexact Hv
    isplitl [H1]; · iexact H1
    isplitl [H2]; · iexact H2
    isplitl [H3]; · iexact H3
    iexact H4
  iexact Ht

/-! ## The start -/

abbrev Scr (c : Dev nD) : sProp 𝕄 :=
  iprop((∃ f : Vec F S256x1024 .f32, qP c f) ∗ (∃ f : Vec F S256x4096 .f32, biP c f) ∗ (∃ f : Vec F S256x1024 .f32, cxP c f)
    ∗ (∃ f : Vec F S4096x1024 .f32, kaP c Finset.univ f) ∗ (∃ f : Vec F S4096x1024 .f32, vaP c Finset.univ f) ∗ (∃ f : Vec F S16x16x1024 .f32, rbP c Finset.univ f))
abbrev Creds (c : Dev nD) : sProp 𝕄 :=
  iprop(cred (tallyAt (barC c) () 15) ∗ (bigSep (oth c) (fun s : Dev nD => cred (tallyAt (dmaC c (r1q s)) () 2048))
      ∗ bigSep (oth c) (fun s : Dev nD => cred (tallyAt (dmaC c (r2q s)) () 2048))))
/-- What a device brings to the kernel besides its buffers there. -/
abbrev Xs (c : Dev nD) : sProp 𝕄 := iprop(Ghost I c ∗ (levAts L lv ∗ (Creds (F := F) c ∗ (kP c Finset.univ (I.k c) ∗ vP c Finset.univ (I.v c)))))
abbrev Stg (c : Dev nD) : sProp 𝕄 := iprop(xP c (I.x c) ∗ (wqP c (I.wq c) ∗ (woP c (I.wo c) ∗ ∃ f, ouP (F := F) c Finset.univ fullShare f)))
/-- What lies by while the kernel runs. -/
abbrev Keep (c : Dev nD) : sProp 𝕄 :=
  iprop((∃ f, rbP (F := F) c (slotM c).view.set f) ∗ (kP c (kRest c) (I.k c) ∗ (vP c (vRest c) (I.v c) ∗ Dead (F := F) c)))

theorem some_rb (d c : Dev nD) (f : Vec F S16x16x1024 .f32) : rbP c (slotM d).view.set f ⊢ barPay (F := F) d c := by
  unfold barPay
  iintro H; iexists f; iexact H
theorem some_k (c : Dev nD) (h : Fin 8) (f : Vec F S4096x1024 .f32) :
    iprop(kaP c (kcolM h).view.set f ∗ (kP c (kheadM c h).view.set (I.k c) ∗ dutyTok ER (dmaC c (kq h)) 0 0)) ⊢ kSrc I c h := by
  unfold kSrc
  iintro ⟨H, H'⟩
  isplitl [H]; · iexists f; iexact H
  iexact H'
theorem some_v (c : Dev nD) (h : Fin 8) (f : Vec F S4096x1024 .f32) :
    iprop(vaP c (vcolM h).view.set f ∗ (vP c (vheadM c h).view.set (I.v c) ∗ dutyTok ER (dmaC c (vq h)) 0 0)) ⊢ vSrc I c h := by
  unfold vSrc
  iintro ⟨H, H'⟩
  isplitl [H]; · iexists f; iexact H
  iexact H'
theorem r1_wait (c s : Dev nD) : (iprop(cred (tallyAt (dmaC c (r1q s)) () 2048) ∗ r1Pos (F := F) c s) : sProp 𝕄) ⊢ r1Wait (F := F) c s := by
  unfold r1Wait
  exact BI.Entails.refl _
theorem r2_wait (c s : Dev nD) : (iprop(cred (tallyAt (dmaC c (r2q s)) () 2048) ∗ r2Pos (F := F) c s) : sProp 𝕄) ⊢ r2Wait (F := F) c s := by
  unfold r2Wait
  exact BI.Entails.refl _

theorem sig_in (c : Dev nD) : (iprop((Rec I ∗ levAts L lv ∗ ∃ W, owes (c : Thread nD τ) (O₀ c) W)
    ∗ (bigSep (oth c) (fun d : Dev nD => dutyTok ER (barC d) 0 c) ∗ bigSep (oth c) fun d : Dev nD => barPay (F := F) d c)) : sProp 𝕄) ⊢ SigSt I c 1 := by
  unfold SigSt Own
  rw [rest_one (fwd_enum c)]
  iintro ⟨HO, Hd⟩
  isplitl [HO]; · iexact HO
  iapply (sep_join (oth c) (fun d : Dev nD => dutyTok ER (barC d) 0 c) (fun d : Dev nD => barPay (F := F) d c))
  iexact Hd

theorem k_in (c : Dev nD) (f : Vec F S4096x1024 .f32) : (iprop(kaP c Finset.univ f ∗ ((bigSep Finset.univ fun h : Fin 8 => kP c (kheadM c h).view.set (I.k c))
    ∗ bigSep Finset.univ fun h : Fin 8 => dutyTok ER (dmaC c (kq h)) 0 0)) : sProp 𝕄) ⊢ bigSep Finset.univ (kSrc I c) := by
  rw [all_kcols, ← bigSep_sep', ← bigSep_sep']
  exact bigSep_mono fun h _ => some_k I c h f
theorem v_in (c : Dev nD) (f : Vec F S4096x1024 .f32) : (iprop(vaP c Finset.univ f ∗ ((bigSep Finset.univ fun h : Fin 8 => vP c (vheadM c h).view.set (I.v c))
    ∗ bigSep Finset.univ fun h : Fin 8 => dutyTok ER (dmaC c (vq h)) 0 0)) : sProp 𝕄) ⊢ bigSep Finset.univ (vSrc I c) := by
  rw [all_vcols, ← bigSep_sep', ← bigSep_sep']
  exact bigSep_mono fun h _ => some_v I c h f
theorem cp_in (c : Dev nD) : (iprop(Rec I ∗ (bigSep Finset.univ (kSrc I c) ∗ bigSep Finset.univ (vSrc I c))) : sProp 𝕄) ⊢ CpSt I c 0 0 := by
  unfold CpSt
  rw [from_zero, upto_zero, bigSep_empty, bigSep_empty]
  iintro ⟨HR, Hk, Hv⟩
  isplitl [HR]; · iexact HR
  isplitl [Hk]
  · isplitl [Hk]; · iexact Hk
    iempintro
  isplitl [Hv]; · iexact Hv
  iempintro

theorem oth_of (c : Dev nD) (Φ : Dev nD → sProp 𝕄) : bigSep Finset.univ Φ ⊢ bigSep (oth c) Φ := bigSep_subset (Finset.subset_univ _)
theorem wait1_in (c : Dev nD) : (iprop(bigSep (oth c) (fun s : Dev nD => cred (tallyAt (dmaC c (r1q s)) () 2048)) ∗ bigSep (oth c) (r1Pos (F := F) c)) : sProp 𝕄)
    ⊢ bigSep (oth c) (r1Wait (F := F) c) := by
  rw [← bigSep_sep']
  exact bigSep_mono fun s _ => r1_wait c s
theorem wait2_in (c : Dev nD) : (iprop(bigSep (oth c) (fun s : Dev nD => cred (tallyAt (dmaC c (r2q s)) () 2048)) ∗ bigSep (oth c) (r2Pos (F := F) c)) : sProp 𝕄)
    ⊢ bigSep (oth c) (r2Wait (F := F) c) := by
  rw [← bigSep_sep']
  exact bigSep_mono fun s _ => r2_wait c s
theorem slots_pay (c : Dev nD) (f : Vec F S16x16x1024 .f32) : (bigSep (oth c) (fun s : Dev nD => rbP c (slotM s).view.set f) : sProp 𝕄) ⊢ bigSep (oth c) fun d : Dev nD => barPay (F := F) d c :=
  bigSep_mono fun s _ => some_rb s c f
theorem slots_in (c : Dev nD) (f : Vec F S16x16x1024 .f32) : (rbP c Finset.univ f : sProp 𝕄)
    ⊢ iprop((∃ f, rbP (F := F) c (slotM c).view.set f) ∗ bigSep (oth c) fun d : Dev nD => barPay (F := F) d c) := by
  rw [all_slots, takeF (Finset.mem_univ c) (fun s : Dev nD => rbP c (slotM s).view.set f)]
  iintro ⟨H, HS⟩
  isplitl [H]; · iexists f; iexact H
  iapply (slots_pay c f)
  iexact HS
theorem out_in (c : Dev nD) (f : Vec F S256x1024 .f32) : (ouP c Finset.univ fullShare f : sProp 𝕄) ⊢ iprop(ouAny (F := F) c 0 ∗ ouAny (F := F) c 1) := by
  rw [all_halves]
  iintro ⟨H0, H1⟩
  isplitl [H0]; · iexists f; iexact H0
  iexists f; iexact H1

theorem begin_run (c : Dev nD) : (iprop(Xs I c ∗ ((∃ W, owes (c : Thread nD τ) (O₀ c) W) ∗ (Scr (F := F) c ∗ Stg I c))) : sProp 𝕄) ⊢ iprop(Start I c ∗ Keep I c) := by
  iintro ⟨⟨⟨#HR, HD, ⟨Pb, Pk, Pv, P1, P2, P3, P4⟩, Tb, T1, T2, T3, T4, Tk, Tv⟩, #HL, ⟨Cb, C1, C2⟩, HK, HV⟩, HO,
    ⟨Hq, Hbi, Hcx, ⟨%fk, Hka⟩, ⟨%fv, Hva⟩, ⟨%fr, Hrb⟩⟩, Hx, Hwq, Hwo, ⟨%fo, Hou⟩⟩
  ihave HK := (Entails.of_eq (all_kheads c (I.k c))) $$ HK
  ihave HV := (Entails.of_eq (all_vheads c (I.v c))) $$ HV
  icases HK with ⟨HK, HKr⟩
  icases HV with ⟨HV, HVr⟩
  icases (slots_in c fr) $$ Hrb with ⟨Hown, Hsl⟩
  icases (out_in c fo) $$ Hou with ⟨Ho0, Ho1⟩
  ihave Tb := (oth_of c fun d : Dev nD => dutyTok ER (barC d) 0 c) $$ Tb
  ihave T1 := (oth_of c fun d : Dev nD => dutyTok ER (dmaC d (r1q c)) 0 0) $$ T1
  ihave T2 := (oth_of c fun d : Dev nD => dutyTok ER (dmaC d (r2q c)) 0 0) $$ T2
  ihave T3 := (oth_of c fun d : Dev nD => dutyTok ER (dmaC c (s1q d)) 0 0) $$ T3
  isplitr [HD Hown HKr HVr]
  · isplitl [HO Tb Hsl]
    · iapply (sig_in I c)
      isplitl [HO]
      · isplitr; · iexact HR
        isplitr; · iexact HL
        iexact HO
      isplitl [Tb]; · iexact Tb
      iexact Hsl
    isplitl [Cb Pb Hka HK Tk Hva HV Tv]
    · isplitl [Cb Pb]
      · isplitl [Cb]; · iexact Cb
        iexact Pb
      iapply (cp_in I c)
      isplitr; · iexact HR
      isplitl [Hka HK Tk]
      · iapply (k_in I c fk)
        isplitl [Hka]; · iexact Hka
        isplitl [HK]; · iexact HK
        iexact Tk
      iapply (v_in I c fv)
      isplitl [Hva]; · iexact Hva
      isplitl [HV]; · iexact HV
      iexact Tv
    isplitl [Hx Hwq Hq]
    · isplitl [Hx]; · iexact Hx
      isplitl [Hwq]; · iexact Hwq
      iexact Hq
    isplitl [Hbi]; · iexact Hbi
    isplitl [Pk Pv]
    · isplitl [Pk]; · iexact Pk
      iexact Pv
    isplitl [Hcx]; · iexact Hcx
    isplitl [Hwo]; · iexact Hwo
    isplitl [Ho0]; · iexact Ho0
    isplitl [T1 T3]
    · iapply (sep_join (oth c) (fun d : Dev nD => dutyTok ER (dmaC d (r1q c)) 0 0) (fun d : Dev nD => dutyTok ER (dmaC c (s1q d)) 0 0))
      isplitl [T1]; · iexact T1
      iexact T3
    isplitl [Ho1]; · iexact Ho1
    isplitl [C1 P3]
    · iapply (wait1_in c)
      isplitl [C1]; · iexact C1
      iexact P3
    isplitl [T2 T4]
    · isplitl [T2]; · iexact T2
      iexact T4
    isplitl [C2 P4]
    · iapply (wait2_in c)
      isplitl [C2]; · iexact C2
      iexact P4
    isplitl [P1]; · iexact P1
    iexact P2
  isplitl [Hown]; · iexact Hown
  isplitl [HKr]; · iexact HKr
  isplitl [HVr]; · iexact HVr
  iexact HD

/-! ## The end -/

theorem k_out (c : Dev nD) : KW I c 8 ⊢ (iprop((bigSep Finset.univ fun h : Fin 8 => semVal (dmaC c (kq h)) 0) ∗ (kaP c Finset.univ (kaC I c)
    ∗ bigSep Finset.univ fun h : Fin 8 => kP c (kheadM c h).view.set (I.k c))) : sProp 𝕄) := by
  unfold KW
  rw [from_end, upto_end, bigSep_empty, all_kcols, ← bigSep_sep', ← bigSep_sep']
  iintro ⟨-, H⟩
  iexact H
theorem v_out (c : Dev nD) : VW I c 8 ⊢ (iprop((bigSep Finset.univ fun h : Fin 8 => semVal (dmaC c (vq h)) 0) ∗ (vaP c Finset.univ (vaC I c)
    ∗ bigSep Finset.univ fun h : Fin 8 => vP c (vheadM c h).view.set (I.v c))) : sProp 𝕄) := by
  unfold VW
  rw [from_end, upto_end, bigSep_empty, all_vcols, ← bigSep_sep', ← bigSep_sep']
  iintro ⟨-, H⟩
  iexact H

/-- The receive buffer at the end: the blocks received, and its own slot untouched. -/
def rbEnd (c : Dev nD) (f : Vec F S16x16x1024 .f32) : Vec F S16x16x1024 .f32 := fun i => if i ∈ (slotM c).view.set then f i else rbC I c i
theorem rb_other (c s : Dev nD) (hs : s ≠ c) (f : Vec F S16x16x1024 .f32) : (rbP c (slotM s).view.set (rbC I c) : sProp 𝕄) = rbP c (slotM s).view.set (rbEnd I c f) :=
  pointsTo_congr fun i hi => (if_neg (slot_disj s c hs i hi)).symm
theorem rb_own (c : Dev nD) (f : Vec F S16x16x1024 .f32) : (rbP c (slotM c).view.set f : sProp 𝕄) = rbP c (slotM c).view.set (rbEnd I c f) :=
  pointsTo_congr fun i hi => (if_pos hi).symm
theorem rb_out (c : Dev nD) (f : Vec F S16x16x1024 .f32) : (iprop(rbP c (slotM c).view.set f ∗ bigSep (oth c) fun s : Dev nD => rbP c (slotM s).view.set (rbC I c)) : sProp 𝕄)
    = rbP c Finset.univ (rbEnd I c f) := by
  rw [all_slots, takeF (Finset.mem_univ c) (fun s : Dev nD => rbP c (slotM s).view.set (rbEnd I c f)), rb_own I c f,
    bigSep_congr fun s hs => rb_other I c s (Finset.mem_erase.mp hs).1 f]
theorem out_out (c : Dev nD) : (iprop((bigSep Finset.univ fun i : Fin 15 => ouP c (chunkM c).view.set (shr i) (foC I)) ∗ bigSep (oth c) fun s : Dev nD => ouP c (chunkM s).view.set fullShare (foC I)) : sProp 𝕄)
    = ouP c Finset.univ fullShare (foC I) := by
  rw [all_chunks, takeF (Finset.mem_univ c) (fun s : Dev nD => ouP c (chunkM s).view.set fullShare (foC I)), chunk_shares]

theorem r2_split (c : Dev nD) : bigSep (oth c) (r2Got I c) ⊢ (iprop(bigSep (oth c) (fun s : Dev nD => semVal (dmaC c (r2q s)) 0) ∗ bigSep (oth c) fun s : Dev nD => ouP c (chunkM s).view.set fullShare (foC I)) : sProp 𝕄) :=
  sep_split (oth c) (fun s : Dev nD => semVal (dmaC c (r2q s)) 0) (fun s : Dev nD => ouP c (chunkM s).view.set fullShare (foC I))
theorem s2_split (c : Dev nD) : bigSep Finset.univ (s2Got I c) ⊢ (iprop(bigSep Finset.univ (fun i : Fin 15 => semVal (dmaC c (s2q i)) 0) ∗ bigSep Finset.univ fun i : Fin 15 => ouP c (chunkM c).view.set (shr i) (foC I)) : sProp 𝕄) :=
  sep_split Finset.univ (fun i : Fin 15 => semVal (dmaC c (s2q i)) 0) (fun i : Fin 15 => ouP c (chunkM c).view.set (shr i) (foC I))

abbrev Done (c : Dev nD) : sProp 𝕄 :=
  iprop((semVal (barC c) 0 ∗ Kinds c fun g => semVal g 0) ∗ (kP c Finset.univ (I.k c) ∗ vP c Finset.univ (I.v c)))

theorem end_run (c : Dev nD) : (iprop((W2 I c 15 ∗ Left I c) ∗ Keep I c) : sProp 𝕄)
    ⊢ iprop((Done I c ∗ Scr (F := F) c) ∗ ((∃ W, owes (c : Thread nD τ) 0 W) ∗ (xP c (I.x c) ∗ (wqP c (I.wq c) ∗ (woP c (I.wo c) ∗ ouP c Finset.univ fullShare (foC I)))))) := by
  unfold W2 Own Left Left1 Kept CX
  rw [from_end, upto_end, bigSep_empty, Ow_empty]
  iintro ⟨⟨⟨⟨-, -, HO⟩, -, H2⟩, H1, H4, H3, ⟨HKW, HVW, Hq, Hbi, ⟨%fc, -, Hcx⟩, Hwo⟩, Hx, Hwq, Hb⟩, ⟨%fr, Hrb⟩, HKr, HVr, D1, D3, D4⟩
  icases (k_out I c) $$ HKW with ⟨Sk, Hka, HK⟩
  icases (v_out I c) $$ HVW with ⟨Sv, Hva, HV⟩
  icases (sep_split (oth c) (fun s : Dev nD => semVal (dmaC c (r1q s)) 0) (fun s : Dev nD => rbP c (slotM s).view.set (rbC I c))) $$ H3 with ⟨S3, Hsl⟩
  icases (r2_split I c) $$ H4 with ⟨S4, Hch⟩
  icases (s2_split I c) $$ H2 with ⟨S2, Hsh⟩
  isplitr [HO Hx Hwq Hwo Hsh Hch]
  · isplitr [Hq Hbi Hcx Hka Hva Hrb Hsl]
    · isplitr [HK HKr HV HVr]
      · isplitl [Hb]; · iexact Hb
        isplitl [Sk]; · iexact Sk
        isplitl [Sv]; · iexact Sv
        isplitl [H1 D1]
        · iapply (Entails.of_eq (takeF (Finset.mem_univ c) (fun s : Dev nD => semVal (dmaC c (s1q s)) 0)).symm)
          isplitl [D1]; · iexact D1
          iexact H1
        isplitl [S2]; · iexact S2
        isplitl [S3 D3]
        · iapply (Entails.of_eq (takeF (Finset.mem_univ c) (fun s : Dev nD => semVal (dmaC c (r1q s)) 0)).symm)
          isplitl [D3]; · iexact D3
          iexact S3
        iapply (Entails.of_eq (takeF (Finset.mem_univ c) (fun s : Dev nD => semVal (dmaC c (r2q s)) 0)).symm)
        isplitl [D4]; · iexact D4
        iexact S4
      isplitl [HK HKr]
      · iapply (Entails.of_eq (all_kheads c (I.k c)).symm)
        isplitl [HK]; · iexact HK
        iexact HKr
      iapply (Entails.of_eq (all_vheads c (I.v c)).symm)
      isplitl [HV]; · iexact HV
      iexact HVr
    isplitl [Hq]; · iexists _; iexact Hq
    isplitl [Hbi]; · iexists _; iexact Hbi
    isplitl [Hcx]; · iexists _; iexact Hcx
    isplitl [Hka]; · iexists _; iexact Hka
    isplitl [Hva]; · iexists _; iexact Hva
    iexists (rbEnd I c fr)
    iapply (Entails.of_eq (rb_out I c fr))
    isplitl [Hrb]; · iexact Hrb
    iexact Hsl
  isplitl [HO]; · iexact HO
  isplitl [Hx]; · iexact Hx
  isplitl [Hwq]; · iexact Hwq
  isplitl [Hwo]; · iexact Hwo
  iapply (Entails.of_eq (out_out I c))
  isplitl [Hsh]; · iexact Hsh
  iexact Hch

end Cert.KernelIdeal.Attn

end
-- ==== Proof.Launch.lean ====
/-
# The run of the sixteen kernels
-/
module

public import proofs.«01_k».proof.Proof.Ends
public import proofs.«01_k».proof.Proof.Gen.KernelIdeal.Frame
public import Idealize.ShloMosaic.Lib.Pipeline.Kit
public import Idealize.ShloMosaic.Lib.Pipeline.CollectiveSegs

@[expose] public section

set_option maxRecDepth 16384

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Ins F)

variable (m : (ℓ : Loc nD τ sig) → Buf (Elt F) ℓ) (ρ : Dev nD → PrngReg)

/-- What each device is launched on: the staged blocks and the cached keys and values. -/
def insM : Ins F where
  x c := iblk m c 0 t0_0
  wq c := iblk m c 1 t0_0
  k c := m ((c : Thread nD τ).loc main_arg2)
  v c := m ((c : Thread nD τ).loc main_arg3)
  wo c := iblk m c 2 t0_0

/-- Before the kernel and after it. -/
def Φ₀ (c : Dev nD) : sProp 𝕄 := iprop(Xs (insM m) c ∗ Scr (F := F) c)
def Φ₁ (c : Dev nD) : sProp 𝕄 := iprop(Done (insM m) c ∗ Scr (F := F) c)

def dats (_ : Fin 1) (c : Dev nD) : Dat τ (Elt F) Unit ℕ UU ℕ cfg0 c where
  A w := m ((cfg0.win w).arr.view.loc (c : Thread nD τ))
  after w _ := match w with
    | ⟨0, _⟩ => (insM m).x c
    | ⟨1, _⟩ => (insM m).wq c
    | ⟨2, _⟩ => (insM m).wo c
    | ⟨3, _⟩ => foC (insM m)
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def bodyPost (c : Dev nD) : sProp 𝕄 :=
  iprop(Φ₁ m c ∗ (dats m 0 c).owesAt () t0_0.succ ∗ stg c cc0_stg0_0 ((insM m).x c) ∗ stg c cc0_stg1_0 ((insM m).wq c)
    ∗ stg c cc0_stg2_0 ((insM m).wo c) ∗ stg c cc0_stg3_0 (foC (insM m)))

theorem before_x (c : Dev nD) (d) : (dats m 0 c).before (0 : Fin 4) t0_0 d = (insM m).x c := by
  unfold Dat.before; rw [if_pos (fetch0_0 t0_0)]; rfl
theorem before_wq (c : Dev nD) (d) : (dats m 0 c).before (1 : Fin 4) t0_0 d = (insM m).wq c := by
  unfold Dat.before; rw [if_pos (fetch0_1 t0_0)]; rfl
theorem before_wo (c : Dev nD) (d) : (dats m 0 c).before (2 : Fin 4) t0_0 d = (insM m).wo c := by
  unfold Dat.before; rw [if_pos (fetch0_2 t0_0)]; rfl

theorem pre_in (c : Dev nD) : bodyPre m c ⊢ iprop(Xs (insM m) c ∗ ((∃ W, owes (c : Thread nD τ) (O₀ c) W) ∗ (Scr (F := F) c ∗ Stg (insM m) c))) := by
  unfold bodyPre Φ₀ Dat.owesAt Pipeline.owesWithin
  rw [show (dats m 0 c).owed t0_0.castSucc = O₀ c from rfl]
  iintro ⟨⟨HX, HS⟩, ⟨%W, -, HO⟩, ⟨%d0, %g0, %h0, Hx⟩, ⟨%d1, %g1, %h1, Hwq⟩, ⟨%d2, %g2, %h2, Hwo⟩, ⟨%d3, %g3, -, Hou⟩⟩
  rw [before_x] at h0
  rw [before_wq] at h1
  rw [before_wo] at h2
  subst h0 h1 h2
  isplitl [HX]; · iexact HX
  isplitl [HO]; · iexists W; iexact HO
  isplitl [HS]; · iexact HS
  isplitl [Hx]; · iexact Hx
  isplitl [Hwq]; · iexact Hwq
  isplitl [Hwo]; · iexact Hwo
  iexists g3; iexact Hou
theorem post_out (c : Dev nD) : (iprop((Done (insM m) c ∗ Scr (F := F) c) ∗ ((∃ W, owes (c : Thread nD τ) 0 W)
    ∗ (xP c ((insM m).x c) ∗ (wqP c ((insM m).wq c) ∗ (woP c ((insM m).wo c) ∗ ouP c Finset.univ fullShare (foC (insM m))))))) : sProp 𝕄) ⊢ bodyPost m c := by
  unfold bodyPost Φ₁ Dat.owesAt Pipeline.owesWithin
  rw [show (dats m 0 c).owed t0_0.succ = 0 from rfl]
  iintro ⟨HD, ⟨%W, HO⟩, Hx, Hwq, Hwo, Hou⟩
  isplitl [HD]; · iexact HD
  isplitl [HO]
  · iexists W
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hou

theorem run_body (c : Dev nD) : bodyPre m c ⊢ wpc c (atA (cc0__body (F := F))) (fun _ => bodyPost m c) := by
  refine (pre_in m c).trans ((begin_run (insM m) c).trans ?_)
  iintro ⟨HS, HK⟩
  iapply (device (insM m) c (fun _ => bodyPost m c)) $$ HS
  iintro %r - HE
  iapply (post_out m c)
  iapply (end_run (insM m) c)
  isplitl [HE]; · iexact HE
  iexact HK

theorem body_obligation (c : Dev nD) : BodyObligation (dats (F := F) m 0 c) (defs₀ (F := F)) 𝒱₀ () Set.univ := fun t => by
  rw [fin_N0 t]
  rw [bigSep_W, bigSep_W]
  simp only [owns_whole_eq]
  exact run_body m c

/-! ## The launch -/

theorem ownSemFacts : Pipeline.OwnSemFacts cfg0.spec osem := by decide
theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (insM m) c)
      ⊢ (|={Set.univ}=> iprop(Xs (insM m) c ∗ emp) : sProp 𝕄) := by
  rw [Pipeline.unscopedRestP_none, unscopedRest0_eq]
  iintro ⟨⟨HK, HV⟩, HL, Hcr, -, HG⟩
  ihave Hc := (creds (F := F) c) $$ Hcr
  imod (open_dead (insM m) c) $$ HG with HG
  imodintro
  isplitl
  · isplitl [HG]; · iexact HG
    isplitl [HL]; · iexact HL
    isplitl [Hc]; · iexact Hc
    isplitl [HK]; · iexact HK
    iexact HV
  iempintro

theorem phi0_intro (c : Dev nD) :
    iprop(Xs (insM m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨HX, -, HS⟩
  isplitl [HX]; · iexact HX
  iexact HS

abbrev Ys (c : Dev nD) : sProp 𝕄 := iprop(unscopedSems0 c ∗ (kP c Finset.univ ((insM m).k c) ∗ vP c Finset.univ ((insM m).v c)))
theorem phi1_exit (c : Dev nD) :
    (dats m 0 c).Φ (Fin.last cfg0.N) ⊢ iprop(Ys m c ∗ Pipeline.ownSems0 osem c ∗ Pipeline.scopedRest cfg0.spec c) := by
  rw [show (dats m 0 c).Φ (Fin.last cfg0.N) = Φ₁ m c from rfl, scopedRest0_eq, ownSems0_eq]
  unfold Φ₁ Ys
  rw [unscopedSems0_eq]
  iintro ⟨⟨⟨HB, HK⟩, Hkv⟩, HS⟩
  isplitl [HB Hkv]
  · isplitl [HB]; · iexact HB
    iexact Hkv
  isplitl [HK]; · iexact HK
  iexact HS

theorem waits (c : Dev nD) : (levAts L lv : sProp 𝕄) ⊢ Pipeline.cellsWaits cfgs (dats m) () 0 c :=
  Pipeline.cellsWaits_intro cfgs (dats m) () 0 c fun w s t => by
    have hlev : levS (.dma (((cfgs (0 : Fin 1)).win w).sem s)) = 0 := by fin_cases w <;> fin_cases s <;> decide
    rcases t with ⟨_ | _, ht⟩
    · exact mayWait c _ _ _ _ (Or.inr (by rw [hlev]; decide)) (Or.inr (by rw [hlev]; decide)) (Or.inr (by rw [hlev]; decide))
    · show _ ⊢ MayWait _ _ _ 0
      rw [← Ow_empty c]
      exact mayWait c _ _ _ _ (Or.inl rfl) (Or.inl rfl) (Or.inl rfl)

/-! ## The run -/

def QC : PUnit × MemSt nD τ sig (Elt F) → Prop := fun r =>
  ∀ c : Dev nD, (∀ w : Fin cfg0.W, r.2.mem ((cfg0.win w).arr.view.loc (c : Thread nD τ)) = (dats m 0 c).arrAt w cfg0.N)
    ∧ r.2.mem ((c : Thread nD τ).loc main_arg2) = m ((c : Thread nD τ).loc main_arg2) ∧ r.2.mem ((c : Thread nD τ).loc main_arg3) = m ((c : Thread nD τ).loc main_arg3)

def QY (c : Dev nD) (s : MemSt nD τ sig (Elt F)) : Prop :=
  (∀ sm : SemLoc sig, sm.isScoped .tc = false → s.sem ((c : Thread nD τ), sm) = 0)
    ∧ (s.mem ((c : Thread nD τ).loc main_arg2) = m ((c : Thread nD τ).loc main_arg2) ∧ s.mem ((c : Thread nD τ).loc main_arg3) = m ((c : Thread nD τ).loc main_arg3))

theorem read_one (ℓ : Loc nD τ sig) (f : Buf (Elt F) ℓ) (s' : Phys nD τ sig (Elt F)) :
    (iprop((ℓ ↦{fullShare} f) ∗ SI s') : sProp 𝕄) ⊢ iprop(⌜s'.mem.mem ℓ = f⌝ ∗ SI s') := by
  have h := pointsTo_read_all (Ix := Unit) (Name := ℕ) (U := UU) (Lvl := ℕ) ({()} : Finset Unit) (fun _ => ℓ) (fun _ => f) s'
  rw [bigSep_singleton] at h
  refine BIBase.Entails.trans h ?_
  iintro ⟨%h, H⟩
  isplitr; · ipureintro; exact h () (Finset.mem_singleton_self _)
  iexact H

theorem read_end (c : Dev nD) (s' : Phys nD τ sig (Elt F)) : (iprop(Ys m c ∗ emp ∗ SI s') : sProp 𝕄) ⊢ |={Set.univ}=> iprop(⌜QY m c s'.mem⌝ ∗ SI s') := by
  iintro ⟨⟨Hu, HK, HV⟩, -, HSI⟩
  icases (read_one (F := F) _ _ s') $$ [HK HSI] with ⟨%hk, HSI⟩
  · isplitl [HK]; · iexact HK
    iexact HSI
  icases (read_one (F := F) _ _ s') $$ [HV HSI] with ⟨%hv, HSI⟩
  · isplitl [HV]; · iexact HV
    iexact HSI
  imod (Pipeline.unscopedSems0_read (X := unscopedSems0 c) (c := c) fupd_intro s') $$ [Hu HSI] with ⟨%hu, HSI⟩
  · isplitl [Hu]; · iexact Hu
    iexact HSI
  imodintro
  isplitr
  · ipureintro; exact ⟨hu, hk, hv⟩
  iexact HSI

/-- From any memory with zero counters, the sixteen kernels terminate: each staged array is left as the pipeline writes it back, the
    cached keys and values are unchanged, and every counter is at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (insM m)) (G' := G' (insM m)) (u₀ := u₀)
    (hu₀ := by
      unfold u₀
      iintro Hu
      ihave H := (ownU_pair _ _) $$ Hu
      icases H with ⟨HP, HX⟩
      imod (fund_ring (insM m)) $$ HX with HG
      imodintro
      isplitl [HP] <;> iassumption)
    (hglob := glob (insM m))
    (hA := fun _ _ => rfl) (hpf := fun _ k => k.elim0)
    (X := Xs (insM m)) (Y := Ys m) (Z := fun _ => iprop(emp))
    (hX := start_intro m ρ) (hin := phi0_intro m) (hout := phi1_exit m)
    (QY := QY m) (hY := read_end m)
    (hQ := fun _ h hs => ⟨fun c => ⟨fun w => (h c).1 w, (h c).2.2.2⟩, sem_eq_zero hs fun c => (h c).2.2.1⟩)

theorem frame_at (c : Dev nD) {r : PUnit × MemSt nD τ sig (Elt F)} (h : QC m r) :
    r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3)
    ∧ r.2.mem ((c : Thread nD τ).loc main_arg4) = m ((c : Thread nD τ).loc main_arg4) :=
  ⟨((h c).1 (0 : Fin 4)).trans ((dats m 0 c).arrAt_in (0 : Fin 4) rfl _), ((h c).1 (1 : Fin 4)).trans ((dats m 0 c).arrAt_in (1 : Fin 4) rfl _),
    (h c).2.1, (h c).2.2, ((h c).1 (2 : Fin 4)).trans ((dats m 0 c).arrAt_in (2 : Fin 4) rfl _)⟩

end Cert.KernelIdeal.Attn

end
-- ==== Proof.Soft.lean ====
/-
# Weights with and without the maximum taken off

Over the extended reals: a row of real scores some of which are masked, the first kept.  Dividing the weighted sum by
the sum of the exponentials gives what weighting by the shifted and divided exponentials gives, whatever the values
weighted are.
-/
module

public import Idealize.ShloMosaic.PureOps.Ideal.Laws
public import Idealize.ShloMosaic.Lib.IdealHost

@[expose] public section

noncomputable section

namespace Cert.Soft

open Idealize.ShloMosaic

variable {ι : Type} [Fintype ι] (s : ι → ℝ) (b : ι → BitVec 1) (j₀ : ι) (h₀ : b j₀ = 1#1)

theorem pick {α : Type} (c : BitVec 1) (x y : α) : Scalar.select c x y = if c = 1#1 then x else y := rfl

/-- The weight of a key: the exponential of its score, or nothing. -/
def wt (j : ι) : ℝ := if b j = 1#1 then Real.exp (s j) else 0

theorem wt_nonneg (j : ι) : 0 ≤ wt s b j := by
  unfold wt; split
  · exact (Real.exp_pos _).le
  · exact le_refl _

include h₀ in
theorem sum_pos : 0 < ∑ j, wt s b j :=
  Finset.sum_pos' (fun j _ => wt_nonneg s b j) ⟨j₀, Finset.mem_univ _, by rw [wt, if_pos h₀]; exact Real.exp_pos _⟩

theorem sum_coe (f : ι → ℝ) : (∑ j, (f j : EReal)) = ((∑ j, f j : ℝ) : EReal) := by
  induction (Finset.univ : Finset ι) using Finset.cons_induction with
  | empty => simp
  | cons a t ha ih => rw [Finset.sum_cons, Finset.sum_cons, ih, EReal.coe_add]

/-- The exponential of a score with its bias. -/
theorem exp_bias (j : ι) : Ideal.exp ((s j : EReal) + Scalar.select (b j) (0 : EReal) ⊥) = (wt s b j : EReal) := by
  rw [pick, wt]
  by_cases h : b j = 1#1
  all_goals simp only [h, if_true, if_false]
  · rw [add_zero, Ideal.exp_coe]
  · rw [EReal.add_bot, Ideal.exp_bot, EReal.coe_zero]

/-- The maximum of the masked scores is a real. -/
def top : EReal := Finset.fold max ⊥ (fun j => Scalar.select (b j) (s j : EReal) ⊥) Finset.univ

include h₀ in
theorem top_real : ∃ r : ℝ, top s b = (r : EReal) := by
  have h1 : (s j₀ : EReal) ≤ top s b := by
    refine Finset.le_fold_max _ |>.2 (.inr ⟨j₀, Finset.mem_univ _, ?_⟩)
    rw [pick, if_pos h₀]
  have h2 : top s b < ⊤ := by
    refine (Finset.fold_max_lt _).2 ⟨bot_lt_top, fun j _ => ?_⟩
    unfold Scalar.select; split
    · exact EReal.coe_lt_top _
    · exact bot_lt_top
  refine ⟨(top s b).toReal, (EReal.coe_toReal h2.ne fun h => ?_).symm⟩
  rw [h] at h1
  exact absurd (le_bot_iff.1 h1) (EReal.coe_ne_bot _)

/-- The exponential of a masked score less a real. -/
theorem exp_shift (r : ℝ) (j : ι) :
    Ideal.exp (Scalar.select (b j) (s j : EReal) ⊥ - (r : EReal)) = ((wt s b j * Real.exp (-r) : ℝ) : EReal) := by
  rw [pick, wt]
  by_cases h : b j = 1#1
  all_goals simp only [h, if_true, if_false]
  · rw [← EReal.coe_sub, Ideal.exp_coe, sub_eq_add_neg, Real.exp_add]
  · rw [EReal.bot_sub, Ideal.exp_bot, zero_mul, EReal.coe_zero]

/-- A sum times a nonnegative real. -/
theorem sum_mul_real (f : ι → EReal) {r : ℝ} (hr : 0 ≤ r) : (∑ j, f j) * (r : EReal) = ∑ j, f j * (r : EReal) := by
  induction (Finset.univ : Finset ι) using Finset.cons_induction with
  | empty => simp
  | cons a t ha ih =>
    rw [Finset.sum_cons, Finset.sum_cons, EReal.right_distrib_of_nonneg_of_ne_top (by exact_mod_cast hr) (EReal.coe_ne_top r), ih]

include h₀ in
/-- The two ways of weighting agree. -/
theorem weigh (v : ι → EReal) :
    (∑ j, Ideal.exp ((s j : EReal) + Scalar.select (b j) (0 : EReal) ⊥) * v j)
        * Ideal.div 1 (∑ j, Ideal.exp ((s j : EReal) + Scalar.select (b j) (0 : EReal) ⊥))
      = ∑ j, v j * Ideal.div (Ideal.exp (Scalar.select (b j) (s j : EReal) ⊥ - top s b))
          (∑ k, Ideal.exp (Scalar.select (b k) (s k : EReal) ⊥ - top s b)) := by
  obtain ⟨r, hr⟩ := top_real s b j₀ h₀
  have hA := sum_pos s b j₀ h₀
  have he := Real.exp_pos (-r)
  simp only [exp_bias, hr, exp_shift, sum_coe, ← Finset.sum_mul]
  rw [Ideal.div_coe hA.ne', one_mul, sum_mul_real _ (one_div_nonneg.2 hA.le)]
  refine Finset.sum_congr rfl fun j _ => ?_
  rw [Ideal.div_coe (mul_pos hA he).ne', ← EReal.coe_mul, mul_comm ((wt s b j : ℝ) : EReal), mul_assoc, ← EReal.coe_mul]
  congr 2
  field_simp

end Cert.Soft

end
-- ==== Proof.Spec.lean ====
/-
# Block-sparse attention over whole arrays

The queries, scores and block mask the kernel and the reference share, and the context each makes of them: the
kernel's divides a weighted sum at its end, the reference's weights by shifted and divided exponentials.
-/
module

public import proofs.«01_k».proof.Proof.Soft
public import Idealize.ShloMosaic.Lib.Pointwise

@[expose] public section

set_option maxRecDepth 16384

noncomputable section

namespace Cert.Spec

open Idealize.ShloMosaic

/-- Whether query block `a` sees key block `b`. -/
def sees (a b : ℕ) : BitVec 1 := BitVec.ofBool (a == b || b == 0 || (a + b) % 3 == 0)
/-- Whether row `i` sees key `j`. -/
def seen (i : Fin 256) (j : Fin 4096) : BitVec 1 := sees (i.val / 64) (j.val / 64)

theorem sees_zero (a : ℕ) : sees a 0 = 1#1 := by
  unfold sees; simp
theorem seen_zero (i : Fin 256) : seen i 0 = 1#1 := sees_zero _

variable (X : Vec Ideal ⟨2, ![256, 1024]⟩ .f32) (W : Vec Ideal ⟨2, ![1024, 16384]⟩ .f32)
  (K V : Vec Ideal ⟨4, ![1, 4096, 128, 128]⟩ .f32) (O : Vec Ideal ⟨2, ![16384, 1024]⟩ .f32)

theorem lane_lt (h d : Fin 128) : h.val * 128 + d.val < 16384 := by omega

/-- The projected queries. -/
def query (i : Fin 256) (n : Fin 16384) : EReal := ∑ e : Fin 1024, X (ix2 i e) * W (ix2 e n)
/-- The scaled scores of head `h`. -/
def score (i : Fin 256) (h : Fin 128) (j : Fin 4096) : EReal :=
  (∑ d : Fin 128, query X W i ⟨h.val * 128 + d.val, lane_lt h d⟩ * K (ix4 0 j h d)) * Ideal.ofBits .f32 0x3DB504F3#32

/-- The context, divided at its end. -/
def late (i : Fin 256) (h d : Fin 128) : EReal :=
  (∑ j : Fin 4096, Ideal.exp (score X W K i h j + Scalar.select (seen i j) (0 : EReal) ⊥) * V (ix4 0 j h d))
    * Ideal.div 1 (∑ j : Fin 4096, Ideal.exp (score X W K i h j + Scalar.select (seen i j) (0 : EReal) ⊥))

/-- The greatest score a row sees. -/
def peak (i : Fin 256) (h : Fin 128) : EReal :=
  Finset.fold max ⊥ (fun j => Scalar.select (seen i j) (score X W K i h j) ⊥) Finset.univ
/-- The context, of shifted and divided weights. -/
def early (i : Fin 256) (h d : Fin 128) : EReal :=
  ∑ j : Fin 4096, V (ix4 0 j h d) * Ideal.div (Ideal.exp (Scalar.select (seen i j) (score X W K i h j) ⊥ - peak X W K i h))
    (∑ k : Fin 4096, Ideal.exp (Scalar.select (seen i k) (score X W K i h k) ⊥ - peak X W K i h))

/-- The result. -/
def result (i : Fin 256) (n : Fin 1024) : EReal :=
  ∑ x : Fin 16384, early X W K V i ⟨x.val / 128, by omega⟩ ⟨x.val % 128, by omega⟩ * O (ix2 x n)

/-! ## Where the inputs are real -/

/-- An extended real that is a real. -/
def IsReal (x : EReal) : Prop := ∃ r : ℝ, x = (r : EReal)

theorem IsReal.mul {x y : EReal} : IsReal x → IsReal y → IsReal (x * y)
  | ⟨r, hr⟩, ⟨t, ht⟩ => ⟨r * t, by rw [hr, ht, EReal.coe_mul]⟩
theorem IsReal.sum {n : ℕ} {f : Fin n → EReal} (h : ∀ j, IsReal (f j)) : IsReal (∑ j, f j) := by
  choose r hr using h
  exact ⟨∑ j, r j, by simp only [hr, Soft.sum_coe]⟩

/-- A word whose exponent is not all ones reads as a real. -/
theorem word_real (b : BitVec 32) (h : (b.extractLsb' 23 8).toNat ≠ 2 ^ 8 - 1) : IsReal (Ideal.ieee 8 23 b) := by
  unfold Ideal.ieee
  rw [if_neg h]
  split <;> exact ⟨_, rfl⟩
theorem scale_real : IsReal (Ideal.ofBits .f32 0x3DB504F3#32) := word_real 0x3DB504F3#32 (by decide)

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

variable {X W K} (hX : ∀ i e, IsReal (X (ix2 i e))) (hW : ∀ e n, IsReal (W (ix2 e n))) (hK : ∀ j h d, IsReal (K (ix4 0 j h d)))

include hX hW hK in
theorem score_real (i : Fin 256) (h : Fin 128) (j : Fin 4096) : IsReal (score X W K i h j) :=
  (IsReal.sum fun d => (IsReal.sum fun e => (hX i e).mul (hW e _)).mul (hK j h d)).mul scale_real

include hX hW hK in
/-- The two contexts agree. -/
theorem late_eq (i : Fin 256) (h d : Fin 128) : late X W K V i h d = early X W K V i h d := by
  choose s hs using score_real hX hW hK i h
  unfold late early peak
  simp only [hs]
  exact Soft.weigh s (seen i) 0 (seen_zero i) _

/-! ## The sum over the lanes, device by device -/

theorem sum_devices (f : Fin 16384 → EReal) :
    ∑ c : Fin 16, ∑ y : Fin 1024, f ⟨1024 * c.val + y.val, by omega⟩ = ∑ x, f x := by
  rw [← (finProdFinEquiv (m := 16) (n := 1024)).sum_comp f, Fintype.sum_prod_type]
  exact Finset.sum_congr rfl fun c _ => Finset.sum_congr rfl fun y _ => congrArg f (Fin.ext (Nat.add_comm _ _))

end Cert.Spec

end
-- ==== Proof.ValueAt.lean ====
/-
# The kernel's buffers, element by element

What the kernel's buffers hold at an index, over the extended reals: each device's partial output is the part of the
result its heads contribute, and the summed rows are the sum of the sixteen.
-/
module

public import proofs.«01_k».proof.Proof.Values
public import proofs.«01_k».proof.Proof.Spec
public import Idealize.ShloMosaic.Lib.Pointwise.IndexBridge

@[expose] public section

set_option maxRecDepth 16384

noncomputable section

namespace Cert.KernelIdeal.Attn

open Cert.KernelIdeal Cert.KernelIdeal.Gen Idealize.ShloMosaic

/-! ## The mask -/

/-- The kernel's floor of a word by sixty-four. -/
def floor64 (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi ArithUnit.vector x 64#32) 0#32))
    (IntOp.subi (IntOp.divsi ArithUnit.vector x 64#32) 1#32) (IntOp.divsi ArithUnit.vector x 64#32)

theorem floor64_eq : ∀ n : Fin 4096, floor64 (BitVec.ofNat 32 n.val) = BitVec.ofNat 32 (n.val / 64) := by decide +kernel
theorem sees_eq : ∀ (a : Fin 4) (b : Fin 64),
    IntOp.ori (IntOp.ori (IntOp.cmpi .eq (BitVec.ofNat 32 a.val) (BitVec.ofNat 32 b.val)) (IntOp.cmpi .eq (BitVec.ofNat 32 b.val) 0#32))
      (IntOp.cmpi .eq (IntOp.remsi ArithUnit.vector (IntOp.addi (BitVec.ofNat 32 a.val) (BitVec.ofNat 32 b.val)) 3#32) 0#32)
      = Spec.sees a.val b.val := by decide +kernel
theorem mask_bot : Named.named (F := Ideal) κ "mask" (φ := .f32) 0xCE6E6B28#32 = (⊥ : EReal) := rfl

theorem bias_apply (i : Fin 256) (j : Fin 4096) : biasC (F := Ideal) (ix2 i j) = Scalar.select (Spec.seen i j) (0 : EReal) ⊥ := by
  have hr : floor64 (BitVec.ofNat 32 i.val) = BitVec.ofNat 32 (i.val / 64) := floor64_eq ⟨i.val, by omega⟩
  have hc := floor64_eq j
  have hs := sees_eq ⟨i.val / 64, by omega⟩ ⟨j.val / 64, by omega⟩
  unfold floor64 at hr hc
  pointwise [biasC, k0_pay6, k0_pay2, k0_pay3, k0_pay4, k0_pay5]
  rw [hr, hc, mask_bot]
  exact congrArg (fun b => Scalar.select b (0 : EReal) ⊥) hs

/-! ## One device's payloads -/

theorem head_apply (q : Vec Ideal S128x128 .f32) (k v : Vec Ideal S4096x128 .f32) (b : Vec Ideal S128x4096 .f32) (i d : Fin 128) :
    k0_pay9 q k b v (ix2 i d)
      = (∑ j : Fin 4096, Ideal.exp ((∑ e : Fin 128, q (ix2 i e) * k (ix2 j e)) * Ideal.ofBits .f32 0x3DB504F3#32 + b (ix2 i j)) * v (ix2 j d))
        * Ideal.div 1 (∑ j : Fin 4096, Ideal.exp ((∑ e : Fin 128, q (ix2 i e) * k (ix2 j e)) * Ideal.ofBits .f32 0x3DB504F3#32 + b (ix2 i j))) := by
  pointwise [k0_pay9]
theorem proj_apply (x : Vec Ideal S256x1024 .f32) (w : Vec Ideal S1024x1024 .f32) (i : Fin 256) (n : Fin 1024) :
    k0_pay1 x w (ix2 i n) = ∑ e : Fin 1024, x (ix2 i e) * w (ix2 e n) := by
  pointwise [k0_pay1]
theorem half_apply (x : Vec Ideal S128x1024 .f32) (w : Vec Ideal S1024x1024 .f32) (i : Fin 128) (n : Fin 1024) :
    k0_pay22 x w (ix2 i n) = ∑ e : Fin 1024, x (ix2 i e) * w (ix2 e n) := by
  pointwise [k0_pay22]
theorem add_apply (a : FVec Ideal S16x1024 .f32) (x : Vec Ideal S1x16x1024 .f32) (i : Fin 16) (n : Fin 1024) :
    k0_pay47 a x (ix2 i n) = a (ix2 i n) + x (ix3 0 i n) := by
  pointwise [k0_pay47]

/-! ## Reads of the buffers -/

theorem q_read (X : Vec Ideal S256x1024 .f32) (a : Fin 2) (h : Fin 8) (i d : Fin 128) :
    qM.view.readAt (Elt Ideal) (Rect.unit (s := S256x1024) ![128 * a.val, 128 * h.val] S128x128.size (inb_blk a.isLt h.isLt)).toLoadRect X (ix2 i d)
      = X (ix2 ⟨128 * a.val + i.val, by omega⟩ ⟨128 * h.val + d.val, by omega⟩) := by
  refine congrArg X (funext fun k => Fin.ext ?_)
  fin_cases k
  · show 128 * a.val + 1 * i.val = 128 * a.val + i.val
    omega
  · show 128 * h.val + 1 * d.val = 128 * h.val + d.val
    omega

theorem col_read (X : Vec Ideal S4096x1024 .f32) (h : Fin 8) (j : Fin 4096) (d : Fin 128) :
    kaM.view.readAt (Elt Ideal) (Rect.unit (s := S4096x1024) ![0, 128 * h.val] S4096x128.size (inb_col h.isLt)).toLoadRect X (ix2 j d)
      = X (ix2 j ⟨128 * h.val + d.val, by omega⟩) := by
  refine congrArg X (funext fun k => Fin.ext ?_)
  fin_cases k
  · show 0 + 1 * j.val = j.val
    omega
  · show 128 * h.val + 1 * d.val = 128 * h.val + d.val
    omega
theorem bias_read (X : Vec Ideal S256x4096 .f32) (a : Fin 2) (i : Fin 128) (j : Fin 4096) :
    biasM.view.readAt (Elt Ideal) (Rect.unit (s := S256x4096) ![128 * a.val, 0] S128x4096.size (inb_bias a.isLt)).toLoadRect X (ix2 i j)
      = X (ix2 ⟨128 * a.val + i.val, by omega⟩ j) := by
  refine congrArg X (funext fun k => Fin.ext ?_)
  fin_cases k
  · show 128 * a.val + 1 * i.val = 128 * a.val + i.val
    omega
  · show 0 + 1 * j.val = j.val
    omega
theorem half_read (X : Vec Ideal S256x1024 .f32) (a : Fin 2) (i : Fin 128) (n : Fin 1024) :
    ctxM.view.readAt (Elt Ideal) (Rect.unit (s := S256x1024) ![128 * a.val, 0] S128x1024.size (inb_half a.isLt)).toLoadRect X (ix2 i n)
      = X (ix2 ⟨128 * a.val + i.val, by omega⟩ n) := by
  refine congrArg X (funext fun k => Fin.ext ?_)
  fin_cases k
  · show 128 * a.val + 1 * i.val = 128 * a.val + i.val
    omega
  · show 0 + 1 * n.val = n.val
    omega
theorem chunk_read (X : Vec Ideal S256x1024 .f32) (c : Fin 16) (i : Fin 16) (n : Fin 1024) :
    outM.view.readAt (Elt Ideal) (Rect.unit (s := S256x1024) ![16 * c.val, 0] S16x1024.size (inb_chunk c)).toLoadRect X (ix2 i n)
      = X (ix2 ⟨16 * c.val + i.val, by omega⟩ n) := by
  refine congrArg X (funext fun k => Fin.ext ?_)
  fin_cases k
  · show 16 * c.val + 1 * i.val = 16 * c.val + i.val
    omega
  · show 0 + 1 * n.val = n.val
    omega
theorem slot_read (X : Vec Ideal S16x16x1024 .f32) (s : Fin 16) (i : Fin 16) (n : Fin 1024) :
    rbM.view.readAt (Elt Ideal) (Rect.unit (s := S16x16x1024) ![s.val, 0, 0] S1x16x1024.size (inb_slot s)).toLoadRect X (ix3 0 i n)
      = X (ix3 s i n) := by
  refine congrArg X (funext fun k => Fin.ext ?_)
  fin_cases k
  · show s.val + 1 * 0 = s.val
    omega
  · show 0 + 1 * i.val = i.val
    omega
  · show 0 + 1 * n.val = n.val
    omega

/-! ## Every device's share of the whole arrays -/

/-- The blocks of the whole arrays: columns `1024 c …` of the query projection and rows `1024 c …` of the output's. -/
structure Shares (I : Ins Ideal) (X : Vec Ideal ⟨2, ![256, 1024]⟩ .f32) (W : Vec Ideal ⟨2, ![1024, 16384]⟩ .f32)
    (K V : Vec Ideal ⟨4, ![1, 4096, 128, 128]⟩ .f32) (O : Vec Ideal ⟨2, ![16384, 1024]⟩ .f32) : Prop where
  x : ∀ c, I.x c = X
  wq : ∀ (c : Fin 16) (e n : Fin 1024), I.wq c (ix2 e n) = W (ix2 e ⟨1024 * c.val + n.val, by omega⟩)
  k : ∀ c, I.k c = K
  v : ∀ c, I.v c = V
  wo : ∀ (c : Fin 16) (y n : Fin 1024), I.wo c (ix2 y n) = O (ix2 ⟨1024 * c.val + y.val, by omega⟩ n)

variable {I : Ins Ideal} {X : Vec Ideal ⟨2, ![256, 1024]⟩ .f32} {W : Vec Ideal ⟨2, ![1024, 16384]⟩ .f32}
  {K V : Vec Ideal ⟨4, ![1, 4096, 128, 128]⟩ .f32} {O : Vec Ideal ⟨2, ![16384, 1024]⟩ .f32} (S : Shares I X W K V O)

include S in
theorem q_apply (c : Fin 16) (i : Fin 256) (n : Fin 1024) :
    qC I c (ix2 i n) = Spec.query X W i ⟨1024 * c.val + n.val, by omega⟩ := by
  unfold qC Spec.query
  rw [proj_apply]
  simp only [S.x, S.wq]

theorem heads_apply (Y : Vec Ideal S1x4096x128x128 .f32) (c : Fin 16) (h : Fin 8) (j : Fin 4096) (d : Fin 128) :
    heads Y c (ix2 j ⟨128 * h.val + d.val, by omega⟩) = Y (ix4 0 j ⟨8 * c.val + h.val, by omega⟩ d) := by
  refine congrArg Y (funext fun k => Fin.ext ?_)
  fin_cases k
  · rfl
  · rfl
  · show 8 * c.val + (128 * h.val + d.val) / 128 = 8 * c.val + h.val
    omega
  · show (128 * h.val + d.val) % 128 = d.val
    omega

include S in
theorem headVal_apply (c : Fin 16) (a : Fin 2) (h : Fin 8) (i d : Fin 128) :
    headVal I c a h (ix2 i d) = Spec.late X W K V ⟨128 * a.val + i.val, by omega⟩ ⟨8 * c.val + h.val, by omega⟩ d := by
  have hq : ∀ e : Fin 128, qM.view.readAt (Elt Ideal) (Rect.unit (s := S256x1024) ![128 * a.val, 128 * h.val] S128x128.size (inb_blk a.isLt h.isLt)).toLoadRect (qC I c) (ix2 i e)
      = Spec.query X W ⟨128 * a.val + i.val, by omega⟩ ⟨(⟨8 * c.val + h.val, by omega⟩ : Fin 128).val * 128 + e.val, Spec.lane_lt _ _⟩ := fun e => by
    rw [q_read, q_apply S]
    refine congrArg _ (Fin.ext ?_)
    show 1024 * c.val + (128 * h.val + e.val) = (8 * c.val + h.val) * 128 + e.val
    omega
  have hk : ∀ (j : Fin 4096) (e : Fin 128), kaM.view.readAt (Elt Ideal) (Rect.unit (s := S4096x1024) ![0, 128 * h.val] S4096x128.size (inb_col h.isLt)).toLoadRect (kaC I c) (ix2 j e)
      = K (ix4 0 j ⟨8 * c.val + h.val, by omega⟩ e) := fun j e => by
    rw [col_read, kaC, heads_apply, S.k]
  have hv : ∀ (j : Fin 4096) (e : Fin 128), vaM.view.readAt (Elt Ideal) (Rect.unit (s := S4096x1024) ![0, 128 * h.val] S4096x128.size (inb_col h.isLt)).toLoadRect (vaC I c) (ix2 j e)
      = V (ix4 0 j ⟨8 * c.val + h.val, by omega⟩ e) := fun j e =>
    (col_read (vaC I c) h j e).trans (by rw [vaC, heads_apply, S.v])
  have hb : ∀ j : Fin 4096, biasM.view.readAt (Elt Ideal) (Rect.unit (s := S256x4096) ![128 * a.val, 0] S128x4096.size (inb_bias a.isLt)).toLoadRect (biasC (F := Ideal)) (ix2 i j)
      = Scalar.select (Spec.seen ⟨128 * a.val + i.val, by omega⟩ j) (0 : EReal) ⊥ := fun j => by
    rw [bias_read, bias_apply]
  unfold headVal
  rw [head_apply]
  simp only [hq, hk, hv, hb]
  rfl

include S in
theorem ctx_apply (c : Fin 16) (i : Fin 256) (y : Fin 1024) :
    ctxC I c (ix2 i y) = Spec.late X W K V i ⟨(1024 * c.val + y.val) / 128, by omega⟩ ⟨(1024 * c.val + y.val) % 128, by omega⟩ := by
  show headVal I c ⟨i.val / 128, _⟩ ⟨y.val / 128, _⟩ (ValueIdx.ix2 (⟨i.val % 128, _⟩ : Fin 128) (⟨y.val % 128, _⟩ : Fin 128)) = _
  rw [← ix2_eq_valueIdx, headVal_apply S]
  congr 1 <;> apply Fin.ext
  · show 128 * (i.val / 128) + i.val % 128 = i.val
    omega
  · show 8 * c.val + y.val / 128 = (1024 * c.val + y.val) / 128
    omega
  · show y.val % 128 = (1024 * c.val + y.val) % 128
    omega

/-- What the lanes of one device's heads contribute to the result. -/
def lane (X : Vec Ideal ⟨2, ![256, 1024]⟩ .f32) (W : Vec Ideal ⟨2, ![1024, 16384]⟩ .f32)
    (K V : Vec Ideal ⟨4, ![1, 4096, 128, 128]⟩ .f32) (O : Vec Ideal ⟨2, ![16384, 1024]⟩ .f32) (i : Fin 256) (n : Fin 1024) (x : Fin 16384) : EReal :=
  Spec.late X W K V i ⟨x.val / 128, by omega⟩ ⟨x.val % 128, by omega⟩ * O (ix2 x n)

include S in
theorem po_apply (c : Fin 16) (i : Fin 256) (n : Fin 1024) :
    poC I c (ix2 i n) = ∑ y : Fin 1024, lane X W K V O i n ⟨1024 * c.val + y.val, by omega⟩ := by
  show halfC I c ⟨i.val / 128, _⟩ (ValueIdx.ix2 (⟨i.val % 128, _⟩ : Fin 128) n) = _
  rw [← ix2_eq_valueIdx, halfC, half_apply]
  refine Finset.sum_congr rfl fun y _ => ?_
  rw [half_read, ctx_apply S, S.wo]
  unfold lane
  congr 2
  apply Fin.ext
  show 128 * (i.val / 128) + i.val % 128 = i.val
  omega

/-! ## The rows a device sums -/

theorem rb_apply (t s : Fin 16) (i : Fin 16) (n : Fin 1024) :
    rbC I t (ix3 s i n) = poC I s (ix2 ⟨16 * t.val + i.val, by omega⟩ n) := by
  show poC I s (ValueIdx.ix2 (⟨16 * t.val + i.val, _⟩ : Fin 256) n) = _
  rw [← ix2_eq_valueIdx]

theorem acc_apply (c : Fin 16) (i : Fin 16) (n : Fin 1024) : ∀ k : ℕ,
    accC I c k (ix2 i n) = ∑ j ∈ Finset.range (k + 1), poC I (bwd c j) (ix2 ⟨16 * c.val + i.val, by omega⟩ n)
  | 0 => by
    rw [Finset.sum_range_one, show bwd c 0 = c from Fin.ext (Nat.mod_eq_of_lt c.isLt)]
    refine Eq.trans ?_ (chunk_read (poC I c) c i n)
    unfold accC
    pointwise []
  | k + 1 => by
    rw [Finset.sum_range_succ, ← acc_apply c i n k]
    show k0_pay47 (accC I c k) _ (ix2 i n) = _
    rw [add_apply]
    exact congrArg _ ((slot_read (rbC I c) (bwd c (k + 1)) i n).trans (rb_apply c (bwd c (k + 1)) i n))

theorem bwd_bij : ∀ c : Fin 16, Function.Bijective (fun j : Fin 16 => (bwd c j.val : Fin 16)) := by decide +kernel

include S in
theorem fo_apply (i : Fin 256) (n : Fin 1024) : foC I (ix2 i n) = ∑ x : Fin 16384, lane X W K V O i n x := by
  show accC I (⟨i.val / 16, _⟩ : Dev nD) 15 (ValueIdx.ix2 (⟨i.val % 16, _⟩ : Fin 16) n) = _
  rw [← ix2_eq_valueIdx]
  refine (acc_apply ⟨i.val / 16, by omega⟩ ⟨i.val % 16, by omega⟩ n 15).trans ?_
  have hi : (⟨16 * (⟨i.val / 16, by omega⟩ : Fin 16).val + (⟨i.val % 16, by omega⟩ : Fin 16).val, by omega⟩ : Fin 256) = i :=
    Fin.ext (by show 16 * (i.val / 16) + i.val % 16 = i.val; omega)
  rw [hi, ← Fin.sum_univ_eq_sum_range (fun j => poC I (bwd (⟨i.val / 16, by omega⟩ : Fin 16) j) (ix2 i n)) 16,
    (bwd_bij ⟨i.val / 16, by omega⟩).sum_comp (fun c : Fin 16 => poC I c (ix2 i n))]
  simp only [po_apply S]
  exact Spec.sum_devices (lane X W K V O i n)

include S in
/-- The kernel's result is the attention's, where the queries' and keys' arrays hold reals. -/
theorem fo_eq (hX : ∀ i e, Spec.IsReal (X (ix2 i e))) (hW : ∀ e n, Spec.IsReal (W (ix2 e n))) (hK : ∀ j h d, Spec.IsReal (K (ix4 0 j h d)))
    (i : Fin 256) (n : Fin 1024) : foC I (ix2 i n) = Spec.result X W K V O i n := by
  rw [fo_apply S]
  unfold lane Spec.result
  simp only [Spec.late_eq V hX hW hK]

end Cert.KernelIdeal.Attn

end
-- ==== Proof.RefTerm.lean ====
/-
# The reference, operation by operation

The result of the reference program as a tower of named vectors: the block masks, the masked scores, their row
maxima, the exponentials, the row sums, the weights, the context and the projected output.
-/
module

public import proofs.«01_k».proof.Proof.Gen.ReferenceIdeal.Run

@[expose] public section

set_option maxRecDepth 16384

noncomputable section

namespace Cert.ReferenceIdeal.Attn

open Cert.ReferenceIdeal Cert.ReferenceIdeal.Gen Idealize.ShloMosaic Idealize.ShloMosaic.TcCoe Idealize.SL.Sem Idealize.ShloMosaic.StableHlo

variable {F : FTy → Type} [FloatOps F]

/-- The query block of each row, and the key block of each column. -/
def rowsB : IVec S256 32 := select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32))))
def colsB : IVec S4096 32 := select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))
/-- The divisor three, and the remainder of the two blocks' sum by it. -/
def threeR : IVec S_ 32 := select (cmpi .eq (id (constantI S_ 32 3#32)) (constantI S_ 32 0#32)) (constantI S_ 32 1#32) (id (constantI S_ 32 3#32))
def remR : IVec S256x4096 32 := Host.remsi (addi (broadcastInDim S256x4096 ![0, 1] bcast_S256x1_S256x4096_0_1 (broadcastInDim S256x1 ![0] bcast_S256_S256x1_0 rowsB)) (broadcastInDim S256x4096 ![0, 1] bcast_S1x4096_S256x4096_0_1 (broadcastInDim S1x4096 ![1] bcast_S4096_S1x4096_1 colsB))) (broadcastInDim S256x4096 ![] bcast_S_S256x4096 threeR)
/-- Which keys a row sees. -/
def maskR : IVec S256x4096 1 := ori (ori (cmpi .eq (broadcastInDim S256x4096 ![0, 1] bcast_S256x1_S256x4096_0_1 (broadcastInDim S256x1 ![0] bcast_S256_S256x1_0 rowsB)) (broadcastInDim S256x4096 ![0, 1] bcast_S1x4096_S256x4096_0_1 (broadcastInDim S1x4096 ![1] bcast_S4096_S1x4096_1 colsB))) (broadcastInDim S256x4096 ![0, 1] bcast_S1x4096_S256x4096_0_1 (cmpi .eq (broadcastInDim S1x4096 ![1] bcast_S4096_S1x4096_1 colsB) (broadcastInDim S1x4096 ![] bcast_S_S1x4096 (constantI S_ 32 0#32))))) (cmpi .eq (select (andi (cmpi .ne (cmpi .slt remR (broadcastInDim S256x4096 ![] bcast_S_S256x4096 (constantI S_ 32 0#32))) (broadcastInDim S256x4096 ![] bcast_S_S256x4096 (cmpi .slt threeR (constantI S_ 32 0#32)))) (cmpi .ne remR (broadcastInDim S256x4096 ![] bcast_S_S256x4096 (constantI S_ 32 0#32)))) (addi remR (broadcastInDim S256x4096 ![] bcast_S_S256x4096 threeR)) remR) (broadcastInDim S256x4096 ![] bcast_S_S256x4096 (constantI S_ 32 0#32)))
/-- Whether a row sees any key. -/
def keepR : IVec S256 1 := Host.reduce IntOp.ori maskR (constantI S_ 1 0#1) reducesTo_S256x4096_S256_d1 h_S_

variable (A0 : Vec F S256x1024 .f32) (A1 : Vec F S1024x16384 .f32) (A2 : Vec F S1x4096x128x128 .f32)
/-- The masked scores. -/
def scoreR : FVec F S1x128x256x4096 .f32 := select (broadcastInDim S1x128x256x4096 ![0, 1, 2, 3] bcast_S1x1x256x4096_S1x128x256x4096_0_1_2_3 (broadcastInDim S1x1x256x4096 ![2, 3] bcast_S256x4096_S1x1x256x4096_2_3 maskR)) (mulf (Host.dotGeneral dot_S1x256x128x128_S1x4096x128x128_S1x128x256x4096_3_3_1_1_02_02 none (shapeCast S1x256x128x128 (Host.dotGeneral dot_S256x1024_S1024x16384_S256x16384_1_0_0_1_n_n none A0 A1) shapeCasts_S256x16384_S1x256x128x128) A2) (broadcastInDim S1x128x256x4096 ![] bcast_S_S1x128x256x4096 (constant S_ .f32 0x3DB504F3#32))) (broadcastInDim S1x128x256x4096 ![] bcast_S_S1x128x256x4096 (id (constant S_ .f32 0xFF800000#32)))
/-- Their maximum along the keys. -/
def maxR : FVec F S1x128x256 .f32 := Host.reduce FloatOps.maximumf (scoreR A0 A1 A2) (constant S_ .f32 0xFF800000#32) reducesTo_S1x128x256x4096_S1x128x256_d3 h_S_
/-- The exponentials of the scores less their maximum. -/
def expR : FVec F S1x128x256x4096 .f32 := Host.exp (subf (scoreR A0 A1 A2) (broadcastInDim S1x128x256x4096 ![0, 1, 2, 3] bcast_S1x128x256x1_S1x128x256x4096_0_1_2_3 (broadcastInDim S1x128x256x1 ![0, 1, 2] bcast_S1x128x256_S1x128x256x1_0_1_2 (maxR A0 A1 A2))))
/-- The sums they are divided by. -/
def denR : FVec F S1x128x256x1 .f32 := select (broadcastInDim S1x128x256x1 ![0, 1, 2, 3] bcast_S1x1x256x1_S1x128x256x1_0_1_2_3 (broadcastInDim S1x1x256x1 ![2] bcast_S256_S1x1x256x1_2 keepR)) (broadcastInDim S1x128x256x1 ![0, 1, 2] bcast_S1x128x256_S1x128x256x1_0_1_2 (Host.reduceAdd (expR A0 A1 A2) (constant S_ .f32 0x00000000#32) reducesTo_S1x128x256x4096_S1x128x256_d3 h_S_)) (broadcastInDim S1x128x256x1 ![] bcast_S_S1x128x256x1 (id (constant S_ .f32 0x3F800000#32)))
/-- The weights. -/
def attnR : FVec F S1x128x256x4096 .f32 := select (broadcastInDim S1x128x256x4096 ![0, 1, 2, 3] bcast_S1x1x256x1_S1x128x256x4096_0_1_2_3 (broadcastInDim S1x1x256x1 ![2] bcast_S256_S1x1x256x1_2 keepR)) (Host.divf (expR A0 A1 A2) (broadcastInDim S1x128x256x4096 ![0, 1, 2, 3] bcast_S1x128x256x1_S1x128x256x4096_0_1_2_3 (denR A0 A1 A2))) (broadcastInDim S1x128x256x4096 ![] bcast_S_S1x128x256x4096 (id (constant S_ .f32 0x00000000#32)))
/-- The weighted values. -/
def ctxR (A3 : Vec F S1x4096x128x128 .f32) : FVec F S1x128x128x256 .f32 := Host.dotGeneral dot_S1x4096x128x128_S1x128x256x4096_S1x128x128x256_1_3_3_2_02_01 none A3 (attnR A0 A1 A2)
/-- The result. -/
def outR (A3 : Vec F S1x4096x128x128 .f32) (A4 : Vec F S16384x1024 .f32) : FVec F S256x1024 .f32 := Host.dotGeneral dot_S256x16384_S16384x1024_S256x1024_1_0_0_1_n_n none (shapeCast S256x16384 (transpose S1x256x128x128 [0, 3, 1, 2] (ctxR A0 A1 A2 A3) transposes_S1x128x128x256_S1x256x128x128_0_3_1_2) shapeCasts_S1x256x128x128_S256x16384) A4

theorem res_eq (m : (ℓ : Loc nD τ sig) → Buf (Elt F) ℓ) (c : Dev nD) :
    Value.res_out0 m c = outR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.ReferenceIdeal.Attn

end
-- ==== Proof.RefValue.lean ====
/-
# The reference, element by element

Each named vector of the reference at an index, over the extended reals: its result is the block-sparse attention of
the whole arrays.
-/
module

public import proofs.«01_k».proof.Proof.RefTerm
public import proofs.«01_k».proof.Proof.Spec
public import Idealize.ShloMosaic.Lib.Routing.OpsOrder

@[expose] public section

set_option maxRecDepth 16384

noncomputable section

namespace Cert.ReferenceIdeal.Attn

open Cert.ReferenceIdeal Cert.ReferenceIdeal.Gen Idealize.ShloMosaic

/-! ## The mask -/

/-- The host's floor of a word by sixty-four, and its remainder by three. -/
def floor64 (x : BitVec 32) : BitVec 32 :=
  Scalar.select
    (IntOp.andi
      (IntOp.cmpi .ne (if x = 0 then (0 : BitVec 32) else if x.msb = true then -1 else 1) (if (64#32) = 0 then (0 : BitVec 32) else if (64#32).msb = true then -1 else 1))
      (IntOp.cmpi .ne (IntOp.remsi ArithUnit.host x 64#32) 0#32))
    (IntOp.subi (IntOp.divsi ArithUnit.host x 64#32) 1#32) (IntOp.divsi ArithUnit.host x 64#32)
def mod3 (x : BitVec 32) : BitVec 32 :=
  Scalar.select
    (IntOp.andi
      (IntOp.cmpi .ne (IntOp.cmpi .slt (IntOp.remsi ArithUnit.host x (Scalar.select (IntOp.cmpi .eq 3#32 0#32) 1#32 3#32)) 0#32)
        (IntOp.cmpi .slt (Scalar.select (IntOp.cmpi .eq 3#32 0#32) 1#32 3#32) 0#32))
      (IntOp.cmpi .ne (IntOp.remsi ArithUnit.host x (Scalar.select (IntOp.cmpi .eq 3#32 0#32) 1#32 3#32)) 0#32))
    (IntOp.addi (IntOp.remsi ArithUnit.host x (Scalar.select (IntOp.cmpi .eq 3#32 0#32) 1#32 3#32)) (Scalar.select (IntOp.cmpi .eq 3#32 0#32) 1#32 3#32))
    (IntOp.remsi ArithUnit.host x (Scalar.select (IntOp.cmpi .eq 3#32 0#32) 1#32 3#32))

theorem floor64_eq : ∀ n : Fin 4096, floor64 (BitVec.ofNat 32 n.val) = BitVec.ofNat 32 (n.val / 64) := by decide +kernel
theorem sees_eq : ∀ (a : Fin 4) (b : Fin 64),
    IntOp.ori (IntOp.ori (IntOp.cmpi .eq (BitVec.ofNat 32 a.val) (BitVec.ofNat 32 b.val)) (IntOp.cmpi .eq (BitVec.ofNat 32 b.val) 0#32))
      (IntOp.cmpi .eq (mod3 (IntOp.addi (BitVec.ofNat 32 a.val) (BitVec.ofNat 32 b.val))) 0#32) = Spec.sees a.val b.val := by decide +kernel

theorem rows_apply (i : Fin 256) : rowsB (ix1 i) = BitVec.ofNat 32 (i.val / 64) := by
  pointwise [rowsB]
  exact floor64_eq ⟨i.val, by omega⟩
theorem cols_apply (j : Fin 4096) : colsB (ix1 j) = BitVec.ofNat 32 (j.val / 64) := by
  pointwise [colsB]
  exact floor64_eq j

theorem mask_apply (i : Fin 256) (j : Fin 4096) : maskR (ix2 i j) = Spec.seen i j := by
  pointwise [maskR, remR, threeR]
  rw [rows_apply, cols_apply]
  exact sees_eq ⟨i.val / 64, by omega⟩ ⟨j.val / 64, by omega⟩

theorem keep_apply (i : Fin 256) : keepR (ix1 i) = 1#1 := by
  pointwise [keepR]
  refine (Routing.fold_ori _ _).2 ⟨0, Finset.mem_univ _, ?_⟩
  rw [mask_apply, Spec.seen_zero]

/-! ## The values -/

variable (A0 : Vec Ideal S256x1024 .f32) (A1 : Vec Ideal S1024x16384 .f32) (A2 : Vec Ideal S1x4096x128x128 .f32)
  (A3 : Vec Ideal S1x4096x128x128 .f32) (A4 : Vec Ideal S16384x1024 .f32)

theorem score_apply (h : Fin 128) (i : Fin 256) (j : Fin 4096) :
    scoreR A0 A1 A2 (ix4 0 h i j) = Scalar.select (Spec.seen i j) (Spec.score A0 A1 A2 i h j) ⊥ := by
  pointwise [scoreR]
  rw [mask_apply]
  exact congrArg (Scalar.select (Spec.seen i j) (Spec.score A0 A1 A2 i h j)) Spec.ofBits_bot

theorem max_apply (h : Fin 128) (i : Fin 256) : maxR A0 A1 A2 (ix3 0 h i) = Spec.peak A0 A1 A2 i h := by
  pointwise [maxR]
  simp only [score_apply, Spec.ofBits_bot]
  rfl

theorem exp_apply (h : Fin 128) (i : Fin 256) (j : Fin 4096) :
    expR A0 A1 A2 (ix4 0 h i j) = Ideal.exp (Scalar.select (Spec.seen i j) (Spec.score A0 A1 A2 i h j) ⊥ - Spec.peak A0 A1 A2 i h) := by
  pointwise [expR]
  rw [score_apply, max_apply]

theorem den_apply (h : Fin 128) (i : Fin 256) :
    denR A0 A1 A2 (ix4 0 h i 0)
      = ∑ k : Fin 4096, Ideal.exp (Scalar.select (Spec.seen i k) (Spec.score A0 A1 A2 i h k) ⊥ - Spec.peak A0 A1 A2 i h) := by
  pointwise [denR]
  simp only [keep_apply, exp_apply]
  rfl

theorem attn_apply (h : Fin 128) (i : Fin 256) (j : Fin 4096) :
    attnR A0 A1 A2 (ix4 0 h i j)
      = Ideal.div (Ideal.exp (Scalar.select (Spec.seen i j) (Spec.score A0 A1 A2 i h j) ⊥ - Spec.peak A0 A1 A2 i h))
          (∑ k : Fin 4096, Ideal.exp (Scalar.select (Spec.seen i k) (Spec.score A0 A1 A2 i h k) ⊥ - Spec.peak A0 A1 A2 i h)) := by
  pointwise [attnR]
  rw [keep_apply, exp_apply, den_apply]
  rfl

theorem ctx_apply (h d : Fin 128) (i : Fin 256) : ctxR A0 A1 A2 A3 (ix4 0 h d i) = Spec.early A0 A1 A2 A3 i h d := by
  pointwise [ctxR]
  simp only [attn_apply]
  rfl

/-- The reference's result. -/
theorem out_apply (i : Fin 256) (n : Fin 1024) : outR A0 A1 A2 A3 A4 (ix2 i n) = Spec.result A0 A1 A2 A3 A4 i n := by
  pointwise [outR]
  simp only [ctx_apply]
  rfl

end Cert.ReferenceIdeal.Attn

end
-- ==== Proof.Agree.lean ====
/-
# The kernel's result is the reference's

From blocks of one set of whole arrays, whose queries' and keys' arrays hold reals, every device ends with the
reference's result.
-/
module

public import proofs.«01_k».proof.Defs
public import proofs.«01_k».proof.Proof.Launch
public import proofs.«01_k».proof.Proof.ValueAt
public import proofs.«01_k».proof.Proof.RefValue
public import Idealize.ShloMosaic.Lib.Pipeline.ValueKit.Geometry

@[expose] public section

set_option maxRecDepth 16384

noncomputable section

namespace Cert.Proof

open Idealize.ShloMosaic Idealize.SL.Sem

/-! ## The precondition -/

/-- A value whose magnitude is below the top is real. -/
theorem real_of_lt (x : EReal) (h : FloatOps.cmpf (F := Ideal) (φ := .f32) .olt (FloatOps.absf (F := Ideal) (φ := .f32) x) (Ideal.ofBits .f32 0x7F800000#32) = 1#1) : Spec.IsReal x := by
  rw [Spec.ofBits_top] at h
  have h' : Ideal.cmp .olt (max x (-x)) (⊤ : EReal) = 1#1 := h
  induction x with
  | bot => simp [Ideal.cmp] at h'
  | top => simp [Ideal.cmp] at h'
  | coe r => exact ⟨r, rfl⟩

theorem finite_facts : Cert.Pre_inputs_finite_KernelIdeal.Facts := ⟨by decide, by decide, by decide⟩
theorem finite_facts' : Cert.Pre_inputs_finite_ReferenceIdeal.Facts := ⟨by decide, by decide, by decide⟩

section Finite
open Cert.Pre_inputs_finite_KernelIdeal
variable [Cert.Pre_inputs_finite_KernelIdeal.Facts] (A0 : FVec Ideal S256x1024 .f32) (A1 : FVec Ideal S1024x1024 .f32) (A2 A3 : FVec Ideal S1x4096x128x128 .f32) (A4 : FVec Ideal S1024x1024 .f32)

theorem real_x (h : (fn (F := Ideal) A0 A1 A2 A3 A4).1 = fun _ => 1#1) (i : Fin 256) (e : Fin 1024) : Spec.IsReal (A0 (ix2 i e)) := by
  have h' := congrFun h (ix2 i e)
  unfold fn at h'
  pointwise [] at h'
  exact real_of_lt _ h'
theorem real_wq (h : (fn (F := Ideal) A0 A1 A2 A3 A4).2.1 = fun _ => 1#1) (i e : Fin 1024) : Spec.IsReal (A1 (ix2 i e)) := by
  have h' := congrFun h (ix2 i e)
  exact real_of_lt _ h'
theorem real_k (h : (fn (F := Ideal) A0 A1 A2 A3 A4).2.2 = fun _ => 1#1) (j : Fin 4096) (g d : Fin 128) : Spec.IsReal (A2 (ix4 0 j g d)) := by
  have h' := congrFun h (ix4 0 j g d)
  exact real_of_lt _ h'
end Finite

/-! ## The kernel's arrays -/

section Kernel
open Cert.KernelIdeal Cert.KernelIdeal.Gen Cert.KernelIdeal.Attn
variable (m : (ℓ : Loc nD τ sig) → Buf (Elt Ideal) ℓ)

theorem ins_x (c : Dev nD) : (insM m).x c = m ((c.tc : Thread nD τ).loc main_arg0) := by
  funext j
  have e : win0_0.index t0_0 = ![0, 0] := by decide +kernel
  refine congrArg (m ((c.tc : Thread nD τ).loc main_arg0)) (?_ : (win0_0.blk t0_0).view.emb j = j)
  blk_ext [e]
theorem ins_wq (c : Dev nD) : (insM m).wq c = m ((c.tc : Thread nD τ).loc main_arg1) := by
  funext j
  have e : win0_1.index t0_0 = ![0, 0] := by decide +kernel
  refine congrArg (m ((c.tc : Thread nD τ).loc main_arg1)) (?_ : (win0_1.blk t0_0).view.emb j = j)
  blk_ext [e]
theorem ins_wo (c : Dev nD) : (insM m).wo c = m ((c.tc : Thread nD τ).loc main_arg4) := by
  funext j
  have e : win0_2.index t0_0 = ![0, 0] := by decide +kernel
  refine congrArg (m ((c.tc : Thread nD τ).loc main_arg4)) (?_ : (win0_2.blk t0_0).view.emb j = j)
  blk_ext [e]

theorem out_eq (c : Dev nD) : (dats m 0 c).arrAt (3 : Fin 4) cfg0.N = foC (insM m) := by
  refine (dats m 0 c).arrAt_eq_of_after_last (3 : Fin 4) t0_0 (by decide +kernel) _ fun j => ?_
  rfl

theorem cols_apply (W : Vec Ideal ⟨2, ![1024, 16384]⟩ .f32) (c : Fin 16) (e n : Fin 1024) :
    Layout.block ⟨2, ![1024, 1024]⟩ ⟨2, ![1024, 16384]⟩ 1 16 c W (by decide) (ix2 e n) = W (ix2 e ⟨1024 * c.val + n.val, by omega⟩) := by
  refine congrArg W (funext fun k => Fin.ext ?_)
  fin_cases k
  · rfl
  · show c.val * 1024 + n.val = 1024 * c.val + n.val
    omega
theorem rows_apply (O : Vec Ideal ⟨2, ![16384, 1024]⟩ .f32) (c : Fin 16) (y n : Fin 1024) :
    Layout.block ⟨2, ![1024, 1024]⟩ ⟨2, ![16384, 1024]⟩ 0 16 c O (by decide) (ix2 y n) = O (ix2 ⟨1024 * c.val + y.val, by omega⟩ n) := by
  refine congrArg O (funext fun k => Fin.ext ?_)
  fin_cases k
  · show c.val * 1024 + y.val = 1024 * c.val + y.val
    omega
  · rfl

/-- The blocks of whole arrays are the devices' shares of them. -/
theorem shares {X : Vec Ideal ⟨2, ![256, 1024]⟩ .f32} {W : Vec Ideal ⟨2, ![1024, 16384]⟩ .f32}
    {K V : Vec Ideal ⟨4, ![1, 4096, 128, 128]⟩ .f32} {O : Vec Ideal ⟨2, ![16384, 1024]⟩ .f32}
    (h : ∀ c : Dev nD, m (((c : Dev nD).tc : Thread nD τ).loc main_arg0) = X
      ∧ m (((c : Dev nD).tc : Thread nD τ).loc main_arg1) = Layout.block ⟨2, ![1024, 1024]⟩ ⟨2, ![1024, 16384]⟩ 1 16 c W
      ∧ m (((c : Dev nD).tc : Thread nD τ).loc main_arg2) = K
      ∧ m (((c : Dev nD).tc : Thread nD τ).loc main_arg3) = V
      ∧ m (((c : Dev nD).tc : Thread nD τ).loc main_arg4) = Layout.block ⟨2, ![1024, 1024]⟩ ⟨2, ![16384, 1024]⟩ 0 16 c O) :
    Shares (insM m) X W K V O where
  x c := (ins_x m c).trans (h c).1
  wq c e n := (congrFun ((ins_wq m c).trans (h c).2.1) (ix2 e n)).trans (cols_apply W c e n)
  k c := (h c).2.2.1
  v c := (h c).2.2.2.1
  wo c y n := (congrFun ((ins_wo m c).trans (h c).2.2.2.2) (ix2 y n)).trans (rows_apply O c y n)

/-- Every element of the whole query projection is one of some device's block. -/
theorem whole_real {W : Vec Ideal ⟨2, ![1024, 16384]⟩ .f32}
    (h : ∀ (c : Fin 16) (e n : Fin 1024), Spec.IsReal (W (ix2 e ⟨1024 * c.val + n.val, by omega⟩))) (e : Fin 1024) (n : Fin 16384) :
    Spec.IsReal (W (ix2 e n)) := by
  have h' := h ⟨n.val / 1024, by omega⟩ e ⟨n.val % 1024, by omega⟩
  have hn : (⟨1024 * (⟨n.val / 1024, by omega⟩ : Fin 16).val + (⟨n.val % 1024, by omega⟩ : Fin 1024).val, by omega⟩ : Fin 16384) = n :=
    Fin.ext (by show 1024 * (n.val / 1024) + n.val % 1024 = n.val; omega)
  rwa [hn] at h'
end Kernel

/-! ## The two runs -/

/-- From one set of whole arrays both programs end with the reference's result. -/
theorem agree : Cert.algebraic_KernelIdeal_ReferenceIdeal_pre_inputs_finite_KernelIdeal (hKernelIdeal := Cert.KernelIdeal.Gen.facts)
    (hReferenceIdeal := Cert.ReferenceIdeal.Gen.facts) (hPre_inputs_finite_KernelIdeal := finite_facts) := fun m g m' g' hp h => by
  have := finite_facts
  have S := shares m h
  have hX : ∀ (i : Fin 256) (e : Fin 1024), Spec.IsReal
      ((m' (((0 : Dev Cert.ReferenceIdeal.nD).tc : Thread Cert.ReferenceIdeal.nD Cert.ReferenceIdeal.τ).loc Cert.ReferenceIdeal.main_arg0) : Vec Ideal ⟨2, ![256, 1024]⟩ .f32) (ix2 i e)) :=
    fun i e => congrFun (h 0).1 (ix2 i e) ▸ real_x _ _ _ _ _ (hp 0).1 i e
  have hK : ∀ (j : Fin 4096) (a d : Fin 128), Spec.IsReal
      ((m' (((0 : Dev Cert.ReferenceIdeal.nD).tc : Thread Cert.ReferenceIdeal.nD Cert.ReferenceIdeal.τ).loc Cert.ReferenceIdeal.main_arg2) : Vec Ideal ⟨4, ![1, 4096, 128, 128]⟩ .f32) (ix4 0 j a d)) :=
    fun j a d => congrFun (h 0).2.2.1 (ix4 0 j a d) ▸ real_k _ _ _ _ _ (hp 0).2.2 j a d
  have hW := whole_real (W := m' (((0 : Dev Cert.ReferenceIdeal.nD).tc : Thread Cert.ReferenceIdeal.nD Cert.ReferenceIdeal.τ).loc Cert.ReferenceIdeal.main_arg1)) fun c e n =>
    ((congrFun (h c).2.1 (ix2 e n)).trans (cols_apply _ c e n)) ▸ real_wq _ _ _ _ _ (hp c).2.1 e n
  have hr := Cert.ReferenceIdeal.Value.run (F := Ideal) m' g'
  refine ⟨Cert.ReferenceIdeal.Value.res_out0 m' 0, ?_, (θ_run _ _ _).mono (fun r h' => h' 0) hr⟩
  have e : Cert.KernelIdeal.Attn.foC (Cert.KernelIdeal.Attn.insM m) = Cert.ReferenceIdeal.Value.res_out0 m' 0 := by
    rw [Cert.ReferenceIdeal.Attn.res_eq]
    funext j
    obtain ⟨i, n, rfl⟩ : ∃ (i : Fin 256) (n : Fin 1024), j = ix2 i n := ⟨j 0, j 1, eq_ix2 j⟩
    exact (Cert.KernelIdeal.Attn.fo_eq S hX hW hK i n).trans (Cert.ReferenceIdeal.Attn.out_apply _ _ _ _ _ i n).symm
  exact (θ_run _ _ _).mono (fun r q c => ⟨((q.1 c).1 (3 : Fin 4)).trans ((out_eq m c).trans e), Cert.KernelIdeal.Attn.frame_at m c q.1⟩)
    (Cert.KernelIdeal.Attn.run_main (F := Ideal) m g)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.BitsLaunch
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel as written ends with its arguments as they were and every counter at zero: `Cert.Kernel.Attn.run_main`. -/
theorem frame_kernel : @Cert.quiescent_Kernel Cert.Kernel.Gen.facts := fun m ρ _ =>
  (θ_run _ _ _).mono (fun _ h => ⟨fun c => Cert.Kernel.Attn.frame_at m c h.1, h.2⟩) (Cert.Kernel.Attn.run_main (F := Bits) m ρ)

/-- The same of the kernel with its mask's literal read as minus infinity. -/
theorem frame_ideal : @Cert.quiescent_KernelIdeal Cert.KernelIdeal.Gen.facts := fun m ρ _ =>
  (θ_run _ _ _).mono (fun _ h => ⟨fun c => Cert.KernelIdeal.Attn.frame_at m c h.1, h.2⟩) (Cert.KernelIdeal.Attn.run_main (F := Ideal) m ρ)

/-- The reference keeps its arguments, and has no counter. -/
theorem frame_reference : @Cert.quiescent_ReferenceIdeal Cert.ReferenceIdeal.Gen.facts := fun m ρ _ =>
  (θ_run _ _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xCE6E6B28#32 ⊥ rfl

theorem claim : Cert.Claim :=
  ⟨Cert.Kernel.Gen.facts, Cert.KernelIdeal.Gen.facts, Cert.ReferenceIdeal.Gen.facts, finite_facts, finite_facts', frame_kernel, frame_ideal,
    fun m ρ _ => frame_ideal m ρ trivial, frame_reference, fun m ρ _ => frame_reference m ρ trivial, preserves, agree⟩

end Cert.Proof

end
